-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "exit" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v4) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v37) = v3 c
          ∧ r.2.mem ((c.tc : Thread Cert.Reference4Ideal.nD Cert.Reference4Ideal.τ).loc Cert.Reference4Ideal.main_v42) = v4 c
          ∧ r.2.mem ((c.tc : Thread Cert.Reference4Ideal.nD Cert.Reference4Ideal.τ).loc Cert.Reference4Ideal.main_v43) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v45_0)) (v1 : (c : Dev Cert.Kernel6Ideal.nD) → Buf (Elt Ideal) ((c.tc : Thread Cert.Kernel6Ideal.nD Cert.Kernel6Ideal.τ).loc Cert.Kernel6Ideal.main_v45_1)) (v2 : (c : Dev Cert.Kernel6Ideal.nD) → Buf (Elt Ideal) ((c.tc : Thread Cert.Kernel6Ideal.nD Cert.Kernel6Ideal.τ).loc Cert.Kernel6Ideal.main_v45_2)) (v3 : (c : Dev Cert.Kernel6Ideal.nD) → Buf (Elt Ideal) ((c.tc : Thread Cert.Kernel6Ideal.nD Cert.Kernel6Ideal.τ).loc Cert.Kernel6Ideal.main_v45_3)) (v4 : (c : Dev Cert.Kernel6Ideal.nD) → Buf (Elt Ideal) ((c.tc : Thread Cert.Kernel6Ideal.nD Cert.Kernel6Ideal.τ).loc Cert.Kernel6Ideal.main_v45_4)) (v5 : (c : Dev Cert.Kernel6Ideal.nD) → Buf (Elt Ideal) ((c.tc : Thread Cert.Kernel6Ideal.nD Cert.Kernel6Ideal.τ).loc Cert.Kernel6Ideal.main_v45_5)) (v6 : (c : Dev Cert.Kernel6Ideal.nD) → Buf (Elt Ideal) ((c.tc : Thread Cert.Kernel6Ideal.nD Cert.Kernel6Ideal.τ).loc Cert.Kernel6Ideal.main_v45_6)) (v7 : (c : Dev Cert.Kernel6Ideal.nD) → Buf (Elt Ideal) ((c.tc : Thread Cert.Kernel6Ideal.nD Cert.Kernel6Ideal.τ).loc Cert.Kernel6Ideal.main_v45_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45_0) = v0 c
          ∧ r.2.mem ((c.tc : Thread Cert.Kernel6Ideal.nD Cert.Kernel6Ideal.τ).loc Cert.Kernel6Ideal.main_v45_1) = v1 c
          ∧ r.2.mem ((c.tc : Thread Cert.Kernel6Ideal.nD Cert.Kernel6Ideal.τ).loc Cert.Kernel6Ideal.main_v45_2) = v2 c
          ∧ r.2.mem ((c.tc : Thread Cert.Kernel6Ideal.nD Cert.Kernel6Ideal.τ).loc Cert.Kernel6Ideal.main_v45_3) = v3 c
          ∧ r.2.mem ((c.tc : Thread Cert.Kernel6Ideal.nD Cert.Kernel6Ideal.τ).loc Cert.Kernel6Ideal.main_v45_4) = v4 c
          ∧ r.2.mem ((c.tc : Thread Cert.Kernel6Ideal.nD Cert.Kernel6Ideal.τ).loc Cert.Kernel6Ideal.main_v45_5) = v5 c
          ∧ r.2.mem ((c.tc : Thread Cert.Kernel6Ideal.nD Cert.Kernel6Ideal.τ).loc Cert.Kernel6Ideal.main_v45_6) = v6 c
          ∧ r.2.mem ((c.tc : Thread Cert.Kernel6Ideal.nD Cert.Kernel6Ideal.τ).loc Cert.Kernel6Ideal.main_v45_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v67) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_v69) = v3 c
          ∧ r.2.mem ((c.tc : Thread Cert.Reference6Ideal.nD Cert.Reference6Ideal.τ).loc Cert.Reference6Ideal.main_v70) = v4 c
          ∧ r.2.mem ((c.tc : Thread Cert.Reference6Ideal.nD Cert.Reference6Ideal.τ).loc Cert.Reference6Ideal.main_v76) = v5 c
          ∧ r.2.mem ((c.tc : Thread Cert.Reference6Ideal.nD Cert.Reference6Ideal.τ).loc Cert.Reference6Ideal.main_v82) = v6 c
          ∧ r.2.mem ((c.tc : Thread Cert.Reference6Ideal.nD Cert.Reference6Ideal.τ).loc Cert.Reference6Ideal.main_v88) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v6) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_v25) = v3 c
          ∧ r.2.mem ((c.tc : Thread Cert.Reference8Ideal.nD Cert.Reference8Ideal.τ).loc Cert.Reference8Ideal.main_v26) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v45_0)) (v1 : (c : Dev Cert.Kernel9Ideal.nD) → Buf (Elt Ideal) ((c.tc : Thread Cert.Kernel9Ideal.nD Cert.Kernel9Ideal.τ).loc Cert.Kernel9Ideal.main_v45_1)) (v2 : (c : Dev Cert.Kernel9Ideal.nD) → Buf (Elt Ideal) ((c.tc : Thread Cert.Kernel9Ideal.nD Cert.Kernel9Ideal.τ).loc Cert.Kernel9Ideal.main_v45_2)) (v3 : (c : Dev Cert.Kernel9Ideal.nD) → Buf (Elt Ideal) ((c.tc : Thread Cert.Kernel9Ideal.nD Cert.Kernel9Ideal.τ).loc Cert.Kernel9Ideal.main_v45_3)) (v4 : (c : Dev Cert.Kernel9Ideal.nD) → Buf (Elt Ideal) ((c.tc : Thread Cert.Kernel9Ideal.nD Cert.Kernel9Ideal.τ).loc Cert.Kernel9Ideal.main_v45_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v45_0) = v0 c
          ∧ r.2.mem ((c.tc : Thread Cert.Kernel9Ideal.nD Cert.Kernel9Ideal.τ).loc Cert.Kernel9Ideal.main_v45_1) = v1 c
          ∧ r.2.mem ((c.tc : Thread Cert.Kernel9Ideal.nD Cert.Kernel9Ideal.τ).loc Cert.Kernel9Ideal.main_v45_2) = v2 c
          ∧ r.2.mem ((c.tc : Thread Cert.Kernel9Ideal.nD Cert.Kernel9Ideal.τ).loc Cert.Kernel9Ideal.main_v45_3) = v3 c
          ∧ r.2.mem ((c.tc : Thread Cert.Kernel9Ideal.nD Cert.Kernel9Ideal.τ).loc Cert.Kernel9Ideal.main_v45_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v53) = v1 c
          ∧ r.2.mem ((c.tc : Thread Cert.Reference9Ideal.nD Cert.Reference9Ideal.τ).loc Cert.Reference9Ideal.main_v54) = v2 c
          ∧ r.2.mem ((c.tc : Thread Cert.Reference9Ideal.nD Cert.Reference9Ideal.τ).loc Cert.Reference9Ideal.main_v55) = v3 c
          ∧ r.2.mem ((c.tc : Thread Cert.Reference9Ideal.nD Cert.Reference9Ideal.τ).loc Cert.Reference9Ideal.main_v58) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v110) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite6 : Cert.Pre_finite6.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
-- ==== Pre_finite6.lean ====
abbrev S17408x1024 : Shape := ⟨2, ![17408, 1024]⟩
abbrev S1024 : Shape := ⟨1, ![1024]⟩
abbrev S1024x2120 : Shape := ⟨2, ![1024, 2120]⟩
abbrev S64 : Shape := ⟨1, ![64]⟩
abbrev S2x4x256x4096 : Shape := ⟨4, ![2, 4, 256, 4096]⟩
abbrev S2x4x64x4096 : Shape := ⟨4, ![2, 4, 64, 4096]⟩
abbrev S_ : Shape := ⟨0, ![]⟩
abbrev S1024x1280 : Shape := ⟨2, ![1024, 1280]⟩

class Facts : Prop where
  bcast_S_S1024 : S_.BroadcastsInDim S1024 (![] : Fin 0 → Fin S1024.rank)
  reducesTo_S1024_S_d0 : S1024.ReducesTo [0] S_
  h_S_ : 0 < S_.numel
  slices_S1024x2120_S1024x1280_0_0 : S1024x2120.Slices ![0, 0] S1024x1280
  bcast_S_S1024x1280 : S_.BroadcastsInDim S1024x1280 (![] : Fin 0 → Fin S1024x1280.rank)
  reducesTo_S1024x1280_S_d0_1 : S1024x1280.ReducesTo [0, 1] S_

variable [Facts]

def fn {F : FTy → Type} [FloatOps F] (main_arg0 : FVec F S17408x1024 .f32) (main_arg1 : FVec F S1024 .f32) (main_arg2 : FVec F S1024x2120 .f32) (main_arg3 : FVec F S64 .f32) (main_arg4 : FVec F S64 .f32) (main_arg5 : FVec F S2x4x256x4096 .f32) (main_arg6 : FVec F S2x4x256x4096 .f32) (main_arg7 : FVec F S2x4x64x4096 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1280 .f32 := (extractStridedSlice S1024x1280 ![0, 0] · slices_S1024x2120_S1024x1280_0_0) main_arg2
  let main_v5 : FVec F S1024x1280 .f32 := Host.absf main_v4
  let main_cst_0 : FVec F S_ .f32 := constant S_ .f32 0x7F800000#32
  let main_v6 : FVec F S1024x1280 .f32 := broadcastInDim S1024x1280 ![] bcast_S_S1024x1280 main_cst_0
  let main_v7 : IVec S1024x1280 1 := cmpf .olt main_v5 main_v6
  let main_c_1 : IVec S_ 1 := constantI S_ 1 1#1
  let main_v8 : IVec S_ 1 := (fun x v => Host.reduce IntOp.andi x v reducesTo_S1024x1280_S_d0_1 h_S_) main_v7 main_c_1
  let main_v9 : IVec S_ 1 := andi main_v3 main_v8
  main_v9
-- ==== Pre_finite9.lean ====
abbrev S17408x1024 : Shape := ⟨2, ![17408, 1024]⟩
abbrev S1024 : Shape := ⟨1, ![1024]⟩
abbrev S1024x2120 : Shape := ⟨2, ![1024, 2120]⟩
abbrev S64 : Shape := ⟨1, ![64]⟩
abbrev S_ : Shape := ⟨0, ![]⟩
abbrev S1024x1280 : Shape := ⟨2, ![1024, 1280]⟩

class Facts : Prop where
  bcast_S_S1024 : S_.BroadcastsInDim S1024 (![] : Fin 0 → Fin S1024.rank)
  reducesTo_S1024_S_d0 : S1024.ReducesTo [0] S_
  h_S_ : 0 < S_.numel
  slices_S1024x2120_S1024x1280_0_0 : S1024x2120.Slices ![0, 0] S1024x1280
  bcast_S_S1024x1280 : S_.BroadcastsInDim S1024x1280 (![] : Fin 0 → Fin S1024x1280.rank)
  reducesTo_S1024x1280_S_d0_1 : S1024x1280.ReducesTo [0, 1] S_

variable [Facts]

def fn {F : FTy → Type} [FloatOps F] (main_arg0 : FVec F S17408x1024 .f32) (main_arg1 : FVec F S1024 .f32) (main_arg2 : FVec F S1024x2120 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1280 .f32 := (extractStridedSlice S1024x1280 ![0, 0] · slices_S1024x2120_S1024x1280_0_0) main_arg2
  let main_v5 : FVec F S1024x1280 .f32 := Host.absf main_v4
  let main_cst_0 : FVec F S_ .f32 := constant S_ .f32 0x7F800000#32
  let main_v6 : FVec F S1024x1280 .f32 := broadcastInDim S1024x1280 ![] bcast_S_S1024x1280 main_cst_0
  let main_v7 : IVec S1024x1280 1 := cmpf .olt main_v5 main_v6
  let main_c_1 : IVec S_ 1 := constantI S_ 1 1#1
  let main_v8 : IVec S_ 1 := (fun x v => Host.reduce IntOp.andi x v reducesTo_S1024x1280_S_d0_1 h_S_) main_v7 main_c_1
  let main_v9 : IVec S_ 1 := andi main_v3 main_v8
  main_v9
-- ==== Kernel.lean ====
abbrev S4x512x4096 : Shape := ⟨3, ![4, 512, 4096]⟩
abbrev S4x4096x512 : Shape := ⟨3, ![4, 4096, 512]⟩
abbrev S2x4x512x4096 : Shape := ⟨4, ![2, 4, 512, 4096]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S1x512x256 : Shape := ⟨3, ![1, 512, 256]⟩
abbrev S1x4096x512 : Shape := ⟨3, ![1, 4096, 512]⟩
abbrev S1x1x512x4096 : Shape := ⟨4, ![1, 1, 512, 4096]⟩
abbrev S1x256x512 : Shape := ⟨3, ![1, 256, 512]⟩
abbrev S64x256 : Shape := ⟨2, ![64, 256]⟩
abbrev S1x256x64 : Shape := ⟨3, ![1, 256, 64]⟩
abbrev S256x64 : Shape := ⟨2, ![256, 64]⟩
abbrev S1x64x256 : Shape := ⟨3, ![1, 64, 256]⟩
abbrev S1x1x64x256 : Shape := ⟨4, ![1, 1, 64, 256]⟩
abbrev S1x1x256 : Shape := ⟨3, ![1, 1, 256]⟩
abbrev S1 : Shape := ⟨1, ![1]⟩
abbrev S1x1x1 : Shape := ⟨3, ![1, 1, 1]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 16
  | .vmem => 9
  | .smem => 0
  | _ => 0

abbrev bufTy : (tb : Table) → Fin (tcTables nBuf tb) → BufTy
  | .hbm, ⟨0, _⟩ => ⟨S4x512x4096, .bf16⟩
  | .hbm, ⟨1, _⟩ => ⟨S4x4096x512, .bf16⟩
  | .hbm, ⟨2, _⟩ => ⟨S2x4x512x4096, .f32⟩
  | .hbm, ⟨3, _⟩ => ⟨S256, .i32⟩
  | .hbm, ⟨4, _⟩ => ⟨S1x256, .i32⟩
  | .hbm, ⟨5, _⟩ => ⟨S256x1, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .bf16⟩
  | .hbm, ⟨15, _⟩ => ⟨S4x4096x512, .f32⟩
  | .local _ .vmem, ⟨0, _⟩ => ⟨S1x512x256, .bf16⟩
  | .local _ .vmem, ⟨1, _⟩ => ⟨S1x512x256, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1x512x4096, .f32⟩
  | .local _ .vmem, ⟨5, _⟩ => ⟨S1x1x512x4096, .f32⟩
  | .local _ .vmem, ⟨6, _⟩ => ⟨S256x256, .bf16⟩
  | .local _ .vmem, ⟨7, _⟩ => ⟨S1x256x512, .f32⟩
  | .local _ .vmem, ⟨8, _⟩ => ⟨S1x256x512, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (arg7 : BitVec 32) : BitVec 32 :=
  let c256_i32_29 : BitVec 32 := 256#32
  let v49 : BitVec 32 := Scalar.muli arg7 c256_i32_29
  v49

def k0_off1 (arg7 : BitVec 32) : Fin 3 → Nat :=
  let c0_30 : Index := 0#32
  let c256_i32_29 : BitVec 32 := 256#32
  let v49 : BitVec 32 := Scalar.muli arg7 c256_i32_29
  let v50 : BitVec 32 := v49
  let v54 : Index := Scalar.indexCast v50
  let c0_31 : Index := 0#32
  ![0, v54.toNat, 0]
def k0_off2 (arg7 : BitVec 32) : Fin 4 → Nat :=
  let c0_44 : Index := 0#32
  let c0_45 : Index := 0#32
  let c0_46 : Index := 0#32
  let c256_i32_29 : BitVec 32 := 256#32
  let v49 : BitVec 32 := Scalar.muli arg7 c256_i32_29
  let v50 : BitVec 32 := v49
  let v88 : Index := Scalar.indexCast v50
  ![0, 0, 0, v88.toNat]
def k0_off3 (arg7 : BitVec 32) : Fin 3 → Nat :=
  let c0_49 : Index := 0#32
  let c256_i32_29 : BitVec 32 := 256#32
  let v49 : BitVec 32 := Scalar.muli arg7 c256_i32_29
  let v50 : BitVec 32 := v49
  let v98 : Index := Scalar.indexCast v50
  let c64 : Index := 64#32
  ![0, v98.toNat, 64]
def k0_off4 (arg7 : BitVec 32) : Fin 4 → Nat :=
  let c0_62 : Index := 0#32
  let c0_63 : Index := 0#32
  let c64_64 : Index := 64#32
  let c256_i32_29 : BitVec 32 := 256#32
  let v49 : BitVec 32 := Scalar.muli arg7 c256_i32_29
  let v50 : BitVec 32 := v49
  let v132 : Index := Scalar.indexCast v50
  ![0, 0, 64, v132.toNat]

def k0_chk1 (arg7 : BitVec 32) : Prop :=
  (256 ∣ (k0_mult1 arg7).toNat) ∧
  (∀ a, (k0_off1 arg7) a + S1x256x64.size a ≤ S1x4096x512.size a) ∧
  (∀ a, (k0_off2 arg7) a + S1x1x64x256.size a ≤ S1x1x512x4096.size a) ∧
  (∀ a, (k0_off3 arg7) a + S1x256x64.size a ≤ S1x4096x512.size a) ∧
  (∀ a, (k0_off4 arg7) a + S1x1x64x256.size a ≤ S1x1x512x4096.size a)
theorem k0_mult1_dvd : ∀ (arg7 : BitVec 32) (k0_hw1 : k0_chk1 arg7), 256 ∣ (k0_mult1 arg7).toNat := fun arg7 k0_hw1 => k0_hw1.1
theorem k0_off1_inb : ∀ (arg7 : BitVec 32) (k0_hw1 : k0_chk1 arg7), ∀ a, (k0_off1 arg7) a + S1x256x64.size a ≤ S1x4096x512.size a := fun arg7 k0_hw1 => k0_hw1.2.1
theorem k0_off2_inb : ∀ (arg7 : BitVec 32) (k0_hw1 : k0_chk1 arg7), ∀ a, (k0_off2 arg7) a + S1x1x64x256.size a ≤ S1x1x512x4096.size a := fun arg7 k0_hw1 => k0_hw1.2.2.1
theorem k0_off3_inb : ∀ (arg7 : BitVec 32) (k0_hw1 : k0_chk1 arg7), ∀ a, (k0_off3 arg7) a + S1x256x64.size a ≤ S1x4096x512.size a := fun arg7 k0_hw1 => k0_hw1.2.2.2.1
theorem k0_off4_inb : ∀ (arg7 : BitVec 32) (k0_hw1 : k0_chk1 arg7), ∀ a, (k0_off4 arg7) a + S1x1x64x256.size a ≤ S1x1x512x4096.size a := fun arg7 k0_hw1 => k0_hw1.2.2.2.2

def k0_mult2 (arg7 : BitVec 32) : BitVec 32 :=
  let c256_i32_29 : BitVec 32 := 256#32
  let v49 : BitVec 32 := Scalar.muli arg7 c256_i32_29
  v49

def k0_off5 (arg7 : BitVec 32) : Fin 3 → Nat :=
  let c0_30 : Index := 0#32
  let c256_i32_29 : BitVec 32 := 256#32
  let v49 : BitVec 32 := Scalar.muli arg7 c256_i32_29
  let v50 : BitVec 32 := v49
  let v54 : Index := Scalar.indexCast v50
  let c128_31 : Index := 128#32
  ![0, v54.toNat, 128]
def k0_off6 (arg7 : BitVec 32) : Fin 4 → Nat :=
  let c0_44 : Index := 0#32
  let c0_45 : Index := 0#32
  let c128_46 : Index := 128#32
  let c256_i32_29 : BitVec 32 := 256#32
  let v49 : BitVec 32 := Scalar.muli arg7 c256_i32_29
  let v50 : BitVec 32 := v49
  let v88 : Index := Scalar.indexCast v50
  ![0, 0, 128, v88.toNat]
def k0_off7 (arg7 : BitVec 32) : Fin 3 → Nat :=
  let c0_49 : Index := 0#32
  let c256_i32_29 : BitVec 32 := 256#32
  let v49 : BitVec 32 := Scalar.muli arg7 c256_i32_29
  let v50 : BitVec 32 := v49
  let v98 : Index := Scalar.indexCast v50
  let c192 : Index := 192#32
  ![0, v98.toNat, 192]
def k0_off8 (arg7 : BitVec 32) : Fin 4 → Nat :=
  let c0_62 : Index := 0#32
  let c0_63 : Index := 0#32
  let c192_64 : Index := 192#32
  let c256_i32_29 : BitVec 32 := 256#32
  let v49 : BitVec 32 := Scalar.muli arg7 c256_i32_29
  let v50 : BitVec 32 := v49
  let v132 : Index := Scalar.indexCast v50
  ![0, 0, 192, v132.toNat]

def k0_chk2 (arg7 : BitVec 32) : Prop :=
  (256 ∣ (k0_mult2 arg7).toNat) ∧
  (∀ a, (k0_off5 arg7) a + S1x256x64.size a ≤ S1x4096x512.size a) ∧
  (∀ a, (k0_off6 arg7) a + S1x1x64x256.size a ≤ S1x1x512x4096.size a) ∧
  (∀ a, (k0_off7 arg7) a + S1x256x64.size a ≤ S1x4096x512.size a) ∧
  (∀ a, (k0_off8 arg7) a + S1x1x64x256.size a ≤ S1x1x512x4096.size a)
theorem k0_mult2_dvd : ∀ (arg7 : BitVec 32) (k0_hw2 : k0_chk2 arg7), 256 ∣ (k0_mult2 arg7).toNat := fun arg7 k0_hw2 => k0_hw2.1
theorem k0_off5_inb : ∀ (arg7 : BitVec 32) (k0_hw2 : k0_chk2 arg7), ∀ a, (k0_off5 arg7) a + S1x256x64.size a ≤ S1x4096x512.size a := fun arg7 k0_hw2 => k0_hw2.2.1
theorem k0_off6_inb : ∀ (arg7 : BitVec 32) (k0_hw2 : k0_chk2 arg7), ∀ a, (k0_off6 arg7) a + S1x1x64x256.size a ≤ S1x1x512x4096.size a := fun arg7 k0_hw2 => k0_hw2.2.2.1
theorem k0_off7_inb : ∀ (arg7 : BitVec 32) (k0_hw2 : k0_chk2 arg7), ∀ a, (k0_off7 arg7) a + S1x256x64.size a ≤ S1x4096x512.size a := fun arg7 k0_hw2 => k0_hw2.2.2.2.1
theorem k0_off8_inb : ∀ (arg7 : BitVec 32) (k0_hw2 : k0_chk2 arg7), ∀ a, (k0_off8 arg7) a + S1x1x64x256.size a ≤ S1x1x512x4096.size a := fun arg7 k0_hw2 => k0_hw2.2.2.2.2

def k0_mult3 (arg7 : BitVec 32) : BitVec 32 :=
  let c256_i32_29 : BitVec 32 := 256#32
  let v49 : BitVec 32 := Scalar.muli arg7 c256_i32_29
  v49

def k0_off9 (arg7 : BitVec 32) : Fin 3 → Nat :=
  let c0_30 : Index := 0#32
  let c256_i32_29 : BitVec 32 := 256#32
  let v49 : BitVec 32 := Scalar.muli arg7 c256_i32_29
  let v50 : BitVec 32 := v49
  let v54 : Index := Scalar.indexCast v50
  let c256_31 : Index := 256#32
  ![0, v54.toNat, 256]
def k0_off10 (arg7 : BitVec 32) : Fin 4 → Nat :=
  let c0_44 : Index := 0#32
  let c0_45 : Index := 0#32
  let c256_46 : Index := 256#32
  let c256_i32_29 : BitVec 32 := 256#32
  let v49 : BitVec 32 := Scalar.muli arg7 c256_i32_29
  let v50 : BitVec 32 := v49
  let v88 : Index := Scalar.indexCast v50
  ![0, 0, 256, v88.toNat]
def k0_off11 (arg7 : BitVec 32) : Fin 3 → Nat :=
  let c0_49 : Index := 0#32
  let c256_i32_29 : BitVec 32 := 256#32
  let v49 : BitVec 32 := Scalar.muli arg7 c256_i32_29
  let v50 : BitVec 32 := v49
  let v98 : Index := Scalar.indexCast v50
  let c320 : Index := 320#32
  ![0, v98.toNat, 320]
def k0_off12 (arg7 : BitVec 32) : Fin 4 → Nat :=
  let c0_62 : Index := 0#32
  let c0_63 : Index := 0#32
  let c320_64 : Index := 320#32
  let c256_i32_29 : BitVec 32 := 256#32
  let v49 : BitVec 32 := Scalar.muli arg7 c256_i32_29
  let v50 : BitVec 32 := v49
  let v132 : Index := Scalar.indexCast v50
  ![0, 0, 320, v132.toNat]

def k0_chk3 (arg7 : BitVec 32) : Prop :=
  (256 ∣ (k0_mult3 arg7).toNat) ∧
  (∀ a, (k0_off9 arg7) a + S1x256x64.size a ≤ S1x4096x512.size a) ∧
  (∀ a, (k0_off10 arg7) a + S1x1x64x256.size a ≤ S1x1x512x4096.size a) ∧
  (∀ a, (k0_off11 arg7) a + S1x256x64.size a ≤ S1x4096x512.size a) ∧
  (∀ a, (k0_off12 arg7) a + S1x1x64x256.size a ≤ S1x1x512x4096.size a)
theorem k0_mult3_dvd : ∀ (arg7 : BitVec 32) (k0_hw3 : k0_chk3 arg7), 256 ∣ (k0_mult3 arg7).toNat := fun arg7 k0_hw3 => k0_hw3.1
theorem k0_off9_inb : ∀ (arg7 : BitVec 32) (k0_hw3 : k0_chk3 arg7), ∀ a, (k0_off9 arg7) a + S1x256x64.size a ≤ S1x4096x512.size a := fun arg7 k0_hw3 => k0_hw3.2.1
theorem k0_off10_inb : ∀ (arg7 : BitVec 32) (k0_hw3 : k0_chk3 arg7), ∀ a, (k0_off10 arg7) a + S1x1x64x256.size a ≤ S1x1x512x4096.size a := fun arg7 k0_hw3 => k0_hw3.2.2.1
theorem k0_off11_inb : ∀ (arg7 : BitVec 32) (k0_hw3 : k0_chk3 arg7), ∀ a, (k0_off11 arg7) a + S1x256x64.size a ≤ S1x4096x512.size a := fun arg7 k0_hw3 => k0_hw3.2.2.2.1
theorem k0_off12_inb : ∀ (arg7 : BitVec 32) (k0_hw3 : k0_chk3 arg7), ∀ a, (k0_off12 arg7) a + S1x1x64x256.size a ≤ S1x1x512x4096.size a := fun arg7 k0_hw3 => k0_hw3.2.2.2.2

def k0_mult4 (arg7 : BitVec 32) : BitVec 32 :=
  let c256_i32_29 : BitVec 32 := 256#32
  let v49 : BitVec 32 := Scalar.muli arg7 c256_i32_29
  v49

def k0_off13 (arg7 : BitVec 32) : Fin 3 → Nat :=
  let c0_30 : Index := 0#32
  let c256_i32_29 : BitVec 32 := 256#32
  let v49 : BitVec 32 := Scalar.muli arg7 c256_i32_29
  let v50 : BitVec 32 := v49
  let v54 : Index := Scalar.indexCast v50
  let c384_31 : Index := 384#32
  ![0, v54.toNat, 384]
def k0_off14 (arg7 : BitVec 32) : Fin 4 → Nat :=
  let c0_44 : Index := 0#32
  let c0_45 : Index := 0#32
  let c384_46 : Index := 384#32
  let c256_i32_29 : BitVec 32 := 256#32
  let v49 : BitVec 32 := Scalar.muli arg7 c256_i32_29
  let v50 : BitVec 32 := v49
  let v88 : Index := Scalar.indexCast v50
  ![0, 0, 384, v88.toNat]
def k0_off15 (arg7 : BitVec 32) : Fin 3 → Nat :=
  let c0_49 : Index := 0#32
  let c256_i32_29 : BitVec 32 := 256#32
  let v49 : BitVec 32 := Scalar.muli arg7 c256_i32_29
  let v50 : BitVec 32 := v49
  let v98 : Index := Scalar.indexCast v50
  let c448 : Index := 448#32
  ![0, v98.toNat, 448]
def k0_off16 (arg7 : BitVec 32) : Fin 4 → Nat :=
  let c0_62 : Index := 0#32
  let c0_63 : Index := 0#32
  let c448_64 : Index := 448#32
  let c256_i32_29 : BitVec 32 := 256#32
  let v49 : BitVec 32 := Scalar.muli arg7 c256_i32_29
  let v50 : BitVec 32 := v49
  let v132 : Index := Scalar.indexCast v50
  ![0, 0, 448, v132.toNat]

def k0_chk4 (arg7 : BitVec 32) : Prop :=
  (256 ∣ (k0_mult4 arg7).toNat) ∧
  (∀ a, (k0_off13 arg7) a + S1x256x64.size a ≤ S1x4096x512.size a) ∧
  (∀ a, (k0_off14 arg7) a + S1x1x64x256.size a ≤ S1x1x512x4096.size a) ∧
  (∀ a, (k0_off15 arg7) a + S1x256x64.size a ≤ S1x4096x512.size a) ∧
  (∀ a, (k0_off16 arg7) a + S1x1x64x256.size a ≤ S1x1x512x4096.size a)
theorem k0_mult4_dvd : ∀ (arg7 : BitVec 32) (k0_hw4 : k0_chk4 arg7), 256 ∣ (k0_mult4 arg7).toNat := fun arg7 k0_hw4 => k0_hw4.1
theorem k0_off13_inb : ∀ (arg7 : BitVec 32) (k0_hw4 : k0_chk4 arg7), ∀ a, (k0_off13 arg7) a + S1x256x64.size a ≤ S1x4096x512.size a := fun arg7 k0_hw4 => k0_hw4.2.1
theorem k0_off14_inb : ∀ (arg7 : BitVec 32) (k0_hw4 : k0_chk4 arg7), ∀ a, (k0_off14 arg7) a + S1x1x64x256.size a ≤ S1x1x512x4096.size a := fun arg7 k0_hw4 => k0_hw4.2.2.1
theorem k0_off15_inb : ∀ (arg7 : BitVec 32) (k0_hw4 : k0_chk4 arg7), ∀ a, (k0_off15 arg7) a + S1x256x64.size a ≤ S1x4096x512.size a := fun arg7 k0_hw4 => k0_hw4.2.2.2.1
theorem k0_off16_inb : ∀ (arg7 : BitVec 32) (k0_hw4 : k0_chk4 arg7), ∀ a, (k0_off16 arg7) a + S1x1x64x256.size a ≤ S1x1x512x4096.size a := fun arg7 k0_hw4 => k0_hw4.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "exit" => some ⊥
  | _ => none
-- ==== ReferenceIdeal.lean ====
abbrev S4x512x4096 : Shape := ⟨3, ![4, 512, 4096]⟩
abbrev S4x4096x512 : Shape := ⟨3, ![4, 4096, 512]⟩
abbrev S2x4x512x4096 : Shape := ⟨4, ![2, 4, 512, 4096]⟩
abbrev S4x8x64x4096 : Shape := ⟨4, ![4, 8, 64, 4096]⟩
abbrev S4x4096x8x64 : Shape := ⟨4, ![4, 4096, 8, 64]⟩
abbrev S1x4x512x4096 : Shape := ⟨4, ![1, 4, 512, 4096]⟩
abbrev S4096 : Shape := ⟨1, ![4096]⟩
abbrev S4x8x4096x4096 : Shape := ⟨4, ![4, 8, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S4x4096x512, .bf16⟩
  | .hbm, ⟨2, _⟩ => ⟨S2x4x512x4096, .f32⟩
  | .hbm, ⟨3, _⟩ => ⟨S4x512x4096, .f32⟩
  | .hbm, ⟨4, _⟩ => ⟨S4x8x64x4096, .f32⟩
  | .hbm, ⟨5, _⟩ => ⟨S4x4096x512, .f32⟩
  | .hbm, ⟨6, _⟩ => ⟨S4x4096x8x64, .f32⟩
  | .hbm, ⟨7, _⟩ => ⟨S1x4x512x4096, .f32⟩
  | .hbm, ⟨8, _⟩ => ⟨S4x512x4096, .f32⟩
  | .hbm, ⟨9, _⟩ => ⟨S4x8x64x4096, .f32⟩
  | .hbm, ⟨10, _⟩ => ⟨S4096, .i32⟩
  | .hbm, ⟨11, _⟩ => ⟨S4x8x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x1x4096x4096, .i1⟩
  | .hbm, ⟨18, _⟩ => ⟨S4x8x4096x4096, .f32⟩
  | .hbm, ⟨19, _⟩ => ⟨S4x8x4096x4096, .f32⟩
  | .hbm, ⟨20, _⟩ => ⟨S_, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .i1⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S_, .f32⟩
  | .hbm, ⟨36, _⟩ => ⟨S_, .f32⟩
  | .hbm, ⟨37, _⟩ => ⟨S4x8x4096x4096, .i1⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S_, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S_, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .i1⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S_, .f32⟩
  | .hbm, ⟨63, _⟩ => ⟨S_, .f32⟩
  | .hbm, ⟨64, _⟩ => ⟨S4x8x4096x4096, .i1⟩
  | .hbm, ⟨65, _⟩ => ⟨S4x8x4096x4096, .f32⟩
  | .hbm, ⟨66, _⟩ => ⟨S4x8x4096x4096, .f32⟩
  | .hbm, ⟨67, _⟩ => ⟨S4x8x64x4096, .f32⟩
  | .hbm, ⟨68, _⟩ => ⟨S4x4096x8x64, .f32⟩
  | .hbm, ⟨69, _⟩ => ⟨S4x4096x512, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Kernel2.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | .hbm, ⟨22, _⟩ => ⟨S1024x2816, .f32⟩
  | .hbm, ⟨23, _⟩ => ⟨S1024x2816, .f32⟩
  | .hbm, ⟨24, _⟩ => ⟨S1024x2816, .f32⟩
  | .hbm, ⟨25, _⟩ => ⟨S_, .f32⟩
  | .hbm, ⟨26, _⟩ => ⟨S1024x2816, .f32⟩
  | .hbm, ⟨27, _⟩ => ⟨S1024x2816, .f32⟩
  | .hbm, ⟨28, _⟩ => ⟨S_, .f32⟩
  | .hbm, ⟨29, _⟩ => ⟨S1024x2816, .f32⟩
  | .hbm, ⟨30, _⟩ => ⟨S1024x2816, .f32⟩
  | .hbm, ⟨31, _⟩ => ⟨S1024x2816, .f32⟩
  | .hbm, ⟨32, _⟩ => ⟨S1024x2816, .f32⟩
  | .hbm, ⟨33, _⟩ => ⟨S1024x2816, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S17408x1024 : Shape := ⟨2, ![17408, 1024]⟩
abbrev S1024 : Shape := ⟨1, ![1024]⟩
abbrev S1024x2048 : Shape := ⟨2, ![1024, 2048]⟩
abbrev S2x4x512x4096 : Shape := ⟨4, ![2, 4, 512, 4096]⟩
abbrev S1x1024 : Shape := ⟨2, ![1, 1024]⟩
abbrev S16384x512 : Shape := ⟨2, ![16384, 512]⟩
abbrev S4x512x4096 : Shape := ⟨3, ![4, 512, 4096]⟩
abbrev S4x4096x512 : Shape := ⟨3, ![4, 4096, 512]⟩
abbrev S512x1024 : Shape := ⟨2, ![512, 1024]⟩
abbrev S512x512 : Shape := ⟨2, ![512, 512]⟩
abbrev S1x512x512 : Shape := ⟨3, ![1, 512, 512]⟩
abbrev S1x1x512x512 : Shape := ⟨4, ![1, 1, 512, 512]⟩
abbrev S512 : Shape := ⟨1, ![512]⟩
abbrev S512x1 : Shape := ⟨2, ![512, 1]⟩
abbrev S512x2048 : Shape := ⟨2, ![512, 2048]⟩
abbrev S4x15x512 : Shape := ⟨3, ![4, 15, 512]⟩

abbrev nBuf : Space → Nat
  | .hbm => 14
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2048, .f32⟩
  | .hbm, ⟨3, _⟩ => ⟨S2x4x512x4096, .f32⟩
  | .hbm, ⟨4, _⟩ => ⟨S2x4x512x4096, .f32⟩
  | .hbm, ⟨5, _⟩ => ⟨S1x1024, .f32⟩
  | .hbm, ⟨6, _⟩ => ⟨S1024x2048, .bf16⟩
  | .hbm, ⟨7, _⟩ => ⟨S16384x512, .f32⟩
  | .hbm, ⟨8, _⟩ => ⟨S4x512x4096, .bf16⟩
  | .hbm, ⟨9, _⟩ => ⟨S4x4096x512, .bf16⟩
  | .hbm, ⟨10, _⟩ => ⟨S2x4x512x4096, .f32⟩
  | .hbm, ⟨11, _⟩ => ⟨S2x4x512x4096, .f32⟩
  | .hbm, ⟨12, _⟩ => ⟨S4x4096x512, .f32⟩
  | .hbm, ⟨13, _⟩ => ⟨S4x15x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .f32⟩
  | .local _ .vmem, ⟨5, _⟩ => ⟨S512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x1x512x512, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S17408x1024 : Shape := ⟨2, ![17408, 1024]⟩
abbrev S1024 : Shape := ⟨1, ![1024]⟩
abbrev S1024x2048 : Shape := ⟨2, ![1024, 2048]⟩
abbrev S2x4x512x4096 : Shape := ⟨4, ![2, 4, 512, 4096]⟩
abbrev S16384x1024 : Shape := ⟨2, ![16384, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x512 : Shape := ⟨3, ![4, 4096, 512]⟩
abbrev S4x4096x1536 : Shape := ⟨3, ![4, 4096, 1536]⟩
abbrev S4x4096x3x512 : Shape := ⟨4, ![4, 4096, 3, 512]⟩
abbrev S4x4096x1x512 : Shape := ⟨4, ![4, 4096, 1, 512]⟩
abbrev S4x512x4096 : Shape := ⟨3, ![4, 512, 4096]⟩
abbrev S16384x512 : Shape := ⟨2, ![16384, 512]⟩
abbrev S1x4x512x4096 : Shape := ⟨4, ![1, 4, 512, 4096]⟩
abbrev S4x15x512 : Shape := ⟨3, ![4, 15, 512]⟩

abbrev nBuf : Space → Nat
  | .hbm => 53
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2048, .f32⟩
  | .hbm, ⟨3, _⟩ => ⟨S2x4x512x4096, .f32⟩
  | .hbm, ⟨4, _⟩ => ⟨S2x4x512x4096, .f32⟩
  | .hbm, ⟨5, _⟩ => ⟨S16384x1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x2048, .f32⟩
  | .hbm, ⟨24, _⟩ => ⟨S4x4096x512, .f32⟩
  | .hbm, ⟨25, _⟩ => ⟨S4x4096x1536, .f32⟩
  | .hbm, ⟨26, _⟩ => ⟨S4x4096x3x512, .f32⟩
  | .hbm, ⟨27, _⟩ => ⟨S4x4096x1x512, .f32⟩
  | .hbm, ⟨28, _⟩ => ⟨S4x4096x512, .f32⟩
  | .hbm, ⟨29, _⟩ => ⟨S_, .f32⟩
  | .hbm, ⟨30, _⟩ => ⟨S4x4096x512, .f32⟩
  | .hbm, ⟨31, _⟩ => ⟨S4x4096x512, .f32⟩
  | .hbm, ⟨32, _⟩ => ⟨S4x4096x1x512, .f32⟩
  | .hbm, ⟨33, _⟩ => ⟨S4x4096x512, .f32⟩
  | .hbm, ⟨34, _⟩ => ⟨S4x4096x1x512, .f32⟩
  | .hbm, ⟨35, _⟩ => ⟨S4x4096x512, .f32⟩
  | .hbm, ⟨36, _⟩ => ⟨S4x512x4096, .f32⟩
  | .hbm, ⟨37, _⟩ => ⟨S4x512x4096, .f32⟩
  | .hbm, ⟨38, _⟩ => ⟨S16384x512, .f32⟩
  | .hbm, ⟨39, _⟩ => ⟨S4x512x4096, .f32⟩
  | .hbm, ⟨40, _⟩ => ⟨S4x512x4096, .bf16⟩
  | .hbm, ⟨41, _⟩ => ⟨S4x4096x512, .bf16⟩
  | .hbm, ⟨42, _⟩ => ⟨S1x4x512x4096, .f32⟩
  | .hbm, ⟨43, _⟩ => ⟨S4x512x4096, .f32⟩
  | .hbm, ⟨44, _⟩ => ⟨S1x4x512x4096, .f32⟩
  | .hbm, ⟨45, _⟩ => ⟨S1x4x512x4096, .f32⟩
  | .hbm, ⟨46, _⟩ => ⟨S2x4x512x4096, .f32⟩
  | .hbm, ⟨47, _⟩ => ⟨S1x4x512x4096, .f32⟩
  | .hbm, ⟨48, _⟩ => ⟨S4x512x4096, .f32⟩
  | .hbm, ⟨49, _⟩ => ⟨S1x4x512x4096, .f32⟩
  | .hbm, ⟨50, _⟩ => ⟨S1x4x512x4096, .f32⟩
  | .hbm, ⟨51, _⟩ => ⟨S2x4x512x4096, .f32⟩
  | .hbm, ⟨52, _⟩ => ⟨S4x15x512, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel5.lean ====
abbrev S17408x1024 : Shape := ⟨2, ![17408, 1024]⟩
abbrev S16384x512 : Shape := ⟨2, ![16384, 512]⟩
abbrev S1024x512 : Shape := ⟨2, ![1024, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S17408x1024, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S1024x512, .f32⟩
  | .hbm, ⟨5, _⟩ => ⟨S1024x1024, .f32⟩
  | .hbm, ⟨6, _⟩ => ⟨S1024x1024, .bf16⟩
  | .hbm, ⟨7, _⟩ => ⟨S17408x1024, .f32⟩
  | .hbm, ⟨8, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference5Ideal.lean ====
abbrev S17408x1024 : Shape := ⟨2, ![17408, 1024]⟩
abbrev S16384x512 : Shape := ⟨2, ![16384, 512]⟩
abbrev S1024x512 : Shape := ⟨2, ![1024, 512]⟩
abbrev S1024x1024 : Shape := ⟨2, ![1024, 1024]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S1024x512, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S17408x1024, .f32⟩
  | .hbm, ⟨11, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel6.lean ====
abbrev S17408x1024 : Shape := ⟨2, ![17408, 1024]⟩
abbrev S1024 : Shape := ⟨1, ![1024]⟩
abbrev S1024x2120 : Shape := ⟨2, ![1024, 2120]⟩
abbrev S64 : Shape := ⟨1, ![64]⟩
abbrev S2x4x256x4096 : Shape := ⟨4, ![2, 4, 256, 4096]⟩
abbrev S2x4x64x4096 : Shape := ⟨4, ![2, 4, 64, 4096]⟩
abbrev S_ : Shape := ⟨0, ![]⟩
abbrev S1024x2176 : Shape := ⟨2, ![1024, 2176]⟩
abbrev S1x64 : Shape := ⟨2, ![1, 64]⟩
abbrev S16x64 : Shape := ⟨2, ![16, 64]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S128 : Shape := ⟨1, ![128]⟩
abbrev S1024x1 : Shape := ⟨2, ![1024, 1]⟩
abbrev S1x128 : Shape := ⟨2, ![1, 128]⟩
abbrev S1024x128 : Shape := ⟨2, ![1024, 128]⟩
abbrev S128x1 : Shape := ⟨2, ![128, 1]⟩
abbrev S128x1024 : Shape := ⟨2, ![128, 1024]⟩
abbrev S4x16x64x4096 : Shape := ⟨4, ![4, 16, 64, 4096]⟩
abbrev S4x4096x256 : Shape := ⟨3, ![4, 4096, 256]⟩
abbrev S4x8x192x4096 : Shape := ⟨4, ![4, 8, 192, 4096]⟩
abbrev S4x8x4096 : Shape := ⟨3, ![4, 8, 4096]⟩
abbrev S4x4096x192 : Shape := ⟨3, ![4, 4096, 192]⟩
abbrev S512x1024 : Shape := ⟨2, ![512, 1024]⟩
abbrev S1x16x64x512 : Shape := ⟨4, ![1, 16, 64, 512]⟩
abbrev S1x512x256 : Shape := ⟨3, ![1, 512, 256]⟩
abbrev S1x8x192x512 : Shape := ⟨4, ![1, 8, 192, 512]⟩
abbrev S1x8x512 : Shape := ⟨3, ![1, 8, 512]⟩
abbrev S1x512x192 : Shape := ⟨3, ![1, 512, 192]⟩
abbrev S1x1x256x512 : Shape := ⟨4, ![1, 1, 256, 512]⟩
abbrev S1x1x64x512 : Shape := ⟨4, ![1, 1, 64, 512]⟩
abbrev S512 : Shape := ⟨1, ![512]⟩
abbrev S512x1 : Shape := ⟨2, ![512, 1]⟩
abbrev S512x2176 : Shape := ⟨2, ![512, 2176]⟩
abbrev S512x128 : Shape := ⟨2, ![512, 128]⟩
abbrev S512x256 : Shape := ⟨2, ![512, 256]⟩
abbrev S256x128 : Shape := ⟨2, ![256, 128]⟩
abbrev S128x256 : Shape := ⟨2, ![128, 256]⟩
abbrev S512x512 : Shape := ⟨2, ![512, 512]⟩
abbrev S1024x512 : Shape := ⟨2, ![1024, 512]⟩
abbrev S16x64x512 : Shape := ⟨3, ![16, 64, 512]⟩
abbrev S256x512 : Shape := ⟨2, ![256, 512]⟩
abbrev S64x512 : Shape := ⟨2, ![64, 512]⟩
abbrev S128x512 : Shape := ⟨2, ![128, 512]⟩
abbrev S8x512 : Shape := ⟨2, ![8, 512]⟩
abbrev S512x64 : Shape := ⟨2, ![512, 64]⟩
abbrev S512x192 : Shape := ⟨2, ![512, 192]⟩

abbrev nBuf : Space → Nat
  | .hbm => 74
  | .vmem => 24
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S2x4x256x4096, .f32⟩
  | .hbm, ⟨6, _⟩ => ⟨S2x4x256x4096, .f32⟩
  | .hbm, ⟨7, _⟩ => ⟨S2x4x64x4096, .f32⟩
  | .hbm, ⟨8, _⟩ => ⟨S_, .i32⟩
  | .hbm, ⟨9, _⟩ => ⟨S_, .f32⟩
  | .hbm, ⟨10, _⟩ => ⟨S1024x2176, .f32⟩
  | .hbm, ⟨11, _⟩ => ⟨S1024x2176, .bf16⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S1x256, .f32⟩
  | .hbm, ⟨20, _⟩ => ⟨S1024, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S1024x1, .i32⟩
  | .hbm, ⟨26, _⟩ => ⟨S1x128, .i32⟩
  | .hbm, ⟨27, _⟩ => ⟨S1024x128, .i32⟩
  | .hbm, ⟨28, _⟩ => ⟨S1024x128, .i32⟩
  | .hbm, ⟨29, _⟩ => ⟨S1024x128, .i1⟩
  | .hbm, ⟨30, _⟩ => ⟨S1024x1, .i32⟩
  | .hbm, ⟨31, _⟩ => ⟨S1x128, .i32⟩
  | .hbm, ⟨32, _⟩ => ⟨S_, .i32⟩
  | .hbm, ⟨33, _⟩ => ⟨S1x128, .i32⟩
  | .hbm, ⟨34, _⟩ => ⟨S1x128, .i32⟩
  | .hbm, ⟨35, _⟩ => ⟨S1024x128, .i32⟩
  | .hbm, ⟨36, _⟩ => ⟨S1024x128, .i32⟩
  | .hbm, ⟨37, _⟩ => ⟨S1024x128, .i1⟩
  | .hbm, ⟨38, _⟩ => ⟨S1024x128, .i1⟩
  | .hbm, ⟨39, _⟩ => ⟨S1x1024, .i32⟩
  | .hbm, ⟨40, _⟩ => ⟨S128x1, .i32⟩
  | .hbm, ⟨41, _⟩ => ⟨S128x1024, .i32⟩
  | .hbm, ⟨42, _⟩ => ⟨S128x1024, .i32⟩
  | .hbm, ⟨43, _⟩ => ⟨S128x1024, .i1⟩
  | .hbm, ⟨44, _⟩ => ⟨S1x1024, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x1024, .i32⟩
  | .hbm, ⟨50, _⟩ => ⟨S128x1024, .i32⟩
  | .hbm, ⟨51, _⟩ => ⟨S128x1024, .i1⟩
  | .hbm, ⟨52, _⟩ => ⟨S128x1024, .i1⟩
  | .hbm, ⟨53, _⟩ => ⟨S_, .f32⟩
  | .hbm, ⟨54, _⟩ => ⟨S_, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S1024x128, .bf16⟩
  | .hbm, ⟨59, _⟩ => ⟨S_, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S128x1024, .f32⟩
  | .hbm, ⟨64, _⟩ => ⟨S128x1024, .bf16⟩
  | .hbm, ⟨65, _⟩ => ⟨S1x1024, .f32⟩
  | .hbm, ⟨66, _⟩ => ⟨S4x16x64x4096, .bf16⟩
  | .hbm, ⟨67, _⟩ => ⟨S4x4096x256, .bf16⟩
  | .hbm, ⟨68, _⟩ => ⟨S4x8x192x4096, .bf16⟩
  | .hbm, ⟨69, _⟩ => ⟨S4x8x4096, .f32⟩
  | .hbm, ⟨70, _⟩ => ⟨S4x4096x192, .bf16⟩
  | .hbm, ⟨71, _⟩ => ⟨S2x4x256x4096, .f32⟩
  | .hbm, ⟨72, _⟩ => ⟨S2x4x256x4096, .f32⟩
  | .hbm, ⟨73, _⟩ => ⟨S2x4x64x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x1024, .f32⟩
  | .local _ .vmem, ⟨5, _⟩ => ⟨S1x256, .f32⟩
  | .local _ .vmem, ⟨6, _⟩ => ⟨S1024x128, .bf16⟩
  | .local _ .vmem, ⟨7, _⟩ => ⟨S128x1024, .bf16⟩
  | .local _ .vmem, ⟨8, _⟩ => ⟨S1x16x64x512, .bf16⟩
  | .local _ .vmem, ⟨9, _⟩ => ⟨S1x16x64x512, .bf16⟩
  | .local _ .vmem, ⟨10, _⟩ => ⟨S1x512x256, .bf16⟩
  | .local _ .vmem, ⟨11, _⟩ => ⟨S1x512x256, .bf16⟩
  | .local _ .vmem, ⟨12, _⟩ => ⟨S1x8x192x512, .bf16⟩
  | .local _ .vmem, ⟨13, _⟩ => ⟨S1x8x192x512, .bf16⟩
  | .local _ .vmem, ⟨14, _⟩ => ⟨S1x8x512, .f32⟩
  | .local _ .vmem, ⟨15, _⟩ => ⟨S1x8x512, .f32⟩
  | .local _ .vmem, ⟨16, _⟩ => ⟨S1x512x192, .bf16⟩
  | .local _ .vmem, ⟨17, _⟩ => ⟨S1x512x192, .bf16⟩
  | .local _ .vmem, ⟨18, _⟩ => ⟨S1x1x256x512, .f32⟩
  | .local _ .vmem, ⟨19, _⟩ => ⟨S1x1x256x512, .f32⟩
  | .local _ .vmem, ⟨20, _⟩ => ⟨S1x1x256x512, .f32⟩
  | .local _ .vmem, ⟨21, _⟩ => ⟨S1x1x256x512, .f32⟩
  | .local _ .vmem, ⟨22, _⟩ => ⟨S1x1x64x512, .f32⟩
  | .local _ .vmem, ⟨23, _⟩ => ⟨S1x1x64x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_cst_5 : Ref sig .tc := ⟨.hbm, 60, rfl⟩
abbrev main_call2_v0 : Ref sig .tc := ⟨.hbm, 61, rfl⟩
abbrev main_call2_v1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_v45_2 : Ref sig .tc := ⟨.hbm, 68, rfl⟩
abbrev main_v45_3 : Ref sig .tc := ⟨.hbm, 69, rfl⟩
abbrev main_v45_4 : Ref sig .tc := ⟨.hbm, 70, rfl⟩
abbrev main_v45_5 : Ref sig .tc := ⟨.hbm, 71, rfl⟩
abbrev main_v45_6 : Ref sig .tc := ⟨.hbm, 72, rfl⟩
abbrev main_v45_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_16 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x192x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference6Ideal.lean ====
abbrev S17408x1024 : Shape := ⟨2, ![17408, 1024]⟩
abbrev S1024 : Shape := ⟨1, ![1024]⟩
abbrev S1024x2120 : Shape := ⟨2, ![1024, 2120]⟩
abbrev S64 : Shape := ⟨1, ![64]⟩
abbrev S2x4x256x4096 : Shape := ⟨4, ![2, 4, 256, 4096]⟩
abbrev S2x4x64x4096 : Shape := ⟨4, ![2, 4, 64, 4096]⟩
abbrev S16384x1024 : Shape := ⟨2, ![16384, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2120 : Shape := ⟨3, ![4, 4096, 2120]⟩
abbrev S4x4096x256 : Shape := ⟨3, ![4, 4096, 256]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S4x4096x8x64 : Shape := ⟨4, ![4, 4096, 8, 64]⟩
abbrev S4x8x64x4096 : Shape := ⟨4, ![4, 8, 64, 4096]⟩
abbrev S4x16x64x4096 : Shape := ⟨4, ![4, 16, 64, 4096]⟩
abbrev S4x8x192x4096 : Shape := ⟨4, ![4, 8, 192, 4096]⟩
abbrev S4x8x4096 : Shape := ⟨3, ![4, 8, 4096]⟩
abbrev S4x4096x192 : Shape := ⟨3, ![4, 4096, 192]⟩
abbrev S1x4x256x4096 : Shape := ⟨4, ![1, 4, 256, 4096]⟩
abbrev S4x256x4096 : Shape := ⟨3, ![4, 256, 4096]⟩
abbrev S1x4x64x4096 : Shape := ⟨4, ![1, 4, 64, 4096]⟩
abbrev S4x64x4096 : Shape := ⟨3, ![4, 64, 4096]⟩

abbrev nBuf : Space → Nat
  | .hbm => 108
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S2x4x256x4096, .f32⟩
  | .hbm, ⟨6, _⟩ => ⟨S2x4x256x4096, .f32⟩
  | .hbm, ⟨7, _⟩ => ⟨S2x4x64x4096, .f32⟩
  | .hbm, ⟨8, _⟩ => ⟨S16384x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x2120, .f32⟩
  | .hbm, ⟨27, _⟩ => ⟨S4x4096x1024, .f32⟩
  | .hbm, ⟨28, _⟩ => ⟨S4x4096x256, .f32⟩
  | .hbm, ⟨29, _⟩ => ⟨S4x4096x256, .f32⟩
  | .hbm, ⟨30, _⟩ => ⟨S4x4096x512, .f32⟩
  | .hbm, ⟨31, _⟩ => ⟨S4x4096x64, .f32⟩
  | .hbm, ⟨32, _⟩ => ⟨S4x4096x8, .f32⟩
  | .hbm, ⟨33, _⟩ => ⟨S4x4096x16x64, .f32⟩
  | .hbm, ⟨34, _⟩ => ⟨S4x4096x16x64, .f32⟩
  | .hbm, ⟨35, _⟩ => ⟨S_, .f32⟩
  | .hbm, ⟨36, _⟩ => ⟨S4x4096x16, .f32⟩
  | .hbm, ⟨37, _⟩ => ⟨S4x4096x16x1, .f32⟩
  | .hbm, ⟨38, _⟩ => ⟨S_, .f32⟩
  | .hbm, ⟨39, _⟩ => ⟨S4x4096x16x1, .f32⟩
  | .hbm, ⟨40, _⟩ => ⟨S4x4096x16x1, .f32⟩
  | .hbm, ⟨41, _⟩ => ⟨S_, .f32⟩
  | .hbm, ⟨42, _⟩ => ⟨S4x4096x16x1, .f32⟩
  | .hbm, ⟨43, _⟩ => ⟨S4x4096x16x1, .f32⟩
  | .hbm, ⟨44, _⟩ => ⟨S4x4096x16x1, .f32⟩
  | .hbm, ⟨45, _⟩ => ⟨S4x4096x16x64, .f32⟩
  | .hbm, ⟨46, _⟩ => ⟨S4x4096x16x64, .f32⟩
  | .hbm, ⟨47, _⟩ => ⟨S1x1x1x64, .f32⟩
  | .hbm, ⟨48, _⟩ => ⟨S4x4096x16x64, .f32⟩
  | .hbm, ⟨49, _⟩ => ⟨S4x4096x16x64, .f32⟩
  | .hbm, ⟨50, _⟩ => ⟨S4x4096x4x64, .f32⟩
  | .hbm, ⟨51, _⟩ => ⟨S4x4096x4x64, .f32⟩
  | .hbm, ⟨52, _⟩ => ⟨S_, .f32⟩
  | .hbm, ⟨53, _⟩ => ⟨S4x4096x4, .f32⟩
  | .hbm, ⟨54, _⟩ => ⟨S4x4096x4x1, .f32⟩
  | .hbm, ⟨55, _⟩ => ⟨S_, .f32⟩
  | .hbm, ⟨56, _⟩ => ⟨S4x4096x4x1, .f32⟩
  | .hbm, ⟨57, _⟩ => ⟨S4x4096x4x1, .f32⟩
  | .hbm, ⟨58, _⟩ => ⟨S_, .f32⟩
  | .hbm, ⟨59, _⟩ => ⟨S4x4096x4x1, .f32⟩
  | .hbm, ⟨60, _⟩ => ⟨S4x4096x4x1, .f32⟩
  | .hbm, ⟨61, _⟩ => ⟨S4x4096x4x1, .f32⟩
  | .hbm, ⟨62, _⟩ => ⟨S4x4096x4x64, .f32⟩
  | .hbm, ⟨63, _⟩ => ⟨S4x4096x4x64, .f32⟩
  | .hbm, ⟨64, _⟩ => ⟨S1x1x1x64, .f32⟩
  | .hbm, ⟨65, _⟩ => ⟨S4x4096x4x64, .f32⟩
  | .hbm, ⟨66, _⟩ => ⟨S4x4096x4x64, .f32⟩
  | .hbm, ⟨67, _⟩ => ⟨S4x4096x256, .f32⟩
  | .hbm, ⟨68, _⟩ => ⟨S_, .f32⟩
  | .hbm, ⟨69, _⟩ => ⟨S4x4096x16x64, .f32⟩
  | .hbm, ⟨70, _⟩ => ⟨S4x4096x16x64, .f32⟩
  | .hbm, ⟨71, _⟩ => ⟨S_, .f32⟩
  | .hbm, ⟨72, _⟩ => ⟨S4x4096x512, .f32⟩
  | .hbm, ⟨73, _⟩ => ⟨S4x4096x512, .f32⟩
  | .hbm, ⟨74, _⟩ => ⟨S4x4096x8x64, .f32⟩
  | .hbm, ⟨75, _⟩ => ⟨S4x8x64x4096, .f32⟩
  | .hbm, ⟨76, _⟩ => ⟨S4x8x64x4096, .bf16⟩
  | .hbm, ⟨77, _⟩ => ⟨S4x8x64x4096, .f32⟩
  | .hbm, ⟨78, _⟩ => ⟨S4x8x64x4096, .f32⟩
  | .hbm, ⟨79, _⟩ => ⟨S4x8x64x4096, .bf16⟩
  | .hbm, ⟨80, _⟩ => ⟨S4x4096x64, .bf16⟩
  | .hbm, ⟨81, _⟩ => ⟨S4x4096x64, .f32⟩
  | .hbm, ⟨82, _⟩ => ⟨S4x4096x64, .f32⟩
  | .hbm, ⟨83, _⟩ => ⟨S4x4096x64, .bf16⟩
  | .hbm, ⟨84, _⟩ => ⟨S4x16x64x4096, .f32⟩
  | .hbm, ⟨85, _⟩ => ⟨S4x16x64x4096, .bf16⟩
  | .hbm, ⟨86, _⟩ => ⟨S4x4096x256, .bf16⟩
  | .hbm, ⟨87, _⟩ => ⟨S4x8x192x4096, .bf16⟩
  | .hbm, ⟨88, _⟩ => ⟨S4x8x4096, .f32⟩
  | .hbm, ⟨89, _⟩ => ⟨S4x4096x192, .bf16⟩
  | .hbm, ⟨90, _⟩ => ⟨S1x4x256x4096, .f32⟩
  | .hbm, ⟨91, _⟩ => ⟨S4x256x4096, .f32⟩
  | .hbm, ⟨92, _⟩ => ⟨S4x256x4096, .f32⟩
  | .hbm, ⟨93, _⟩ => ⟨S1x4x256x4096, .f32⟩
  | .hbm, ⟨94, _⟩ => ⟨S1x4x256x4096, .f32⟩
  | .hbm, ⟨95, _⟩ => ⟨S2x4x256x4096, .f32⟩
  | .hbm, ⟨96, _⟩ => ⟨S1x4x256x4096, .f32⟩
  | .hbm, ⟨97, _⟩ => ⟨S4x256x4096, .f32⟩
  | .hbm, ⟨98, _⟩ => ⟨S4x256x4096, .f32⟩
  | .hbm, ⟨99, _⟩ => ⟨S1x4x256x4096, .f32⟩
  | .hbm, ⟨100, _⟩ => ⟨S1x4x256x4096, .f32⟩
  | .hbm, ⟨101, _⟩ => ⟨S2x4x256x4096, .f32⟩
  | .hbm, ⟨102, _⟩ => ⟨S1x4x64x4096, .f32⟩
  | .hbm, ⟨103, _⟩ => ⟨S4x64x4096, .f32⟩
  | .hbm, ⟨104, _⟩ => ⟨S4x64x4096, .f32⟩
  | .hbm, ⟨105, _⟩ => ⟨S1x4x64x4096, .f32⟩
  | .hbm, ⟨106, _⟩ => ⟨S1x4x64x4096, .f32⟩
  | .hbm, ⟨107, _⟩ => ⟨S2x4x64x4096, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩

abbrev nD : Nat := 1
abbrev τ : Topo := Topo.v7x

variable {F : FTy → Type} [FloatOps F]
-- ==== Kernel7.lean ====
abbrev S17408x1024 : Shape := ⟨2, ![17408, 1024]⟩
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S17408x1024, .f32⟩
  | .hbm, ⟨6, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference7Ideal.lean ====
abbrev S17408x1024 : Shape := ⟨2, ![17408, 1024]⟩
abbrev S16384x1024 : Shape := ⟨2, ![16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S17408x1024, .f32⟩
  | .hbm, ⟨7, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S17408x1024 : Shape := ⟨2, ![17408, 1024]⟩
abbrev S1024 : Shape := ⟨1, ![1024]⟩
abbrev S1024x2048 : Shape := ⟨2, ![1024, 2048]⟩
abbrev S128x15x512 : Shape := ⟨3, ![128, 15, 512]⟩
abbrev S1x1024 : Shape := ⟨2, ![1, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩
abbrev S_ : Shape := ⟨0, ![]⟩
abbrev S128x1x512 : Shape := ⟨3, ![128, 1, 512]⟩
abbrev S128x8x512 : Shape := ⟨3, ![128, 8, 512]⟩
abbrev S128x24x512 : Shape := ⟨3, ![128, 24, 512]⟩

abbrev nBuf : Space → Nat
  | .hbm => 15
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2048, .f32⟩
  | .hbm, ⟨3, _⟩ => ⟨S128x15x512, .f32⟩
  | .hbm, ⟨4, _⟩ => ⟨S1x1024, .f32⟩
  | .hbm, ⟨5, _⟩ => ⟨S1024x2048, .bf16⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S128x1x512, .f32⟩
  | .hbm, ⟨12, _⟩ => ⟨S128x8x512, .f32⟩
  | .hbm, ⟨13, _⟩ => ⟨S128x24x512, .f32⟩
  | .hbm, ⟨14, _⟩ => ⟨S128x15x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S17408x1024 : Shape := ⟨2, ![17408, 1024]⟩
abbrev S1024 : Shape := ⟨1, ![1024]⟩
abbrev S1024x2048 : Shape := ⟨2, ![1024, 2048]⟩
abbrev S128x15x512 : Shape := ⟨3, ![128, 15, 512]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩
abbrev S1024x1536 : Shape := ⟨2, ![1024, 1536]⟩
abbrev S1024x3x512 : Shape := ⟨3, ![1024, 3, 512]⟩
abbrev S1024x512 : Shape := ⟨2, ![1024, 512]⟩
abbrev S128x8x512 : Shape := ⟨3, ![128, 8, 512]⟩
abbrev S128x23x512 : Shape := ⟨3, ![128, 23, 512]⟩
abbrev S1024x1x512 : Shape := ⟨3, ![1024, 1, 512]⟩

abbrev nBuf : Space → Nat
  | .hbm => 34
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2048, .f32⟩
  | .hbm, ⟨3, _⟩ => ⟨S128x15x512, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x2048, .f32⟩
  | .hbm, ⟨22, _⟩ => ⟨S1024x1536, .f32⟩
  | .hbm, ⟨23, _⟩ => ⟨S1024x3x512, .f32⟩
  | .hbm, ⟨24, _⟩ => ⟨S1024x512, .f32⟩
  | .hbm, ⟨25, _⟩ => ⟨S128x8x512, .f32⟩
  | .hbm, ⟨26, _⟩ => ⟨S128x23x512, .f32⟩
  | .hbm, ⟨27, _⟩ => ⟨S1024x1x512, .f32⟩
  | .hbm, ⟨28, _⟩ => ⟨S1024x512, .f32⟩
  | .hbm, ⟨29, _⟩ => ⟨S1024x1x512, .f32⟩
  | .hbm, ⟨30, _⟩ => ⟨S1024x512, .f32⟩
  | .hbm, ⟨31, _⟩ => ⟨S1024x1x512, .f32⟩
  | .hbm, ⟨32, _⟩ => ⟨S1024x512, .f32⟩
  | .hbm, ⟨33, _⟩ => ⟨S128x15x512, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel9.lean ====
abbrev S17408x1024 : Shape := ⟨2, ![17408, 1024]⟩
abbrev S1024 : Shape := ⟨1, ![1024]⟩
abbrev S1024x2120 : Shape := ⟨2, ![1024, 2120]⟩
abbrev S64 : Shape := ⟨1, ![64]⟩
abbrev S_ : Shape := ⟨0, ![]⟩
abbrev S1024x2176 : Shape := ⟨2, ![1024, 2176]⟩
abbrev S1x64 : Shape := ⟨2, ![1, 64]⟩
abbrev S16x64 : Shape := ⟨2, ![16, 64]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S128 : Shape := ⟨1, ![128]⟩
abbrev S1024x1 : Shape := ⟨2, ![1024, 1]⟩
abbrev S1x128 : Shape := ⟨2, ![1, 128]⟩
abbrev S1024x128 : Shape := ⟨2, ![1024, 128]⟩
abbrev S128x1 : Shape := ⟨2, ![128, 1]⟩
abbrev S128x1024 : Shape := ⟨2, ![128, 1024]⟩
abbrev S1024x1024 : Shape := ⟨2, ![1024, 1024]⟩
abbrev S1024x256 : Shape := ⟨2, ![1024, 256]⟩
abbrev S1024x512 : Shape := ⟨2, ![1024, 512]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2176 : Shape := ⟨2, ![512, 2176]⟩
abbrev S256x128 : Shape := ⟨2, ![256, 128]⟩
abbrev S128x256 : Shape := ⟨2, ![128, 256]⟩

abbrev nBuf : Space → Nat
  | .hbm => 68
  | .vmem => 18
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S_, .i32⟩
  | .hbm, ⟨6, _⟩ => ⟨S_, .f32⟩
  | .hbm, ⟨7, _⟩ => ⟨S1024x2176, .f32⟩
  | .hbm, ⟨8, _⟩ => ⟨S1024x2176, .bf16⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S1x1024, .f32⟩
  | .hbm, ⟨13, _⟩ => ⟨S1x64, .f32⟩
  | .hbm, ⟨14, _⟩ => ⟨S4x64, .f32⟩
  | .hbm, ⟨15, _⟩ => ⟨S256, .f32⟩
  | .hbm, ⟨16, _⟩ => ⟨S1x256, .f32⟩
  | .hbm, ⟨17, _⟩ => ⟨S1024, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S1024x1, .i32⟩
  | .hbm, ⟨23, _⟩ => ⟨S1x128, .i32⟩
  | .hbm, ⟨24, _⟩ => ⟨S1024x128, .i32⟩
  | .hbm, ⟨25, _⟩ => ⟨S1024x128, .i32⟩
  | .hbm, ⟨26, _⟩ => ⟨S1024x128, .i1⟩
  | .hbm, ⟨27, _⟩ => ⟨S1024x1, .i32⟩
  | .hbm, ⟨28, _⟩ => ⟨S1x128, .i32⟩
  | .hbm, ⟨29, _⟩ => ⟨S_, .i32⟩
  | .hbm, ⟨30, _⟩ => ⟨S1x128, .i32⟩
  | .hbm, ⟨31, _⟩ => ⟨S1x128, .i32⟩
  | .hbm, ⟨32, _⟩ => ⟨S1024x128, .i32⟩
  | .hbm, ⟨33, _⟩ => ⟨S1024x128, .i32⟩
  | .hbm, ⟨34, _⟩ => ⟨S1024x128, .i1⟩
  | .hbm, ⟨35, _⟩ => ⟨S1024x128, .i1⟩
  | .hbm, ⟨36, _⟩ => ⟨S1x1024, .i32⟩
  | .hbm, ⟨37, _⟩ => ⟨S128x1, .i32⟩
  | .hbm, ⟨38, _⟩ => ⟨S128x1024, .i32⟩
  | .hbm, ⟨39, _⟩ => ⟨S128x1024, .i32⟩
  | .hbm, ⟨40, _⟩ => ⟨S128x1024, .i1⟩
  | .hbm, ⟨41, _⟩ => ⟨S1x1024, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x1024, .i32⟩
  | .hbm, ⟨47, _⟩ => ⟨S128x1024, .i32⟩
  | .hbm, ⟨48, _⟩ => ⟨S128x1024, .i1⟩
  | .hbm, ⟨49, _⟩ => ⟨S128x1024, .i1⟩
  | .hbm, ⟨50, _⟩ => ⟨S_, .f32⟩
  | .hbm, ⟨51, _⟩ => ⟨S_, .f32⟩
  | .hbm, ⟨52, _⟩ => ⟨S1024x128, .f32⟩
  | .hbm, ⟨53, _⟩ => ⟨S1024x128, .f32⟩
  | .hbm, ⟨54, _⟩ => ⟨S1024x128, .f32⟩
  | .hbm, ⟨55, _⟩ => ⟨S1024x128, .bf16⟩
  | .hbm, ⟨56, _⟩ => ⟨S_, .f32⟩
  | .hbm, ⟨57, _⟩ => ⟨S_, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S128x1024, .bf16⟩
  | .hbm, ⟨62, _⟩ => ⟨S1x1024, .f32⟩
  | .hbm, ⟨63, _⟩ => ⟨S1024x1024, .f32⟩
  | .hbm, ⟨64, _⟩ => ⟨S1024x256, .f32⟩
  | .hbm, ⟨65, _⟩ => ⟨S1024x256, .f32⟩
  | .hbm, ⟨66, _⟩ => ⟨S1024x512, .f32⟩
  | .hbm, ⟨67, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x1024, .f32⟩
  | .local _ .vmem, ⟨5, _⟩ => ⟨S1x256, .f32⟩
  | .local _ .vmem, ⟨6, _⟩ => ⟨S1024x128, .bf16⟩
  | .local _ .vmem, ⟨7, _⟩ => ⟨S128x1024, .bf16⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_v45_3 : Ref sig .tc := ⟨.hbm, 66, rfl⟩
abbrev main_v45_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S17408x1024 : Shape := ⟨2, ![17408, 1024]⟩
abbrev S1024 : Shape := ⟨1, ![1024]⟩
abbrev S1024x2120 : Shape := ⟨2, ![1024, 2120]⟩
abbrev S64 : Shape := ⟨1, ![64]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩
abbrev S1x1024x1024 : Shape := ⟨3, ![1, 1024, 1024]⟩
abbrev S1x1024x2120 : Shape := ⟨3, ![1, 1024, 2120]⟩
abbrev S1x1024x256 : Shape := ⟨3, ![1, 1024, 256]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x16x64 : Shape := ⟨4, ![1, 1024, 16, 64]⟩
abbrev S1x1024x16 : Shape := ⟨3, ![1, 1024, 16]⟩
abbrev S1x1024x16x1 : Shape := ⟨4, ![1, 1024, 16, 1]⟩
abbrev S1x1x1x64 : Shape := ⟨4, ![1, 1, 1, 64]⟩
abbrev S1x1024x4x64 : Shape := ⟨4, ![1, 1024, 4, 64]⟩
abbrev S1x1024x4 : Shape := ⟨3, ![1, 1024, 4]⟩
abbrev S1x1024x4x1 : Shape := ⟨4, ![1, 1024, 4, 1]⟩
abbrev S1024x56 : Shape := ⟨2, ![1024, 56]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x128 : Shape := ⟨2, ![1024, 128]⟩

abbrev nBuf : Space → Nat
  | .hbm => 74
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | .hbm, ⟨22, _⟩ => ⟨S1x1024x1024, .f32⟩
  | .hbm, ⟨23, _⟩ => ⟨S1x1024x2120, .f32⟩
  | .hbm, ⟨24, _⟩ => ⟨S1x1024x1024, .f32⟩
  | .hbm, ⟨25, _⟩ => ⟨S1x1024x256, .f32⟩
  | .hbm, ⟨26, _⟩ => ⟨S1x1024x256, .f32⟩
  | .hbm, ⟨27, _⟩ => ⟨S1x1024x512, .f32⟩
  | .hbm, ⟨28, _⟩ => ⟨S1x1024x64, .f32⟩
  | .hbm, ⟨29, _⟩ => ⟨S1x1024x8, .f32⟩
  | .hbm, ⟨30, _⟩ => ⟨S1x1024x16x64, .f32⟩
  | .hbm, ⟨31, _⟩ => ⟨S1x1024x16x64, .f32⟩
  | .hbm, ⟨32, _⟩ => ⟨S_, .f32⟩
  | .hbm, ⟨33, _⟩ => ⟨S1x1024x16, .f32⟩
  | .hbm, ⟨34, _⟩ => ⟨S1x1024x16x1, .f32⟩
  | .hbm, ⟨35, _⟩ => ⟨S_, .f32⟩
  | .hbm, ⟨36, _⟩ => ⟨S1x1024x16x1, .f32⟩
  | .hbm, ⟨37, _⟩ => ⟨S1x1024x16x1, .f32⟩
  | .hbm, ⟨38, _⟩ => ⟨S_, .f32⟩
  | .hbm, ⟨39, _⟩ => ⟨S1x1024x16x1, .f32⟩
  | .hbm, ⟨40, _⟩ => ⟨S1x1024x16x1, .f32⟩
  | .hbm, ⟨41, _⟩ => ⟨S1x1024x16x1, .f32⟩
  | .hbm, ⟨42, _⟩ => ⟨S1x1024x16x64, .f32⟩
  | .hbm, ⟨43, _⟩ => ⟨S1x1024x16x64, .f32⟩
  | .hbm, ⟨44, _⟩ => ⟨S1x1x1x64, .f32⟩
  | .hbm, ⟨45, _⟩ => ⟨S1x1024x16x64, .f32⟩
  | .hbm, ⟨46, _⟩ => ⟨S1x1024x16x64, .f32⟩
  | .hbm, ⟨47, _⟩ => ⟨S1x1024x4x64, .f32⟩
  | .hbm, ⟨48, _⟩ => ⟨S1x1024x4x64, .f32⟩
  | .hbm, ⟨49, _⟩ => ⟨S_, .f32⟩
  | .hbm, ⟨50, _⟩ => ⟨S1x1024x4, .f32⟩
  | .hbm, ⟨51, _⟩ => ⟨S1x1024x4x1, .f32⟩
  | .hbm, ⟨52, _⟩ => ⟨S_, .f32⟩
  | .hbm, ⟨53, _⟩ => ⟨S1x1024x4x1, .f32⟩
  | .hbm, ⟨54, _⟩ => ⟨S1x1024x4x1, .f32⟩
  | .hbm, ⟨55, _⟩ => ⟨S_, .f32⟩
  | .hbm, ⟨56, _⟩ => ⟨S1x1024x4x1, .f32⟩
  | .hbm, ⟨57, _⟩ => ⟨S1x1024x4x1, .f32⟩
  | .hbm, ⟨58, _⟩ => ⟨S1x1024x4x1, .f32⟩
  | .hbm, ⟨59, _⟩ => ⟨S1x1024x4x64, .f32⟩
  | .hbm, ⟨60, _⟩ => ⟨S1x1024x4x64, .f32⟩
  | .hbm, ⟨61, _⟩ => ⟨S1x1x1x64, .f32⟩
  | .hbm, ⟨62, _⟩ => ⟨S1x1024x4x64, .f32⟩
  | .hbm, ⟨63, _⟩ => ⟨S1x1024x4x64, .f32⟩
  | .hbm, ⟨64, _⟩ => ⟨S1x1024x256, .f32⟩
  | .hbm, ⟨65, _⟩ => ⟨S_, .f32⟩
  | .hbm, ⟨66, _⟩ => ⟨S1024x56, .f32⟩
  | .hbm, ⟨67, _⟩ => ⟨S1024x1024, .f32⟩
  | .hbm, ⟨68, _⟩ => ⟨S1024x256, .f32⟩
  | .hbm, ⟨69, _⟩ => ⟨S1024x256, .f32⟩
  | .hbm, ⟨70, _⟩ => ⟨S1024x512, .f32⟩
  | .hbm, ⟨71, _⟩ => ⟨S1024x64, .f32⟩
  | .hbm, ⟨72, _⟩ => ⟨S1024x8, .f32⟩
  | .hbm, ⟨73, _⟩ => ⟨S1024x128, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel10.lean ====
abbrev S16384x512 : Shape := ⟨2, ![16384, 512]⟩
abbrev S4x128x128 : Shape := ⟨3, ![4, 128, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S512x128 : Shape := ⟨2, ![512, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S16384x512 : Shape := ⟨2, ![16384, 512]⟩
abbrev S4x128x128 : Shape := ⟨3, ![4, 128, 128]⟩
abbrev S512 : Shape := ⟨1, ![512]⟩
abbrev S4x4096x512 : Shape := ⟨3, ![4, 4096, 512]⟩
abbrev S_ : Shape := ⟨0, ![]⟩
abbrev S4x15x512 : Shape := ⟨3, ![4, 15, 512]⟩
abbrev S4x4111x512 : Shape := ⟨3, ![4, 4111, 512]⟩
abbrev S4096 : Shape := ⟨1, ![4096]⟩
abbrev S4x4096x128 : Shape := ⟨3, ![4, 4096, 128]⟩
abbrev S1x4096x1 : Shape := ⟨3, ![1, 4096, 1]⟩
abbrev S4x4096x1x128 : Shape := ⟨4, ![4, 4096, 1, 128]⟩
abbrev S4x4096x4x128 : Shape := ⟨4, ![4, 4096, 4, 128]⟩
abbrev S4x128x4x4096 : Shape := ⟨4, ![4, 128, 4, 4096]⟩
abbrev S1x512 : Shape := ⟨2, ![1, 512]⟩

abbrev nBuf : Space → Nat
  | .hbm => 123
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x128x128, .f32⟩
  | .hbm, ⟨2, _⟩ => ⟨S512, .f32⟩
  | .hbm, ⟨3, _⟩ => ⟨S4x4096x512, .f32⟩
  | .hbm, ⟨4, _⟩ => ⟨S_, .f32⟩
  | .hbm, ⟨5, _⟩ => ⟨S4x15x512, .f32⟩
  | .hbm, ⟨6, _⟩ => ⟨S4x4111x512, .f32⟩
  | .hbm, ⟨7, _⟩ => ⟨S4096, .i32⟩
  | .hbm, ⟨8, _⟩ => ⟨S4x4096x128, .f32⟩
  | .hbm, ⟨9, _⟩ => ⟨S4x4096x128, .f32⟩
  | .hbm, ⟨10, _⟩ => ⟨S4x4096x128, .f32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .f32⟩
  | .hbm, ⟨18, _⟩ => ⟨S1x4096x1, .f32⟩
  | .hbm, ⟨19, _⟩ => ⟨S4x4096x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x128, .f32⟩
  | .hbm, ⟨27, _⟩ => ⟨S4x4096x128, .f32⟩
  | .hbm, ⟨28, _⟩ => ⟨S4x4096x128, .f32⟩
  | .hbm, ⟨29, _⟩ => ⟨S4x4096x128, .f32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S1x4096x1, .f32⟩
  | .hbm, ⟨38, _⟩ => ⟨S4x4096x128, .f32⟩
  | .hbm, ⟨39, _⟩ => ⟨S4x4096x128, .f32⟩
  | .hbm, ⟨40, _⟩ => ⟨S4x4096x128, .f32⟩
  | .hbm, ⟨41, _⟩ => ⟨S4x4096x128, .f32⟩
  | .hbm, ⟨42, _⟩ => ⟨S4x4096x128, .f32⟩
  | .hbm, ⟨43, _⟩ => ⟨S4x4096x128, .f32⟩
  | .hbm, ⟨44, _⟩ => ⟨S4x4096x128, .f32⟩
  | .hbm, ⟨45, _⟩ => ⟨S4x4096x128, .f32⟩
  | .hbm, ⟨46, _⟩ => ⟨S4x4096x128, .f32⟩
  | .hbm, ⟨47, _⟩ => ⟨S4x4096x128, .f32⟩
  | .hbm, ⟨48, _⟩ => ⟨S4x4096x128, .f32⟩
  | .hbm, ⟨49, _⟩ => ⟨S4x4096x128, .f32⟩
  | .hbm, ⟨50, _⟩ => ⟨S4x4096x128, .f32⟩
  | .hbm, ⟨51, _⟩ => ⟨S4x4096x128, .f32⟩
  | .hbm, ⟨52, _⟩ => ⟨S4x4096x128, .f32⟩
  | .hbm, ⟨53, _⟩ => ⟨S4x4096x128, .f32⟩
  | .hbm, ⟨54, _⟩ => ⟨S4x4096x128, .f32⟩
  | .hbm, ⟨55, _⟩ => ⟨S4x4096x128, .f32⟩
  | .hbm, ⟨56, _⟩ => ⟨S4x4096x128, .f32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .f32⟩
  | .hbm, ⟨64, _⟩ => ⟨S1x4096x1, .f32⟩
  | .hbm, ⟨65, _⟩ => ⟨S4x4096x128, .f32⟩
  | .hbm, ⟨66, _⟩ => ⟨S4x4096x128, .f32⟩
  | .hbm, ⟨67, _⟩ => ⟨S4x4096x128, .f32⟩
  | .hbm, ⟨68, _⟩ => ⟨S4x4096x128, .f32⟩
  | .hbm, ⟨69, _⟩ => ⟨S4x4096x128, .f32⟩
  | .hbm, ⟨70, _⟩ => ⟨S4x4096x128, .f32⟩
  | .hbm, ⟨71, _⟩ => ⟨S4x4096x128, .f32⟩
  | .hbm, ⟨72, _⟩ => ⟨S4x4096x128, .f32⟩
  | .hbm, ⟨73, _⟩ => ⟨S4x4096x128, .f32⟩
  | .hbm, ⟨74, _⟩ => ⟨S4x4096x128, .f32⟩
  | .hbm, ⟨75, _⟩ => ⟨S4x4096x128, .f32⟩
  | .hbm, ⟨76, _⟩ => ⟨S4x4096x128, .f32⟩
  | .hbm, ⟨77, _⟩ => ⟨S4x4096x128, .f32⟩
  | .hbm, ⟨78, _⟩ => ⟨S4x4096x128, .f32⟩
  | .hbm, ⟨79, _⟩ => ⟨S4x4096x128, .f32⟩
  | .hbm, ⟨80, _⟩ => ⟨S4x4096x128, .f32⟩
  | .hbm, ⟨81, _⟩ => ⟨S4x4096x128, .f32⟩
  | .hbm, ⟨82, _⟩ => ⟨S4x4096x128, .f32⟩
  | .hbm, ⟨83, _⟩ => ⟨S4x4096x128, .f32⟩
  | .hbm, ⟨84, _⟩ => ⟨S4x4096x128, .f32⟩
  | .hbm, ⟨85, _⟩ => ⟨S4x4096x128, .f32⟩
  | .hbm, ⟨86, _⟩ => ⟨S4x4096x128, .f32⟩
  | .hbm, ⟨87, _⟩ => ⟨S4x4096x128, .f32⟩
  | .hbm, ⟨88, _⟩ => ⟨S4x4096x128, .f32⟩
  | .hbm, ⟨89, _⟩ => ⟨S4x4096x128, .f32⟩
  | .hbm, ⟨90, _⟩ => ⟨S4x4096x128, .f32⟩
  | .hbm, ⟨91, _⟩ => ⟨S4x4096x128, .f32⟩
  | .hbm, ⟨92, _⟩ => ⟨S4x4096x128, .f32⟩
  | .hbm, ⟨93, _⟩ => ⟨S4x4096x128, .f32⟩
  | .hbm, ⟨94, _⟩ => ⟨S4x4096x128, .f32⟩
  | .hbm, ⟨95, _⟩ => ⟨S4x4096x128, .f32⟩
  | .hbm, ⟨96, _⟩ => ⟨S4x4096x128, .f32⟩
  | .hbm, ⟨97, _⟩ => ⟨S4x4096x128, .f32⟩
  | .hbm, ⟨98, _⟩ => ⟨S4x4096x128, .f32⟩
  | .hbm, ⟨99, _⟩ => ⟨S4x4096x128, .f32⟩
  | .hbm, ⟨100, _⟩ => ⟨S_, .i32⟩
  | .hbm, ⟨101, _⟩ => ⟨S4096, .i32⟩
  | .hbm, ⟨102, _⟩ => ⟨S4096, .i32⟩
  | .hbm, ⟨103, _⟩ => ⟨S_, .i32⟩
  | .hbm, ⟨104, _⟩ => ⟨S4096, .i32⟩
  | .hbm, ⟨105, _⟩ => ⟨S4096, .i32⟩
  | .hbm, ⟨106, _⟩ => ⟨S4096, .f32⟩
  | .hbm, ⟨107, _⟩ => ⟨S1x4096x1, .f32⟩
  | .hbm, ⟨108, _⟩ => ⟨S4x4096x128, .f32⟩
  | .hbm, ⟨109, _⟩ => ⟨S4x4096x128, .f32⟩
  | .hbm, ⟨110, _⟩ => ⟨S4x4096x128, .f32⟩
  | .hbm, ⟨111, _⟩ => ⟨S4x4096x128, .f32⟩
  | .hbm, ⟨112, _⟩ => ⟨S4x4096x1x128, .f32⟩
  | .hbm, ⟨113, _⟩ => ⟨S4x4096x1x128, .f32⟩
  | .hbm, ⟨114, _⟩ => ⟨S4x4096x1x128, .f32⟩
  | .hbm, ⟨115, _⟩ => ⟨S4x4096x1x128, .f32⟩
  | .hbm, ⟨116, _⟩ => ⟨S4x4096x4x128, .f32⟩
  | .hbm, ⟨117, _⟩ => ⟨S4x128x4x4096, .f32⟩
  | .hbm, ⟨118, _⟩ => ⟨S4x4096x4x128, .f32⟩
  | .hbm, ⟨119, _⟩ => ⟨S16384x512, .f32⟩
  | .hbm, ⟨120, _⟩ => ⟨S1x512, .f32⟩
  | .hbm, ⟨121, _⟩ => ⟨S16384x512, .f32⟩
  | .hbm, ⟨122, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c_3 : Ref sig .tc := ⟨.hbm, 57, rfl⟩
abbrev main_v49 : Ref sig .tc := ⟨.hbm, 58, rfl⟩
abbrev main_v50 : Ref sig .tc := ⟨.hbm, 59, rfl⟩
abbrev main_c_4 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_c_5 : Ref sig .tc := ⟨.hbm, 100, rfl⟩
abbrev main_v90 : Ref sig .tc := ⟨.hbm, 101, rfl⟩
abbrev main_v91 : Ref sig .tc := ⟨.hbm, 102, rfl⟩
abbrev main_c_6 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩

abbrev nD : Nat := 1
abbrev τ : Topo := Topo.v7x

variable {F : FTy → Type} [FloatOps F]
-- ==== Proof.Ffn.Math.lean ====
/- The feed-forward half layer as a function of one row of the residual stream, and the sums by which the kernel's
   column chunks of 256 make up the whole hidden width of 2816. -/
module

public import Idealize.ShloMosaic.Lib.Pointwise

@[expose] public section

noncomputable section

namespace Cert.Proof.Ffn

open Idealize.ShloMosaic

/-- The f32 constant one half. -/
abbrev half : EReal := Ideal.ofBits .f32 0x3F000000#32

theorem half_eq : half = (((1 / 2 : ℝ)) : EReal) := by
  simp [half, Ideal.ofBits, Ideal.ieee, -EReal.coe_mul]; norm_num

/-- The normalised row: `x / sqrt(mean(x²) + eps) · gain`, at a column. -/
def normed (x gain : Fin 1024 → EReal) (j : Fin 1024) : EReal :=
  x j * Ideal.rsqrt (Ideal.div (∑ k, x k * x k) (Ideal.ofBits .f32 0x44800000#32) + Ideal.ofBits .f32 0x358637BD#32) * gain j

/-- The gated activation at one hidden column, from the row's products `g` with the gate and `u` with the up matrix. -/
def gated (g u : EReal) : EReal := g * Ideal.logistic g * u

/-- One hidden column of a normalised row `h`: its products with the column of each matrix, gated. -/
def hidden (h : Fin 1024 → EReal) (wg wu : Fin 1024 → Fin 2816 → EReal) (k : Fin 2816) : EReal :=
  gated (∑ j, h j * wg j k) (∑ j, h j * wu j k)

/-- The half layer at a row `x` and an output column: `x + ½ · (gated hidden row) · (column of the down matrix)`. -/
def halfLayer (x gain : Fin 1024 → EReal) (wg wu : Fin 1024 → Fin 2816 → EReal) (wd : Fin 2816 → EReal) (l : Fin 1024) : EReal :=
  x l + half * ∑ k, hidden (normed x gain) wg wu k * wd k

/-- A real factor that is not negative goes inside a finite sum of extended reals. -/
theorem mul_sum_of_nonneg {ι : Type} (s : Finset ι) (f : ι → EReal) (a : EReal) (h0 : 0 ≤ a) (ht : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

theorem half_mul_sum {ι : Type} (s : Finset ι) (f : ι → EReal) : half * ∑ i ∈ s, f i = ∑ i ∈ s, half * f i :=
  mul_sum_of_nonneg s f half (by rw [half_eq]; exact EReal.coe_nonneg.mpr (by norm_num)) (by rw [half_eq]; exact EReal.coe_ne_top _)

/-- The sum of the first `n` of `N` terms. -/
def upTo {N : ℕ} (T : Fin N → EReal) (n : ℕ) : EReal := ∑ k ∈ Finset.range n, if h : k < N then T ⟨k, h⟩ else 0

theorem upTo_zero {N : ℕ} (T : Fin N → EReal) : upTo T 0 = 0 := by simp [upTo]

theorem upTo_all {N : ℕ} (T : Fin N → EReal) : upTo T N = ∑ k, T k := by
  unfold upTo
  rw [← Fin.sum_univ_eq_sum_range (fun k => if h : k < N then T ⟨k, h⟩ else 0) N]
  exact Finset.sum_congr rfl fun k _ => dif_pos k.isLt

/-- The next `w` terms, added to the first `n`, are the first `n + w`. -/
theorem upTo_add {N : ℕ} (T : Fin N → EReal) (n w : ℕ) (h : n + w ≤ N) (x : EReal) :
    x + upTo T n + ∑ k : Fin w, T ⟨n + k, lt_of_lt_of_le (Nat.add_lt_add_left k.isLt n) h⟩ = x + upTo T (n + w) := by
  rw [add_assoc]; congr 1
  unfold upTo
  rw [Finset.sum_range_add,
    ← Fin.sum_univ_eq_sum_range (fun k => if h : n + k < N then T ⟨n + k, h⟩ else 0) w]
  congr 1
  exact (Finset.sum_congr rfl fun k _ => dif_pos (lt_of_lt_of_le (Nat.add_lt_add_left k.isLt n) h)).symm

end Cert.Proof.Ffn

end
-- ==== Proof.ProjC.Math.lean ====
/- The head-wise normalisation of queries and keys: the kernel takes a head's mean of squares by two products with 0/1
   matrices over lanes of 64, each in two bfloat16 parts; on finite numbers that is the mean itself. -/
module

public import proofs.«01_k».proof.Proof.Ffn.Math
public import Idealize.ShloMosaic.Lib.WordCmp

@[expose] public section

noncomputable section

namespace Cert.Proof.ProjC

open Idealize.ShloMosaic Cert.Proof.Ffn

/-- A real number among the extended ones. -/
def Finite (x : EReal) : Prop := ∃ r : ℝ, x = (r : EReal)

theorem Finite.of_ne {x : EReal} (h : x ≠ ⊥ ∧ x ≠ ⊤) : Finite x := ⟨x.toReal, (EReal.coe_toReal h.2 h.1).symm⟩

theorem Finite.mul {x y : EReal} : Finite x → Finite y → Finite (x * y) := by
  rintro ⟨a, rfl⟩ ⟨b, rfl⟩
  exact ⟨a * b, (EReal.coe_mul a b).symm⟩

/-- A finite sum of reals is a real. -/
theorem coe_sum {ι : Type} (s : Finset ι) (r : ι → ℝ) : ((∑ i ∈ s, r i : ℝ) : EReal) = ∑ i ∈ s, (r i : EReal) := by
  classical
  induction s using Finset.induction_on with
  | empty => simp
  | insert i s hi ih => rw [Finset.sum_insert hi, Finset.sum_insert hi, EReal.coe_add, ih]

theorem square_nonneg (x : EReal) : 0 ≤ x * x :=
  EReal.mul_nonneg_iff.mpr ((le_total 0 x).imp (fun h => ⟨h, h⟩) fun h => ⟨h, h⟩)

theorem Finite.sum {ι : Type} (s : Finset ι) (f : ι → EReal) (h : ∀ i, Finite (f i)) : Finite (∑ i ∈ s, f i) := by
  choose r hr using h
  refine ⟨∑ i ∈ s, r i, ?_⟩
  rw [coe_sum]
  exact Finset.sum_congr rfl fun i _ => hr i

/-- The f32 constant 1024. -/
theorem width_eq : Ideal.ofBits .f32 0x44800000#32 = ((1024 : ℝ) : EReal) := by
  simp [Ideal.ofBits, Ideal.ieee, -EReal.coe_mul]; norm_num

/-- The f32 constant 64. -/
theorem sixty_four_eq : Ideal.ofBits .f32 0x42800000#32 = ((64 : ℝ) : EReal) := by
  simp [Ideal.ofBits, Ideal.ieee, -EReal.coe_mul]; norm_num

/-- The f32 constant 1/64. -/
theorem part_eq : Ideal.ofBits .f32 0x3C800000#32 = ((1 / 64 : ℝ) : EReal) := by
  simp [Ideal.ofBits, Ideal.ieee, -EReal.coe_mul]; norm_num

/-- The constant added under the root is a positive real. -/
theorem epsilon_pos : ∃ e : ℝ, 0 < e ∧ Ideal.ofBits .f32 0x358637BD#32 = (e : EReal) := by
  refine ⟨(Ideal.ofBits .f32 0x358637BD#32).toReal, ?_, ?_⟩
  all_goals simp [Ideal.ofBits, Ideal.ieee, -EReal.coe_mul]

/-- A normalised row is finite whatever the row holds: an infinite entry makes the factor zero. -/
theorem normed_finite (x gain : Fin 1024 → EReal) (hg : ∀ j, Finite (gain j)) (j : Fin 1024) : Finite (normed x gain j) := by
  obtain ⟨e, he, hE⟩ := epsilon_pos
  unfold normed
  rw [width_eq, hE, Ideal.div_coe (by norm_num)]
  by_cases hx : ∀ k, Finite (x k)
  · refine Finite.mul (Finite.mul (hx j) ?_) (hg j)
    choose r hr using hx
    have hs : ∑ k, x k * x k = ((∑ k, r k * r k : ℝ) : EReal) := by
      rw [coe_sum]
      exact Finset.sum_congr rfl fun k _ => by rw [hr k, EReal.coe_mul]
    have hp : 0 < (∑ k, r k * r k) * (1 / 1024) + e := by
      have : 0 ≤ ∑ k, r k * r k := Finset.sum_nonneg fun k _ => mul_self_nonneg (r k)
      positivity
    rw [hs, ← EReal.coe_mul, ← EReal.coe_add, Ideal.rsqrt_coe, if_neg (not_lt.mpr hp.le), if_neg hp.ne']
    exact ⟨_, rfl⟩
  · obtain ⟨k, hk⟩ := not_forall.mp hx
    have hkk : x k * x k = ⊤ := by
      rcases eq_or_ne (x k) ⊥ with h | h
      · rw [h]; rfl
      · rcases eq_or_ne (x k) ⊤ with h' | h'
        · rw [h']; rfl
        · exact absurd (Finite.of_ne ⟨h, h'⟩) hk
    have hs : ∑ k, x k * x k = ⊤ := by
      refine top_le_iff.mp (hkk ▸ ?_)
      exact Finset.single_le_sum (f := fun k => x k * x k) (fun i _ => square_nonneg (x i)) (Finset.mem_univ k)
    rw [hs, EReal.top_mul_coe_of_pos (by norm_num), EReal.top_add_coe, Ideal.rsqrt_top, mul_zero, zero_mul]
    exact ⟨0, rfl⟩

/-- Lane `l` lies in the `s`th run of 64. -/
abbrev Within (l s : ℕ) : Prop := 64 * s ≤ l ∧ l < 64 * s + 64

/-- The 32-bit comparisons that say a lane lies in a run. -/
theorem within_word (l : ℕ) (hl : l < 1024) (s : ℕ) (hs : s < 128) (a b : EReal) :
    Scalar.select (IntOp.andi (IntOp.cmpi .sge (BitVec.ofNat 32 l) (IntOp.muli (BitVec.ofNat 32 s) 64#32))
      (IntOp.cmpi .slt (BitVec.ofNat 32 l) (IntOp.addi (IntOp.muli (BitVec.ofNat 32 s) 64#32) 64#32))) a b
      = if Within l s then a else b := by
  have e1 : IntOp.muli (BitVec.ofNat 32 s) 64#32 = BitVec.ofNat 32 (64 * s) := by
    rw [mul_comm]; exact (BitVec.ofNat_mul s 64).symm
  have e2 : IntOp.addi (BitVec.ofNat 32 (64 * s)) 64#32 = BitVec.ofNat 32 (64 * s + 64) := (BitVec.ofNat_add _ _).symm
  rw [e1, e2, WordCmp.cmpi_slt_ofNat (by omega) (by omega), WordCmp.cmpi_sge_ofNat (by omega) (by omega), WordCmp.andi_ofBool]
  unfold Scalar.select
  by_cases h : Within l s
  · rw [if_pos h]; simp [h.1, h.2]
  · rw [if_neg h]
    refine if_neg fun h' => h ?_
    simpa using (WordCmp.ofBool_eq_one_iff' _).mp h'

/-- The terms within a run of 64 lanes. -/
theorem sum_within {n : ℕ} (g : Fin n → ℝ) (s : ℕ) (hs : 64 * s + 64 ≤ n) :
    (∑ x : Fin n, if Within x.val s then g x else 0) = ∑ d : Fin 64, g ⟨64 * s + d.val, by omega⟩ := by
  rw [← Finset.sum_filter]
  symm
  refine Finset.sum_bij (fun d _ => ⟨64 * s + d.val, by omega⟩) (fun d _ => ?_) (fun d _ d' _ h => ?_) (fun x hx => ?_) (fun _ _ => rfl)
  · rw [Finset.mem_filter]
    exact ⟨Finset.mem_univ _, Nat.le_add_right _ _, Nat.add_lt_add_left d.isLt _⟩
  · exact Fin.ext (Nat.add_left_cancel (Fin.mk.inj h))
  · obtain ⟨-, h0, h1⟩ := Finset.mem_filter.mp hx
    exact ⟨⟨x.val - 64 * s, by omega⟩, Finset.mem_univ _, Fin.ext (Nat.add_sub_cancel' h0)⟩

/-- The mean of squares of a head's 64 numbers. -/
def headMean {n : ℕ} (p : Fin n → EReal) (s : ℕ) (hs : 64 * s + 64 ≤ n) : EReal :=
  Ideal.div (∑ d : Fin 64, p ⟨64 * s + d.val, by omega⟩ * p ⟨64 * s + d.val, by omega⟩) (Ideal.ofBits .f32 0x42800000#32)

/-- A number of a head over the root of the head's mean of squares, times the head's gain: `H` heads of 64. -/
def headNormed {n : ℕ} (H : ℕ) (hn : n = 64 * H) (p : Fin n → EReal) (g : Fin 64 → EReal) (l : Fin n) : EReal :=
  p l * Ideal.rsqrt (headMean p (l.val / 64) (by omega) + Ideal.ofBits .f32 0x358637BD#32) * g ⟨l.val % 64, Nat.mod_lt _ (by norm_num)⟩

/-- A head's mean, through the matrix `A` that gathers lanes into heads and the matrix `B` that spreads heads over lanes,
    each product taken of a number's two parts. -/
theorem spread_mean {n H : ℕ} (hn : n = 64 * H) (hH : H ≤ 128) (p : Fin n → EReal) (hp : ∀ l, Finite (p l))
    (A : Fin n → Fin 128 → EReal) (B : Fin 128 → Fin n → EReal)
    (hA : ∀ l s, A l s = if Within l.val s.val then Ideal.ofBits .f32 0x3C800000#32 else 0)
    (hB : ∀ s l, B s l = if Within l.val s.val then 1 else 0) (l : Fin n) :
    (∑ s, (∑ x, p x * p x * A x s + ∑ x, (p x * p x - p x * p x) * A x s) * B s l)
      + ∑ s, (∑ x, p x * p x * A x s + ∑ x, (p x * p x - p x * p x) * A x s
          - (∑ x, p x * p x * A x s + ∑ x, (p x * p x - p x * p x) * A x s)) * B s l
      = headMean p (l.val / 64) (by omega) := by
  choose r hr using hp
  have hA' : ∀ x s, A x s = ((if Within x.val s.val then (1 / 64 : ℝ) else 0 : ℝ) : EReal) := fun x s => by
    rw [hA, part_eq]; split <;> rfl
  have hB' : ∀ s x, B s x = ((if Within x.val s.val then (1 : ℝ) else 0 : ℝ) : EReal) := fun s x => by
    rw [hB]; split <;> rfl
  have mean : ∀ s, ∑ x, p x * p x * A x s + ∑ x, (p x * p x - p x * p x) * A x s
      = ((∑ x, r x * r x * (if Within x.val s.val then (1 / 64 : ℝ) else 0) : ℝ) : EReal) := fun s => by
    have zero : ∑ x, (p x * p x - p x * p x) * A x s = 0 := Finset.sum_eq_zero fun x _ => by
      rw [hr x, ← EReal.coe_mul, ← EReal.coe_sub, sub_self, EReal.coe_zero, zero_mul]
    rw [zero, add_zero, coe_sum]
    exact Finset.sum_congr rfl fun x _ => by rw [hr x, hA', EReal.coe_mul, EReal.coe_mul]
  have zero : ∀ s, ((∑ x, p x * p x * A x s + ∑ x, (p x * p x - p x * p x) * A x s)
      - (∑ x, p x * p x * A x s + ∑ x, (p x * p x - p x * p x) * A x s)) * B s l = 0 := fun s => by
    rw [mean, ← EReal.coe_sub, sub_self, EReal.coe_zero, zero_mul]
  rw [Finset.sum_eq_zero fun s _ => zero s, add_zero]
  have hl : l.val / 64 < 128 := by omega
  rw [Finset.sum_eq_single (⟨l.val / 64, hl⟩ : Fin 128)
    (fun s _ hs => by
      rw [hB, if_neg, mul_zero]
      rintro ⟨h0, h1⟩
      exact hs (Fin.ext (by show s.val = l.val / 64; omega)))
    (fun h => absurd (Finset.mem_univ _) h)]
  rw [mean, hB, if_pos ⟨by show 64 * (l.val / 64) ≤ l.val; omega, by show l.val < 64 * (l.val / 64) + 64; omega⟩, mul_one]
  unfold headMean
  rw [sixty_four_eq, Ideal.div_coe (by norm_num)]
  have hs : ∑ x : Fin n, r x * r x * (if Within x.val (l.val / 64) then (1 / 64 : ℝ) else 0)
      = (∑ d : Fin 64, r ⟨64 * (l.val / 64) + d.val, by omega⟩ * r ⟨64 * (l.val / 64) + d.val, by omega⟩) * (1 / 64) := by
    rw [Finset.sum_mul, ← sum_within (fun x => r x * r x * (1 / 64)) (l.val / 64) (by omega)]
    exact Finset.sum_congr rfl fun x _ => by rw [mul_ite, mul_zero]
  rw [hs, EReal.coe_mul, coe_sum]
  congr 1
  exact Finset.sum_congr rfl fun d _ => by rw [hr, EReal.coe_mul]

end Cert.Proof.ProjC

end
-- ==== Proof.ProjC.Pre.lean ====
/- The precondition of the odd layer's projection, read back: the gain and the query and key columns of the projection are
   real numbers. -/
module

public import proofs.«01_k».proof.Defs
public import proofs.«01_k».proof.Proof.ProjC.Math
public import Idealize.ShloMosaic.Lib.Decide
public import Idealize.ShloMosaic.Lib.Pointwise
public import Idealize.ShloMosaic.Lib.ReduceAll

@[expose] public section

set_option maxRecDepth 16384

noncomputable section

namespace Cert.Proof.ProjC.Pre

open Idealize.ShloMosaic

instance facts6 : Cert.Pre_finite6.Facts where
  bcast_S_S1024 := by decide
  reducesTo_S1024_S_d0 := by decide
  h_S_ := by decide
  slices_S1024x2120_S1024x1280_0_0 := by decide
  bcast_S_S1024x1280 := by decide
  reducesTo_S1024x1280_S_d0_1 := by decide

instance facts9 : Cert.Pre_finite9.Facts where
  bcast_S_S1024 := by decide
  reducesTo_S1024_S_d0 := by decide
  h_S_ := by decide
  slices_S1024x2120_S1024x1280_0_0 := by decide
  bcast_S_S1024x1280 := by decide
  reducesTo_S1024x1280_S_d0_1 := by decide

/-- The precondition reads `|x| < inf` as this comparison; only a real number meets it. -/
theorem real_of (x : EReal) (h : BitVec.ofBool (decide (max x (-x) < Ideal.ofBits .f32 0x7F800000#32)) = 1#1) : Finite x := by
  have hi : Ideal.ofBits .f32 0x7F800000#32 = ⊤ := by simp [Ideal.ofBits, Ideal.ieee]
  rw [hi] at h
  refine Finite.of_ne ⟨?_, ?_⟩
  · rintro rfl; simp at h
  · rintro rfl; simp at h

theorem finite9_of (x : FVec Ideal Cert.Pre_finite9.S17408x1024 .f32) (g : FVec Ideal Cert.Pre_finite9.S1024 .f32)
    (w : FVec Ideal Cert.Pre_finite9.S1024x2120 .f32) (q k : FVec Ideal Cert.Pre_finite9.S64 .f32)
    (h : Cert.Pre_finite9.fn (F := Ideal) x g w q k = fun _ => 1#1) :
    (∀ i, Finite (g i)) ∧ ∀ (j : Fin 1024) (e : Fin 2120), e.val < 1280 → Finite (w (ix2 j e)) := by
  have h1 := IntOp.andi_eq_one.mp (congrFun h ix0)
  have hs : Subsingleton Cert.Pre_finite9.S_.Idx := ⟨fun x y => funext fun a => a.elim0⟩
  refine ⟨fun i => real_of _ (Host.reduce_andi_all _ _ _ _ _ h1.1 i), fun j e he => ?_⟩
  have e1 := Host.reduce_andi_all _ _ _ _ _ h1.2 (ix2 j ⟨e.val, he⟩)
  refine real_of _ (Eq.trans ?_ e1)
  pointwise
  rfl

theorem finite6_of (x : FVec Ideal Cert.Pre_finite6.S17408x1024 .f32) (g : FVec Ideal Cert.Pre_finite6.S1024 .f32)
    (w : FVec Ideal Cert.Pre_finite6.S1024x2120 .f32) (q k : FVec Ideal Cert.Pre_finite6.S64 .f32)
    (ks vs : FVec Ideal Cert.Pre_finite6.S2x4x256x4096 .f32) (is : FVec Ideal Cert.Pre_finite6.S2x4x64x4096 .f32)
    (h : Cert.Pre_finite6.fn (F := Ideal) x g w q k ks vs is = fun _ => 1#1) :
    (∀ i, Finite (g i)) ∧ ∀ (j : Fin 1024) (e : Fin 2120), e.val < 1280 → Finite (w (ix2 j e)) :=
  finite9_of x g w q k h

end Cert.Proof.ProjC.Pre

end
-- ==== Proof.SbIdeal.Loop.lean ====
/-
  The four loops of the stick-breaking body, one for each pair of heads. A loop holds the staging buffers of the queries,
  keys and values, reads one tile of keys and values a trip, and returns what `iter` computes from the tiles: the state
  is stepped while the tile index is not negative and the largest carry is above the stop value. The tile index falls by
  one each trip, so a loop entered at tile `j` makes at most `j + 1` trips.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.SbIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The label's variants: the number of trips a call may still make. -/
abbrev 𝒱₀ : Variants := Variants.nat

/-- A loop's state: the tile to visit, the largest carry, the two heads' carries, their two accumulators. -/
abbrev St (F : FTy → Type) := BitVec 32 × F .f32 × FVec F S1x256 .f32 × FVec F S1x256 .f32 × FVec F S64x256 .f32 × FVec F S64x256 .f32

/-- A loop goes on while there is a tile left and the largest carry is above the stop value. -/
abbrev goesOn (s : St F) : BitVec 1 :=
  Scalar.andi (Scalar.cmpi .sge s.1 0#32) (Scalar.cmpf .ogt s.2.1 (Named.named κ "exit" 0xC2D00000#32))

/-- At most `k` trips of a loop whose trip is `stp`. -/
def iter (stp : St F → St F) : ℕ → St F → St F
  | 0, s => s
  | k + 1, s => if goesOn s = 1#1 then iter stp k (stp s) else s

/-- Where a loop reads: the side condition of a tile index, and the corners of its six loads (keys, queries and values of
    the pair's first head, then of its second). -/
structure Sites where
  chk : BitVec 32 → Prop
  dec : ∀ j, Decidable (chk j)
  oK : BitVec 32 → Fin 3 → ℕ
  hK : ∀ j, chk j → ∀ a, oK j a + S1x256x64.size a ≤ S1x4096x512.size a
  oV : BitVec 32 → Fin 4 → ℕ
  hV : ∀ j, chk j → ∀ a, oV j a + S1x1x64x256.size a ≤ S1x1x512x4096.size a
  oQ : Fin 3 → ℕ
  hQ : ∀ a, oQ a + S1x64x256.size a ≤ S1x512x256.size a
  oK' : BitVec 32 → Fin 3 → ℕ
  hK' : ∀ j, chk j → ∀ a, oK' j a + S1x256x64.size a ≤ S1x4096x512.size a
  oV' : BitVec 32 → Fin 4 → ℕ
  hV' : ∀ j, chk j → ∀ a, oV' j a + S1x1x64x256.size a ≤ S1x1x512x4096.size a
  oQ' : Fin 3 → ℕ
  hQ' : ∀ a, oQ' a + S1x64x256.size a ≤ S1x512x256.size a

/-- Heads 0 and 1. -/
def sites1 : Sites := ⟨k0_chk1, k0_chk1.dec, k0_off1, k0_off1_inb, k0_off2, k0_off2_inb, ![0, 0, 0], inb_S1x512x256_S1x64x256_0_0_0,
  k0_off3, k0_off3_inb, k0_off4, k0_off4_inb, ![0, 64, 0], inb_S1x512x256_S1x64x256_0_64_0⟩

/-- Heads 2 and 3. -/
def sites2 : Sites := ⟨k0_chk2, k0_chk2.dec, k0_off5, k0_off5_inb, k0_off6, k0_off6_inb, ![0, 128, 0], inb_S1x512x256_S1x64x256_0_128_0,
  k0_off7, k0_off7_inb, k0_off8, k0_off8_inb, ![0, 192, 0], inb_S1x512x256_S1x64x256_0_192_0⟩

/-- Heads 4 and 5. -/
def sites3 : Sites := ⟨k0_chk3, k0_chk3.dec, k0_off9, k0_off9_inb, k0_off10, k0_off10_inb, ![0, 256, 0], inb_S1x512x256_S1x64x256_0_256_0,
  k0_off11, k0_off11_inb, k0_off12, k0_off12_inb, ![0, 320, 0], inb_S1x512x256_S1x64x256_0_320_0⟩

/-- Heads 6 and 7. -/
def sites4 : Sites := ⟨k0_chk4, k0_chk4.dec, k0_off13, k0_off13_inb, k0_off14, k0_off14_inb, ![0, 384, 0], inb_S1x512x256_S1x64x256_0_384_0,
  k0_off15, k0_off15_inb, k0_off16, k0_off16_inb, ![0, 448, 0], inb_S1x512x256_S1x64x256_0_448_0⟩

section Steps

variable (v0 v4 : IVec S256x256 32) (v6 : FVec F S256x256 .bf16)

/-- The state after one trip, from the six tiles it loads. -/
def stepOf (s : St F) (kA : Vec F S1x256x64 .bf16) (qA : Vec F S1x64x256 .bf16) (vA : Vec F S1x1x64x256 .f32)
    (kB : Vec F S1x256x64 .bf16) (qB : Vec F S1x64x256 .bf16) (vB : Vec F S1x1x64x256 .f32) : St F :=
  (Scalar.subi s.1 1#32,
    k0_pay10 s.2.2.2.1 (k0_pay41 s.2.2.1 (k0_pay38 v0 v4 s.1 kA qA)) (k0_pay44 (k0_pay35 v0 v4 s.1) kB qB),
    k0_pay41 s.2.2.1 (k0_pay38 v0 v4 s.1 kA qA),
    k0_pay9 s.2.2.2.1 (k0_pay44 (k0_pay35 v0 v4 s.1) kB qB),
    k0_pay40 s.2.2.2.2.1 (k0_pay39 v0 v4 v6 s.1 s.2.2.1 kA qA) vA,
    k0_pay8 s.2.2.2.2.2 (k0_pay45 v6 s.2.2.2.1 (k0_pay35 v0 v4 s.1) kB qB) vB)

/-- One trip, from the contents of the three staging buffers. -/
def step (S : Sites) (x2 : Vec F S1x512x256 .bf16) (x3 : Vec F S1x4096x512 .bf16) (x4 : Vec F S1x1x512x4096 .f32) (s : St F) : St F :=
  haveI := S.dec s.1
  if h : S.chk s.1 then
    stepOf v0 v4 v6 s (View.ld x3 (Rect.unit (s := S1x4096x512) (S.oK s.1) S1x256x64.size (S.hK s.1 h)))
      (View.ld x2 (Rect.unit (s := S1x512x256) S.oQ S1x64x256.size S.hQ))
      (View.ld x4 (Rect.unit (s := S1x1x512x4096) (S.oV s.1) S1x1x64x256.size (S.hV s.1 h)))
      (View.ld x3 (Rect.unit (s := S1x4096x512) (S.oK' s.1) S1x256x64.size (S.hK' s.1 h)))
      (View.ld x2 (Rect.unit (s := S1x512x256) S.oQ' S1x64x256.size S.hQ'))
      (View.ld x4 (Rect.unit (s := S1x1x512x4096) (S.oV' s.1) S1x1x64x256.size (S.hV' s.1 h)))
  else s

/-- A loop's function: the guard, then the trip's loads, then the call of the function on the next state. -/
def body (S : Sites) (a2 : Memref sig .tc .vmem S1x512x256 .bf16) (a3 : Memref sig .tc .vmem S1x4096x512 .bf16)
    (a4 : Memref sig .tc .vmem S1x1x512x4096 .f32) (call : St F → Prog (TpuEff nD τ sig (Elt F) (Λ₀ F) .tc) (St F)) (s : St F) :
    Prog (TpuEff nD τ sig (Elt F) (Λ₀ F) .tc) (St F) :=
  if goesOn s = 1#1 then do
    have h : S.chk s.1 := (← Prog.lift (TpuEff.assume (S.chk s.1) (S.dec s.1))).down
    let kA : Vec F S1x256x64 .bf16 ← Prog.lift (.load a3 (Rect.unit (s := S1x4096x512) (S.oK s.1) S1x256x64.size (S.hK s.1 h)).toLoadRect (View.loadsAt_vmem h_S1x256x64))
    let qA : Vec F S1x64x256 .bf16 ← Prog.lift (.load a2 (Rect.unit (s := S1x512x256) S.oQ S1x64x256.size S.hQ).toLoadRect (View.loadsAt_vmem h_S1x64x256))
    let vA : Vec F S1x1x64x256 .f32 ← Prog.lift (.load a4 (Rect.unit (s := S1x1x512x4096) (S.oV s.1) S1x1x64x256.size (S.hV s.1 h)).toLoadRect (View.loadsAt_vmem h_S1x1x64x256))
    let kB : Vec F S1x256x64 .bf16 ← Prog.lift (.load a3 (Rect.unit (s := S1x4096x512) (S.oK' s.1) S1x256x64.size (S.hK' s.1 h)).toLoadRect (View.loadsAt_vmem h_S1x256x64))
    let qB : Vec F S1x64x256 .bf16 ← Prog.lift (.load a2 (Rect.unit (s := S1x512x256) S.oQ' S1x64x256.size S.hQ').toLoadRect (View.loadsAt_vmem h_S1x64x256))
    let vB : Vec F S1x1x64x256 .f32 ← Prog.lift (.load a4 (Rect.unit (s := S1x1x512x4096) (S.oV' s.1) S1x1x64x256.size (S.hV' s.1 h)).toLoadRect (View.loadsAt_vmem h_S1x1x64x256))
    call (stepOf v0 v4 v6 s kA qA vA kB qB vB)
  else pure s

end Steps

/-- A word that is not negative and below 16 is one of sixteen. -/
theorem word_cases (j : BitVec 32) (h0 : 0 ≤ j.toInt) (h1 : j.toInt < 16) : ∃ n : Fin 16, j = BitVec.ofNat 32 n.val :=
  ⟨⟨j.toInt.toNat, by omega⟩, BitVec.eq_of_toInt_eq (by
    rw [WordCmp.toInt_ofNat_of_lt (by show j.toInt.toNat < _; omega)]; exact (Int.toNat_of_nonneg h0).symm)⟩

/-- A tile index that is not negative and below 16 puts every access of the trip inside its window. -/
def Sites.Fits (S : Sites) : Prop := ∀ n : Fin 16, S.chk (BitVec.ofNat 32 n.val)

theorem fits1 : sites1.Fits := by unfold Sites.Fits sites1; decide +kernel
theorem fits2 : sites2.Fits := by unfold Sites.Fits sites2; decide +kernel
theorem fits3 : sites3.Fits := by unfold Sites.Fits sites3; decide +kernel
theorem fits4 : sites4.Fits := by unfold Sites.Fits sites4; decide +kernel

/-- The guard's first half read as an inequality. -/
theorem nonneg_of_goesOn {s : St F} (h : goesOn s = 1#1) : 0 ≤ s.1.toInt := by
  by_contra hn
  have e : Scalar.cmpi .sge s.1 0#32 = 0#1 := by
    show IntOp.cmpi .sge s.1 0#32 = 0#1
    rw [WordCmp.cmpi_sge_eq, WordCmp.ofBool_decide_eq_zero_iff]; exact hn
  rw [goesOn, e] at h
  exact absurd h (by show ¬ (0#1 &&& _) = 1#1; rw [BitVec.zero_and]; decide)

/-- The tile index after a trip. -/
theorem toInt_pred (j : BitVec 32) (h0 : 0 ≤ j.toInt) : (Scalar.subi j 1#32).toInt = j.toInt - 1 := by
  show (j - 1#32).toInt = _
  have := BitVec.toInt_lt (x := j)
  rw [BitVec.toInt_sub, show (1#32).toInt = 1 from rfl, Int.bmod_eq_of_le] <;> omega

section Labels

variable (c : Dev nD) (E : Set ℕ) (i : grid0.Coords) (v0 v4 : IVec S256x256 32) (v6 : FVec F S256x256 .bf16)
  (a2 : Memref sig .tc .vmem S1x512x256 .bf16) (h2 : a2.IsWhole) (a3 : Memref sig .tc .vmem S1x4096x512 .bf16) (h3 : a3.IsWhole)
  (a4 : Memref sig .tc .vmem S1x1x512x4096 .f32) (h4 : a4.IsWhole)
  (f2 : Buf (Elt F) (a2.view.loc (c : Thread nD τ))) (f3 : Buf (Elt F) (a3.view.loc (c : Thread nD τ))) (f4 : Buf (Elt F) (a4.view.loc (c : Thread nD τ)))

/-- The three staging buffers a loop reads, at their contents. -/
def held : sProp 𝕄 :=
  iprop((a2.view.loc (c : Thread nD τ) ↦[a2.view.set]{fullShare} f2) ∗ (a3.view.loc (c : Thread nD τ) ↦[a3.view.set]{fullShare} f3)
    ∗ (a4.view.loc (c : Thread nD τ) ↦[a4.view.set]{fullShare} f4))

/-- What a loop's call does: it gives the buffers back as they were and returns `r`. -/
def spec (r : St F) : sWPT 𝕄 (St F) := do
  sWPT.consume (held c a2 a3 a4 f2 f3 f4)
  sWPT.produce (held c a2 a3 a4 f2 f3 f4)
  pure r

theorem spec_apply (r : St F) (K : St F → sProp 𝕄) :
    spec c a2 a3 a4 f2 f3 f4 r K = iprop(held c a2 a3 a4 f2 f3 f4 ∗ (held c a2 a3 a4 f2 f3 f4 -∗ K r)) := rfl

/-- A loop's function meets the specification at `iter`, by induction on the trips left, when its call of itself with one
    trip less meets what its body does (`hcall`). -/
theorem loop (S : Sites) (hS : S.Fits) (call : St F → Prog (TpuEff nD τ sig (Elt F) (Λ₀ F) .tc) (St F))
    (hcall : ∀ k s r, spec c a2 a3 a4 f2 f3 f4 r ≤ wp frame (wpE (defs₀ (F := F)) 𝒱₀ (c : Thread nD τ) (some k)) E (body v0 v4 v6 S a2 a3 a4 call s)
      → spec c a2 a3 a4 f2 f3 f4 r ≤ wp frame (wpE (defs₀ (F := F)) 𝒱₀ (c : Thread nD τ) (some (k + 1))) E (call s)) :
    ∀ (k : ℕ) (s : St F), s.1.toInt < k → k ≤ 16 →
    spec c a2 a3 a4 f2 f3 f4 (iter (step v0 v4 v6 S (a2.view.read (Elt F) f2) (a3.view.read (Elt F) f3) (a4.view.read (Elt F) f4)) k s)
      ≤ wp frame (wpE (defs₀ (F := F)) 𝒱₀ (c : Thread nD τ) (some k)) E (body v0 v4 v6 S a2 a3 a4 call s) := by
  intro k
  induction k with
  | zero =>
    intro s hs _ K
    rw [spec_apply]
    unfold body
    have hg : ¬ goesOn s = 1#1 := fun h => by have := nonneg_of_goesOn h; simp at hs this; omega
    rw [if_neg hg]
    simp only [Prog.pure_eq_ret, iter]
    show (_ : sProp 𝕄) ⊢ _
    iintro ⟨H, Hk⟩
    rw [wp_ret]; imodintro
    iapply Hk
    iexact H
  | succ k ih =>
    intro s hs hk K
    unfold body
    by_cases hg : goesOn s = 1#1
    swap
    · rw [spec_apply, if_neg hg]
      simp only [Prog.pure_eq_ret, iter, if_neg hg]
      show (_ : sProp 𝕄) ⊢ _
      iintro ⟨H, Hk⟩
      rw [wp_ret]; imodintro
      iapply Hk
      iexact H
    have h0 := nonneg_of_goesOn hg
    have hchk : S.chk s.1 := by
      obtain ⟨n, hn⟩ := word_cases s.1 h0 (by push_cast at hs; omega)
      rw [hn]; exact hS n
    rw [if_pos hg]
    simp only [iter, if_pos hg]
    simp only [Prog.lift, Prog.bind_op, Prog.bind_ret, Prog.pure_eq_ret]
    have hnext := hcall k (step v0 v4 v6 S (a2.view.read (Elt F) f2) (a3.view.read (Elt F) f3) (a4.view.read (Elt F) f4) s) _
      (ih (step v0 v4 v6 S (a2.view.read (Elt F) f2) (a3.view.read (Elt F) f3) (a4.view.read (Elt F) f4) s)
          (by
            have e : (step v0 v4 v6 S (a2.view.read (Elt F) f2) (a3.view.read (Elt F) f3) (a4.view.read (Elt F) f4) s).1 = Scalar.subi s.1 1#32 := by
              unfold step; rw [dif_pos hchk]; rfl
            rw [e, toInt_pred s.1 h0]; push_cast at hs; omega) (by omega)) K
    rw [spec_apply] at hnext ⊢
    have hst : step v0 v4 v6 S (a2.view.read (Elt F) f2) (a3.view.read (Elt F) f3) (a4.view.read (Elt F) f4) s = _ := dif_pos hchk
    rw [hst] at hnext ⊢
    unfold held at hnext ⊢
    replace hnext : (_ : sProp 𝕄) ⊢ _ := hnext
    show (_ : sProp 𝕄) ⊢ _
    iintro ⟨⟨H2, H3, H4⟩, Hk⟩
    iapply (wp_assume 𝒱₀ (c : Thread nD τ) (some (k + 1)) E hchk)
    sl_exec
    iapply hnext
    isplitl [H2 H3 H4]
    · isplitl [H2]; · iexact H2
      isplitl [H3]; · iexact H3
      iexact H4
    iexact Hk

/-- The call of loop 1's label on a state. -/
def call1 (s : St F) : Prog (TpuEff nD τ sig (Elt F) (Λ₀ F) .tc) (St F) :=
  .op (.call (1 : (Λ₀ F).Label) ⟨i, v0, v4, a3, h3, a2, h2, v6, a4, h4, s.1, s.2.1, s.2.2.1, s.2.2.2.1, s.2.2.2.2.1, s.2.2.2.2.2⟩) .ret
/-- The call of loop 2's label on a state. -/
def call2 (s : St F) : Prog (TpuEff nD τ sig (Elt F) (Λ₀ F) .tc) (St F) :=
  .op (.call (2 : (Λ₀ F).Label) ⟨i, v0, v4, a3, h3, a2, h2, v6, a4, h4, s.1, s.2.1, s.2.2.1, s.2.2.2.1, s.2.2.2.2.1, s.2.2.2.2.2⟩) .ret
/-- The call of loop 3's label on a state. -/
def call3 (s : St F) : Prog (TpuEff nD τ sig (Elt F) (Λ₀ F) .tc) (St F) :=
  .op (.call (3 : (Λ₀ F).Label) ⟨i, v0, v4, a3, h3, a2, h2, v6, a4, h4, s.1, s.2.1, s.2.2.1, s.2.2.2.1, s.2.2.2.2.1, s.2.2.2.2.2⟩) .ret
/-- The call of loop 4's label on a state. -/
def call4 (s : St F) : Prog (TpuEff nD τ sig (Elt F) (Λ₀ F) .tc) (St F) :=
  .op (.call (4 : (Λ₀ F).Label) ⟨i, v0, v4, a3, h3, a2, h2, v6, a4, h4, s.1, s.2.1, s.2.2.1, s.2.2.2.1, s.2.2.2.2.1, s.2.2.2.2.2⟩) .ret

/-- Each label's function is `body` at its sites. -/
theorem defs1 (s : St F) : defs₀ (F := F) .tc 1 ⟨i, v0, v4, a3, h3, a2, h2, v6, a4, h4, s.1, s.2.1, s.2.2.1, s.2.2.2.1, s.2.2.2.2.1, s.2.2.2.2.2⟩
    = body v0 v4 v6 sites1 a2 a3 a4 (call1 i v0 v4 v6 a2 h2 a3 h3 a4 h4) s := rfl
theorem defs2 (s : St F) : defs₀ (F := F) .tc 2 ⟨i, v0, v4, a3, h3, a2, h2, v6, a4, h4, s.1, s.2.1, s.2.2.1, s.2.2.2.1, s.2.2.2.2.1, s.2.2.2.2.2⟩
    = body v0 v4 v6 sites2 a2 a3 a4 (call2 i v0 v4 v6 a2 h2 a3 h3 a4 h4) s := rfl
theorem defs3 (s : St F) : defs₀ (F := F) .tc 3 ⟨i, v0, v4, a3, h3, a2, h2, v6, a4, h4, s.1, s.2.1, s.2.2.1, s.2.2.2.1, s.2.2.2.2.1, s.2.2.2.2.2⟩
    = body v0 v4 v6 sites3 a2 a3 a4 (call3 i v0 v4 v6 a2 h2 a3 h3 a4 h4) s := rfl
theorem defs4 (s : St F) : defs₀ (F := F) .tc 4 ⟨i, v0, v4, a3, h3, a2, h2, v6, a4, h4, s.1, s.2.1, s.2.2.1, s.2.2.2.1, s.2.2.2.2.1, s.2.2.2.2.2⟩
    = body v0 v4 v6 sites4 a2 a3 a4 (call4 i v0 v4 v6 a2 h2 a3 h3 a4 h4) s := rfl

/-- Loop 1's label, called on a state whose tile index is below 16, returns what sixteen trips at most leave. -/
theorem label1 (s : St F) (hs : s.1.toInt < 16) :
    spec c a2 a3 a4 f2 f3 f4 (iter (step v0 v4 v6 sites1 (a2.view.read (Elt F) f2) (a3.view.read (Elt F) f3) (a4.view.read (Elt F) f4)) 16 s)
      ≤ wp frame (wpE (defs₀ (F := F)) 𝒱₀ (c : Thread nD τ) (some 16)) E
          (defs₀ (F := F) .tc 1 ⟨i, v0, v4, a3, h3, a2, h2, v6, a4, h4, s.1, s.2.1, s.2.2.1, s.2.2.2.1, s.2.2.2.2.1, s.2.2.2.2.2⟩) := by
  rw [defs1]
  refine loop c E v0 v4 v6 a2 a3 a4 f2 f3 f4 sites1 fits1 _ (fun k s r h K => ?_) 16 s hs le_rfl
  rw [← defs1] at h
  unfold call1
  refine (?_ : (_ : sProp 𝕄) ⊢ _)
  refine BIBase.Entails.trans ?_ (wp_call_spec 𝒱₀ (c : Thread nD τ) (some (k + 1)) E (spec c a2 a3 a4 f2 f3 f4 r) k (fun u hu => by cases hu; exact Nat.lt_succ_self k) h)
  rw [spec_apply, spec_apply]
  iintro ⟨H, Hk⟩
  isplitl [H]; · iexact H
  iintro H
  rw [wp_ret]; imodintro
  iapply Hk; iexact H

/-- Loop 2's label, called on a state whose tile index is below 16, returns what sixteen trips at most leave. -/
theorem label2 (s : St F) (hs : s.1.toInt < 16) :
    spec c a2 a3 a4 f2 f3 f4 (iter (step v0 v4 v6 sites2 (a2.view.read (Elt F) f2) (a3.view.read (Elt F) f3) (a4.view.read (Elt F) f4)) 16 s)
      ≤ wp frame (wpE (defs₀ (F := F)) 𝒱₀ (c : Thread nD τ) (some 16)) E
          (defs₀ (F := F) .tc 2 ⟨i, v0, v4, a3, h3, a2, h2, v6, a4, h4, s.1, s.2.1, s.2.2.1, s.2.2.2.1, s.2.2.2.2.1, s.2.2.2.2.2⟩) := by
  rw [defs2]
  refine loop c E v0 v4 v6 a2 a3 a4 f2 f3 f4 sites2 fits2 _ (fun k s r h K => ?_) 16 s hs le_rfl
  rw [← defs2] at h
  unfold call2
  refine (?_ : (_ : sProp 𝕄) ⊢ _)
  refine BIBase.Entails.trans ?_ (wp_call_spec 𝒱₀ (c : Thread nD τ) (some (k + 1)) E (spec c a2 a3 a4 f2 f3 f4 r) k (fun u hu => by cases hu; exact Nat.lt_succ_self k) h)
  rw [spec_apply, spec_apply]
  iintro ⟨H, Hk⟩
  isplitl [H]; · iexact H
  iintro H
  rw [wp_ret]; imodintro
  iapply Hk; iexact H

/-- Loop 3's label, called on a state whose tile index is below 16, returns what sixteen trips at most leave. -/
theorem label3 (s : St F) (hs : s.1.toInt < 16) :
    spec c a2 a3 a4 f2 f3 f4 (iter (step v0 v4 v6 sites3 (a2.view.read (Elt F) f2) (a3.view.read (Elt F) f3) (a4.view.read (Elt F) f4)) 16 s)
      ≤ wp frame (wpE (defs₀ (F := F)) 𝒱₀ (c : Thread nD τ) (some 16)) E
          (defs₀ (F := F) .tc 3 ⟨i, v0, v4, a3, h3, a2, h2, v6, a4, h4, s.1, s.2.1, s.2.2.1, s.2.2.2.1, s.2.2.2.2.1, s.2.2.2.2.2⟩) := by
  rw [defs3]
  refine loop c E v0 v4 v6 a2 a3 a4 f2 f3 f4 sites3 fits3 _ (fun k s r h K => ?_) 16 s hs le_rfl
  rw [← defs3] at h
  unfold call3
  refine (?_ : (_ : sProp 𝕄) ⊢ _)
  refine BIBase.Entails.trans ?_ (wp_call_spec 𝒱₀ (c : Thread nD τ) (some (k + 1)) E (spec c a2 a3 a4 f2 f3 f4 r) k (fun u hu => by cases hu; exact Nat.lt_succ_self k) h)
  rw [spec_apply, spec_apply]
  iintro ⟨H, Hk⟩
  isplitl [H]; · iexact H
  iintro H
  rw [wp_ret]; imodintro
  iapply Hk; iexact H

/-- Loop 4's label, called on a state whose tile index is below 16, returns what sixteen trips at most leave. -/
theorem label4 (s : St F) (hs : s.1.toInt < 16) :
    spec c a2 a3 a4 f2 f3 f4 (iter (step v0 v4 v6 sites4 (a2.view.read (Elt F) f2) (a3.view.read (Elt F) f3) (a4.view.read (Elt F) f4)) 16 s)
      ≤ wp frame (wpE (defs₀ (F := F)) 𝒱₀ (c : Thread nD τ) (some 16)) E
          (defs₀ (F := F) .tc 4 ⟨i, v0, v4, a3, h3, a2, h2, v6, a4, h4, s.1, s.2.1, s.2.2.1, s.2.2.2.1, s.2.2.2.2.1, s.2.2.2.2.2⟩) := by
  rw [defs4]
  refine loop c E v0 v4 v6 a2 a3 a4 f2 f3 f4 sites4 fits4 _ (fun k s r h K => ?_) 16 s hs le_rfl
  rw [← defs4] at h
  unfold call4
  refine (?_ : (_ : sProp 𝕄) ⊢ _)
  refine BIBase.Entails.trans ?_ (wp_call_spec 𝒱₀ (c : Thread nD τ) (some (k + 1)) E (spec c a2 a3 a4 f2 f3 f4 r) k (fun u hu => by cases hu; exact Nat.lt_succ_self k) h)
  rw [spec_apply, spec_apply]
  iintro ⟨H, Hk⟩
  isplitl [H]; · iexact H
  iintro H
  rw [wp_ret]; imodintro
  iapply Hk; iexact H

end Labels

end Cert.Proof.SbIdeal

end
-- ==== Proof.SbIdeal.Body.lean ====
/-
  The stick-breaking body at one grid point: four loops, each followed by a store of its pair's 128 columns. The four
  stores tile the output block, so what the body leaves there is `out`, a function of the four input blocks and the
  grid point.
-/
module

public import proofs.«01_k».proof.Proof.SbIdeal.Loop

@[expose] public section

set_option maxRecDepth 16384

noncomputable section

namespace Cert.Proof.SbIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The columns of the four pairs in the output block. -/
abbrev rO1 : Rect S1x256x512 := Rect.unit (s := S1x256x512) ![0, 0, 0] S1x256x128.size inb_S1x256x512_S1x256x128_0_0_0
abbrev rO2 : Rect S1x256x512 := Rect.unit (s := S1x256x512) ![0, 0, 128] S1x256x128.size inb_S1x256x512_S1x256x128_0_0_128
abbrev rO3 : Rect S1x256x512 := Rect.unit (s := S1x256x512) ![0, 0, 256] S1x256x128.size inb_S1x256x512_S1x256x128_0_0_256
abbrev rO4 : Rect S1x256x512 := Rect.unit (s := S1x256x512) ![0, 0, 384] S1x256x128.size inb_S1x256x512_S1x256x128_0_0_384
/-- The whole of the triangular matrix's block. -/
abbrev rU : Rect S256x256 := Rect.unit (s := S256x256) ![0, 0] S256x256.size inb_S256x256_S256x256_0_0

/-- A loop's state at the start: the query block's last tile of keys, no carry, empty accumulators. -/
def start (i : grid0.Coords) : St F :=
  (Scalar.addi (Scalar.muli (BitVec.ofNat 32 (i 1).val) 1#32) 0#32, Scalar.ofBits .f32 0x00000000#32,
    k0_pay22 (F := F), k0_pay23 (F := F), k0_pay24 (F := F), k0_pay25 (F := F))

theorem start_lt (i : grid0.Coords) : (start (F := F) i).1.toInt < 16 := by
  have h : (i 1).val < 16 := (i 1).isLt
  show ((BitVec.ofNat 32 (i 1).val * 1#32) + 0#32).toInt < 16
  rw [BitVec.mul_one, BitVec.add_zero, WordCmp.toInt_ofNat_of_lt (by omega)]
  exact_mod_cast h

/-- What a pair's loop leaves at grid point `i`. -/
def fin (S : Sites) (i : grid0.Coords) (x2 : Vec F S1x512x256 .bf16) (x3 : Vec F S1x4096x512 .bf16) (x4 : Vec F S1x1x512x4096 .f32)
    (x5 : Vec F S256x256 .bf16) : St F :=
  iter (step (iota .tc S256x256 32 [0] iota_S256x256_d0_w32) (k0_pay20 i) (k0_pay21 (View.ld x5 rU)) S x2 x3 x4) 16 (start i)

/-- The output block after the body: its four stores as pieces, the last first. -/
def out (i : grid0.Coords) (x2 : Vec F S1x512x256 .bf16) (x3 : Vec F S1x4096x512 .bf16) (x4 : Vec F S1x1x512x4096 .f32)
    (x5 : Vec F S256x256 .bf16) : Vec F S1x256x512 .f32 :=
  View.canon [⟨rO4, k0_pay7 (fin sites4 i x2 x3 x4 x5).2.2.2.2.1 (fin sites4 i x2 x3 x4 x5).2.2.2.2.2⟩,
    ⟨rO3, k0_pay2 (fin sites3 i x2 x3 x4 x5).2.2.2.2.1 (fin sites3 i x2 x3 x4 x5).2.2.2.2.2⟩,
    ⟨rO2, k0_pay31 (fin sites2 i x2 x3 x4 x5).2.2.2.2.1 (fin sites2 i x2 x3 x4 x5).2.2.2.2.2⟩,
    ⟨rO1, k0_pay26 (fin sites1 i x2 x3 x4 x5).2.2.2.2.1 (fin sites1 i x2 x3 x4 x5).2.2.2.2.2⟩]

/-- The four stores tile the block. -/
theorem cover (p1 p2 p3 p4 : Vec F S1x256x128 .f32) (y : S1x256x512.Idx) :
    ∃ pc ∈ ([⟨rO4, p4⟩, ⟨rO3, p3⟩, ⟨rO2, p2⟩, ⟨rO1, p1⟩] : List (View.Piece (Elt F) S1x256x512 .f32)), y ∈ pc.1.set :=
  View.cover_of_tiled [⟨rO4, p4⟩, ⟨rO3, p3⟩, ⟨rO2, p2⟩, ⟨rO1, p1⟩] S1x256x128.size (by rfl) y

set_option maxHeartbeats 2000000 in
/-- The body on whole staging memrefs: the inputs stay as they were, the output's ends at `out`. -/
theorem sound_kernel (c : Dev nD) (E : Set ℕ) (i : grid0.Coords) (arg2 : Memref sig .tc .vmem S1x512x256 .bf16) (harg2 : arg2.IsWhole) (arg3 : Memref sig .tc .vmem S1x4096x512 .bf16) (harg3 : arg3.IsWhole) (arg4 : Memref sig .tc .vmem S1x1x512x4096 .f32) (harg4 : arg4.IsWhole) (arg5 : Memref sig .tc .vmem S256x256 .bf16) (harg5 : arg5.IsWhole) (arg6 : Memref sig .tc .vmem S1x256x512 .f32) (harg6 : arg6.IsWhole)
    (x2 : Vec F S1x512x256 .bf16) (x3 : Vec F S1x4096x512 .bf16) (x4 : Vec F S1x1x512x4096 .f32) (x5 : Vec F S256x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out i x2 x3 x4 x5)) -∗ K ⟨⟩))
      ⊢ wp frame (wpE (defs₀ (F := F)) 𝒱₀ c none) E (cc0_sb_prompt i arg2 harg2 arg3 harg3 arg4 harg4 arg5 harg5 arg6 harg6) K := by
  simp only [cc0_sb_prompt_eq_skeleton]; unfold cc0_sb_prompt_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  unfold out
  have hl1 := label1 c E i (iota .tc S256x256 32 [0] iota_S256x256_d0_w32) (k0_pay20 i) (k0_pay21 (View.ld (arg5.view.read (Elt F) f5) rU))
    arg2 harg2 arg3 harg3 arg4 harg4 f2 f3 f4 (start i) (start_lt i)
  change spec c arg2 arg3 arg4 f2 f3 f4 (fin sites1 i _ _ _ (arg5.view.read (Elt F) f5)) ≤ _ at hl1
  have hl2 := label2 c E i (iota .tc S256x256 32 [0] iota_S256x256_d0_w32) (k0_pay20 i) (k0_pay21 (View.ld (arg5.view.read (Elt F) f5) rU))
    arg2 harg2 arg3 harg3 arg4 harg4 f2 f3 f4 (start i) (start_lt i)
  change spec c arg2 arg3 arg4 f2 f3 f4 (fin sites2 i _ _ _ (arg5.view.read (Elt F) f5)) ≤ _ at hl2
  have hl3 := label3 c E i (iota .tc S256x256 32 [0] iota_S256x256_d0_w32) (k0_pay20 i) (k0_pay21 (View.ld (arg5.view.read (Elt F) f5) rU))
    arg2 harg2 arg3 harg3 arg4 harg4 f2 f3 f4 (start i) (start_lt i)
  change spec c arg2 arg3 arg4 f2 f3 f4 (fin sites3 i _ _ _ (arg5.view.read (Elt F) f5)) ≤ _ at hl3
  have hl4 := label4 c E i (iota .tc S256x256 32 [0] iota_S256x256_d0_w32) (k0_pay20 i) (k0_pay21 (View.ld (arg5.view.read (Elt F) f5) rU))
    arg2 harg2 arg3 harg3 arg4 harg4 f2 f3 f4 (start i) (start_lt i)
  change spec c arg2 arg3 arg4 f2 f3 f4 (fin sites4 i _ _ _ (arg5.view.read (Elt F) f5)) ≤ _ at hl4
  generalize fin sites1 i (arg2.view.read (Elt F) f2) (arg3.view.read (Elt F) f3) (arg4.view.read (Elt F) f4) (arg5.view.read (Elt F) f5) = r1 at hl1 ⊢
  generalize fin sites2 i (arg2.view.read (Elt F) f2) (arg3.view.read (Elt F) f3) (arg4.view.read (Elt F) f4) (arg5.view.read (Elt F) f5) = r2 at hl2 ⊢
  generalize fin sites3 i (arg2.view.read (Elt F) f2) (arg3.view.read (Elt F) f3) (arg4.view.read (Elt F) f4) (arg5.view.read (Elt F) f5) = r3 at hl3 ⊢
  generalize fin sites4 i (arg2.view.read (Elt F) f2) (arg3.view.read (Elt F) f3) (arg4.view.read (Elt F) f4) (arg5.view.read (Elt F) f5) = r4 at hl4 ⊢
  sl_exec
  iapply (wp_call_spec 𝒱₀ (c : Thread nD τ) none E (spec c arg2 arg3 arg4 f2 f3 f4 r1) 16 (fun u hu => nomatch hu) hl1)
  rw [spec_apply]; unfold held
  isplitl [H2 H3 H4]
  · isplitl [H2]; · iexact H2
    isplitl [H3]; · iexact H3
    iexact H4
  iintro ⟨H2, H3, H4⟩
  sl_exec
  iapply (wp_call_spec 𝒱₀ (c : Thread nD τ) none E (spec c arg2 arg3 arg4 f2 f3 f4 r2) 16 (fun u hu => nomatch hu) hl2)
  rw [spec_apply]; unfold held
  isplitl [H2 H3 H4]
  · isplitl [H2]; · iexact H2
    isplitl [H3]; · iexact H3
    iexact H4
  iintro ⟨H2, H3, H4⟩
  sl_exec
  iapply (wp_call_spec 𝒱₀ (c : Thread nD τ) none E (spec c arg2 arg3 arg4 f2 f3 f4 r3) 16 (fun u hu => nomatch hu) hl3)
  rw [spec_apply]; unfold held
  isplitl [H2 H3 H4]
  · isplitl [H2]; · iexact H2
    isplitl [H3]; · iexact H3
    iexact H4
  iintro ⟨H2, H3, H4⟩
  sl_exec
  iapply (wp_call_spec 𝒱₀ (c : Thread nD τ) none E (spec c arg2 arg3 arg4 f2 f3 f4 r4) 16 (fun u hu => nomatch hu) hl4)
  rw [spec_apply]; unfold held
  isplitl [H2 H3 H4]
  · isplitl [H2]; · iexact H2
    isplitl [H3]; · iexact H3
    iexact H4
  iintro ⟨H2, H3, H4⟩
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _ _ _ _)

end Cert.Proof.SbIdeal

end
-- ==== Proof.SbIdeal.Run.lean ====
/-
  The stick-breaking program as a whole: the host operations before its one region, the blocks its windows hold, the body
  at every grid point, and from these the run of the program and its frame.
-/
module

public import proofs.«01_k».proof.Proof.SbIdeal.Body

@[expose] public section

set_option maxRecDepth 16384

noncomputable section

namespace Cert.Proof.SbIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host operations before the region, in their three stretches. -/
abbrev pre : List (List (HloOp τ sig (Elt F))) := [hostOps0, hostOps0_1, hostOps0_2]

/-- A core's buffers when the region is entered. -/
abbrev V (c : Dev nD) (b : Ref sig .tc) : Buf (Elt F) ((c : Thread nD τ).loc b) := StableHlo.after pre.flatten (fun b => m (c, b)) b

theorem pre_sub : (pre : List (List (HloOp τ sig (Elt F)))).Forall fun ops => ops.Forall fun op => op.bufs ⊆ StableHlo.tcRefs τ sig :=
  ⟨hostOps0_sub, hostOps0_1_sub, hostOps0_2_sub⟩

theorem pre_fresh : (pre : List (List (HloOp τ sig (Elt F)))).Forall fun ops => ops.Forall fun op => op.fresh = ∅ := by
  simp only [List.Forall]; repeat' constructor

set_option maxHeartbeats 800000 in
/-- The program up to the region. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main pre pre_sub pre_fresh main_chain

/-- An array no host operation writes is at the region as it was at the start. -/
theorem V_of (c : Dev nD) (b : Ref sig .tc) (h : ∀ op ∈ (pre : List (List (HloOp τ sig (Elt F)))).flatten, Proc.devRef .tc b ∉ op.writes) :
    V m c b = m ((c : Thread nD τ).loc b) :=
  StableHlo.after_of_forall_not_mem (b := Proc.devRef .tc b) _ _ h

theorem V_arg0 (c : Dev nD) : V m c main_arg0 = m ((c : Thread nD τ).loc main_arg0) :=
  V_of m c main_arg0 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  V_of m c main_arg1 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg2 (c : Dev nD) : V m c main_arg2 = m ((c : Thread nD τ).loc main_arg2) :=
  V_of m c main_arg2 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data of the pipeline: after the body an input's buffer still holds its block, the output's holds `out`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (grid0.coords t) (iblk m c 0 t) (iblk m c 1 t) (iblk m c 2 t) (iblk m c 3 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = out (grid0.coords t) (iblk m c 0 t) (iblk m c 1 t) (iblk m c 2 t) (iblk m c 3 t) := by dsimp only [dats]; rfl

/-! An input window's buffer holds its block at every point, fetched there or kept from an earlier one. -/

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- The run: every execution ends with the arrays at what the pipeline's data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The argument arrays at the end of a run are as they were. -/
theorem args_of : ∀ r, Pipeline.FramePost cfgs (dats m) 0 (V m) r → ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  fun _ h c => ⟨((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 2).trans (((dats m 0 c).arrAt_in 2 rfl _).trans ((A_eq m c 2).trans (V_arg2 m c)))⟩

/-- The frame: every execution ends, with the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of m _ h.1, h.2⟩) (run_main_quiescent m ρ)

end Cert.Proof.SbIdeal

end
-- ==== Proof.Frames.lean ====
/- Every program's run: it ends, its arguments are as launched and every counter is back at zero. -/
module

public import proofs.«01_k».proof.Defs
public import proofs.«01_k».proof.Proof.ProjC.Pre
public import proofs.«01_k».proof.Proof.Sb.Run
public import proofs.«01_k».proof.Proof.SbIdeal.Run
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run

@[expose] public section

noncomputable section

namespace Cert.Proof.Frames

open Cert.Proof.ProjC.Pre
open Idealize.ShloMosaic Idealize.SL.Sem

theorem attention : Cert.quiescent_Kernel := fun m ρ _ => Cert.Proof.Sb.frame m ρ
theorem attentionIdeal : Cert.quiescent_KernelIdeal := fun m ρ _ => Cert.Proof.SbIdeal.frame m ρ
theorem attentionReference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem prompt : Cert.quiescent_Kernel2 := fun m ρ _ => Cert.Kernel2.Gen.frame m ρ
theorem promptIdeal : Cert.quiescent_Kernel2Ideal := fun m ρ _ => Cert.Kernel2Ideal.Gen.frame m ρ
theorem promptReference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem sample : Cert.quiescent_Kernel3 := fun m ρ _ => Cert.Kernel3.Gen.frame m ρ
theorem sampleIdeal : Cert.quiescent_Kernel3Ideal := fun m ρ _ => Cert.Kernel3Ideal.Gen.frame m ρ
theorem sampleReference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem projection : Cert.quiescent_Kernel4 := fun m ρ _ => Cert.Kernel4.Gen.frame m ρ
theorem projectionIdeal : Cert.quiescent_Kernel4Ideal := fun m ρ _ => Cert.Kernel4Ideal.Gen.frame m ρ
theorem projectionReference : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

theorem output : Cert.quiescent_Kernel5 := fun m ρ _ => Cert.Kernel5.Gen.frame m ρ
theorem outputIdeal : Cert.quiescent_Kernel5Ideal := fun m ρ _ => Cert.Kernel5Ideal.Gen.frame m ρ
theorem outputReference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem sparsePrompt : Cert.quiescent_Kernel6 := fun m ρ _ => Cert.Kernel6.Gen.frame m ρ
theorem sparsePromptIdeal : Cert.quiescent_Kernel6Ideal := fun m ρ _ => Cert.Kernel6Ideal.Gen.frame m ρ
theorem sparsePromptIdealReal : Cert.quiescent_Kernel6Ideal_pre_finite6 := fun m ρ _ => Cert.Kernel6Ideal.Gen.frame m ρ
theorem sparsePromptReference : Cert.quiescent_Reference6Ideal := fun m ρ _ =>
  (θ_run Cert.Reference6Ideal.defs _ _).mono (fun r h => ⟨fun c => (h c).2.2.2.2.2.2.2.2, sem_eq_zero_of_no_sems (by decide) r.2⟩)
    (Cert.Reference6Ideal.Value.run (F := Ideal) m ρ)
theorem sparsePromptReferenceReal : Cert.quiescent_Reference6Ideal_pre_finite6 := fun m ρ _ => sparsePromptReference m ρ trivial

theorem outputOdd : Cert.quiescent_Kernel7 := fun m ρ _ => Cert.Kernel7.Gen.frame m ρ
theorem outputOddIdeal : Cert.quiescent_Kernel7Ideal := fun m ρ _ => Cert.Kernel7Ideal.Gen.frame m ρ
theorem outputOddReference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem projectionSample : Cert.quiescent_Kernel8 := fun m ρ _ => Cert.Kernel8.Gen.frame m ρ
theorem projectionSampleIdeal : Cert.quiescent_Kernel8Ideal := fun m ρ _ => Cert.Kernel8Ideal.Gen.frame m ρ
theorem projectionSampleReference : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

theorem sparseSample : Cert.quiescent_Kernel9 := fun m ρ _ => Cert.Kernel9.Gen.frame m ρ
theorem sparseSampleIdeal : Cert.quiescent_Kernel9Ideal := fun m ρ _ => Cert.Kernel9Ideal.Gen.frame m ρ
theorem sparseSampleIdealReal : Cert.quiescent_Kernel9Ideal_pre_finite9 := fun m ρ _ => Cert.Kernel9Ideal.Gen.frame m ρ
theorem sparseSampleReference : Cert.quiescent_Reference9Ideal := fun m ρ _ =>
  (θ_run Cert.Reference9Ideal.defs _ _).mono (fun r h => ⟨fun c => (h c).2.2.2.2.2, sem_eq_zero_of_no_sems (by decide) r.2⟩)
    (Cert.Reference9Ideal.Value.run (F := Ideal) m ρ)
theorem sparseSampleReferenceReal : Cert.quiescent_Reference9Ideal_pre_finite9 := fun m ρ _ => sparseSampleReference m ρ trivial

theorem pooling : Cert.quiescent_Kernel10 := fun m ρ _ => Cert.Kernel10.Gen.frame m ρ
theorem poolingIdeal : Cert.quiescent_Kernel10Ideal := fun m ρ _ => Cert.Kernel10Ideal.Gen.frame m ρ
theorem poolingReference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The table gives the stop constant the value −∞, and the printed constant is that value. -/
theorem preserves : Cert.preserves_Kernel_KernelIdeal :=
  IdealRules.named_const.statement Cert.KernelIdeal.κ "exit" .f32 0xC2D00000#32 ⊥ rfl

end Cert.Proof.Frames

end
-- ==== Proof.Ffn.Block.lean ====
/- What one grid point of the feed-forward kernel leaves in its block of 512 rows: the half layer of each row. The
   kernel goes through the hidden width in eleven chunks of 256 columns and adds each chunk's product to the row. -/
module

public import proofs.«01_k».proof.Proof.Gen.Kernel2Ideal.Frame
public import proofs.«01_k».proof.Proof.Ffn.Math
public import Idealize.ShloMosaic.Lib.Pipeline.ValueKit

@[expose] public section

set_option maxRecDepth 16384

noncomputable section

namespace Cert.Proof.Ffn

open Idealize.ShloMosaic Cert.Kernel2Ideal Cert.Kernel2Ideal.Gen

/-- The kernel's normalised block at a row and a column. -/
theorem norm_apply (x0 : Vec Ideal S512x1024 .f32) (x1 : Vec Ideal S1x1024 .f32) (r : Fin 512) (j : Fin 1024) :
    k0_pay2 x0 x1 (ix2 r j) = normed (fun k => x0 (ix2 r k)) (fun k => x1 (ix2 0 k)) j := by
  pointwise [k0_pay2]
  rfl

/-- One hidden column's share of an output: half the gated activation, times the down matrix's entry. -/
def share (h : Fin 1024 → EReal) (x2 x3 : Vec Ideal S1024x2816 .bf16) (x4 : Vec Ideal S2816x1024 .bf16) (l : Fin 1024)
    (k : Fin 2816) : EReal :=
  half * (∑ j, h j * x2 (ix2 j k)) * Ideal.logistic (∑ j, h j * x2 (ix2 j k)) * (∑ j, h j * x3 (ix2 j k)) * x4 (ix2 k l)

/-- The eleven chunks' shares, added to a number one after another, add the whole width's shares. -/
theorem chunks (T : Fin 2816 → EReal) (x : EReal) :
    x + (∑ k : Fin 256, T ⟨k, by omega⟩) + (∑ k : Fin 256, T ⟨256 + k, by omega⟩) + (∑ k : Fin 256, T ⟨512 + k, by omega⟩)
      + (∑ k : Fin 256, T ⟨768 + k, by omega⟩) + (∑ k : Fin 256, T ⟨1024 + k, by omega⟩) + (∑ k : Fin 256, T ⟨1280 + k, by omega⟩)
      + (∑ k : Fin 256, T ⟨1536 + k, by omega⟩) + (∑ k : Fin 256, T ⟨1792 + k, by omega⟩) + (∑ k : Fin 256, T ⟨2048 + k, by omega⟩)
      + (∑ k : Fin 256, T ⟨2304 + k, by omega⟩) + (∑ k : Fin 256, T ⟨2560 + k, by omega⟩) = x + ∑ k, T k := by
  have h0 : x + (∑ k : Fin 256, T ⟨k, by omega⟩) = x + upTo T 256 := by
    have h := upTo_add T 0 256 (by omega) x
    rw [upTo_zero, add_zero] at h
    simpa only [Nat.zero_add] using h
  rw [h0, upTo_add T 256 256 (by omega) x, upTo_add T 512 256 (by omega) x, upTo_add T 768 256 (by omega) x,
    upTo_add T 1024 256 (by omega) x, upTo_add T 1280 256 (by omega) x, upTo_add T 1536 256 (by omega) x,
    upTo_add T 1792 256 (by omega) x, upTo_add T 2048 256 (by omega) x, upTo_add T 2304 256 (by omega) x,
    upTo_add T 2560 256 (by omega) x, upTo_all]

/-- The block after the body, at a row and a column. -/
theorem out_apply (x0 : Vec Ideal S512x1024 .f32) (x1 : Vec Ideal S1x1024 .f32) (x2 x3 : Vec Ideal S1024x2816 .bf16)
    (x4 : Vec Ideal S2816x1024 .bf16) (r : Fin 512) (l : Fin 1024) :
    out0_5 x0 x1 x2 x3 x4 (ix2 r l)
      = halfLayer (fun k => x0 (ix2 r k)) (fun k => x1 (ix2 0 k)) (fun j k => x2 (ix2 j k)) (fun j k => x3 (ix2 j k))
          (fun k => x4 (ix2 k l)) l := by
  frame_out
  have hk : k0_pay16 x0 x1 x2 x3 x4 = k0_pay2 x0 x1 := by
    unfold k0_pay16
    congr 1
    · exact View.ld_unit_zero (by funext a; fin_cases a <;> rfl) _ x0
    · exact View.ld_unit_zero (by funext a; fin_cases a <;> rfl) _ x1
  rw [hk]
  pointwise [k0_pay1, k0_pay3, k0_pay4, k0_pay5, k0_pay6, k0_pay7, k0_pay8, k0_pay9, k0_pay10, k0_pay11, k0_pay12, k0_pay13, k0_pay14, k0_pay15]
  simp only [norm_apply]
  refine (chunks (share (normed (fun k => x0 (ix2 r k)) (fun k => x1 (ix2 0 k))) x2 x3 x4 l) (x0 (ix2 r l))).trans ?_
  unfold halfLayer
  rw [half_mul_sum]
  refine congrArg _ (Finset.sum_congr rfl fun k _ => ?_)
  simp only [share, hidden, gated, mul_assoc]

end Cert.Proof.Ffn

end
-- ==== Proof.Ffn.Prompt.lean ====
/- The feed-forward half layer of the prompt's rows: the kernel's result array and the reference's are one array. -/
module

public import proofs.«01_k».proof.Proof.Gen.Kernel2Ideal.Value
public import proofs.«01_k».proof.Proof.Gen.Reference2Ideal.Run
public import proofs.«01_k».proof.Defs
public import proofs.«01_k».proof.Proof.Ffn.Block

@[expose] public section

set_option maxRecDepth 16384

noncomputable section

namespace Cert.Proof.Ffn.Prompt

open Idealize.ShloMosaic Idealize.ShloMosaic.TcCoe Idealize.SL.Sem Cert.Kernel2Ideal Cert.Kernel2Ideal.Gen

variable (m : (ℓ : Loc nD τ sig) → Buf (Elt Ideal) ℓ)

/-- The half layer of every prompt row, from the launch's arguments. -/
def result (c : Dev nD) (i : (⟨2, ![16384, 1024]⟩ : Shape).Idx) : EReal :=
  halfLayer (fun k => m ((c : Thread nD τ).loc main_arg0) (ix2 ⟨(i 0).val, by have := (i 0).isLt; simp at this; omega⟩ k))
    (fun k => m ((c : Thread nD τ).loc main_arg1) (ix1 k))
    (fun j k => m ((c : Thread nD τ).loc main_arg2) (ix2 j k)) (fun j k => m ((c : Thread nD τ).loc main_arg3) (ix2 j k))
    (fun k => m ((c : Thread nD τ).loc main_arg4) (ix2 k (i 1))) (i 1)

/-- Each point's blocks: block `t` of the rows coming in and going out, and the whole of every other operand. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] := by decide +kernel

theorem points : ∀ t : Fin grid0.N, t.val < 32 := by decide +kernel

theorem gain_read (c : Dev nD) (k : Fin 1024) : V m c main_v0 (ix2 0 k) = m ((c : Thread nD τ).loc main_arg1) (ix1 k) := by
  entry_read
  pointwise

theorem gate_read (c : Dev nD) : V m c main_v1 = m ((c : Thread nD τ).loc main_arg2) := by
  entry_read
  rfl

theorem up_read (c : Dev nD) : V m c main_v2 = m ((c : Thread nD τ).loc main_arg3) := by
  entry_read
  rfl

theorem down_read (c : Dev nD) : V m c main_v3 = m ((c : Thread nD τ).loc main_arg4) := by
  entry_read
  rfl

theorem final (c : Dev nD) : (Gen.dats m 0 c).arrAt 5 cfg0.N = result m c := by
  refine (Gen.dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  refine (out_apply _ _ _ _ _ r l).trans ?_
  have ht := points t
  have h0 : ∀ k : Fin 1024, iblk m c 0 t (ix2 r k) = m ((c : Thread nD τ).loc main_arg0) (ix2 ⟨t.val * 512 + r.val, by omega⟩ k) := fun k => by
    rw [← V_main_arg0 m c]
    blk_ext [iblk, idx t]
  have h1 : ∀ k : Fin 1024, iblk m c 1 t (ix2 0 k) = m ((c : Thread nD τ).loc main_arg1) (ix1 k) := fun k => by
    rw [← gain_read m c]
    blk_ext [iblk, idx t]
  have h2 : ∀ (j : Fin 1024) (k : Fin 2816), iblk m c 2 t (ix2 j k) = m ((c : Thread nD τ).loc main_arg2) (ix2 j k) := fun j k => by
    rw [← gate_read m c]
    blk_ext [iblk, idx t]
  have h3 : ∀ (j : Fin 1024) (k : Fin 2816), iblk m c 3 t (ix2 j k) = m ((c : Thread nD τ).loc main_arg3) (ix2 j k) := fun j k => by
    rw [← up_read m c]
    blk_ext [iblk, idx t]
  have h4 : ∀ (j : Fin 2816) (k : Fin 1024), iblk m c 4 t (ix2 j k) = m ((c : Thread nD τ).loc main_arg4) (ix2 j k) := fun j k => by
    rw [← down_read m c]
    blk_ext [iblk, idx t]
  have he : (win0_5.blk t).view.emb (ix2 r l) = ix2 ⟨t.val * 512 + r.val, by omega⟩ l := by
    blk_ext [iblk, idx t]
  simp only [h0, h1, h2, h3, h4]
  rw [he]
  rfl

/-- The reference's composed term of arguments that agree with the kernel's is the same array. -/
theorem reference (m' : (ℓ : Loc Cert.Reference2Ideal.nD Cert.Reference2Ideal.τ Cert.Reference2Ideal.sig) → Buf (Elt Ideal) ℓ)
    (ρ' : Dev Cert.Reference2Ideal.nD → PrngReg)
    (hagree : ∀ c : Dev nD,
      m' ((c.tc : Thread Cert.Reference2Ideal.nD Cert.Reference2Ideal.τ).loc Cert.Reference2Ideal.main_arg0) = m ((c.tc : Thread nD τ).loc main_arg0)
      ∧ m' ((c.tc : Thread Cert.Reference2Ideal.nD Cert.Reference2Ideal.τ).loc Cert.Reference2Ideal.main_arg1) = m ((c.tc : Thread nD τ).loc main_arg1)
      ∧ m' ((c.tc : Thread Cert.Reference2Ideal.nD Cert.Reference2Ideal.τ).loc Cert.Reference2Ideal.main_arg2) = m ((c.tc : Thread nD τ).loc main_arg2)
      ∧ m' ((c.tc : Thread Cert.Reference2Ideal.nD Cert.Reference2Ideal.τ).loc Cert.Reference2Ideal.main_arg3) = m ((c.tc : Thread nD τ).loc main_arg3)
      ∧ m' ((c.tc : Thread Cert.Reference2Ideal.nD Cert.Reference2Ideal.τ).loc Cert.Reference2Ideal.main_arg4) = m ((c.tc : Thread nD τ).loc main_arg4)) :
    θ_run Cert.Reference2Ideal.defs (onTc (τ := Cert.Reference2Ideal.τ) (Cert.Reference2Ideal.main (F := Ideal))) ⟨m', fun _ => 0, ρ'⟩ fun r => ∀ c : Dev Cert.Reference2Ideal.nD,
      r.2.mem ((c.tc : Thread Cert.Reference2Ideal.nD Cert.Reference2Ideal.τ).loc Cert.Reference2Ideal.main_v21) = result m c
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4) := by
  refine (θ_run Cert.Reference2Ideal.defs _ _).mono (fun r h c => ⟨(h c).1.trans ?_, (h c).2⟩)
    (Cert.Reference2Ideal.Value.run (F := Ideal) m' ρ')
  clear h
  obtain ⟨e0, e1, e2, e3, e4⟩ := hagree c
  rw [e0, e1, e2, e3, e4]
  funext j
  obtain ⟨a, b, rfl⟩ : ∃ (a : Fin 16384) (b : Fin 1024), j = ix2 a b := ⟨j 0, j 1, eq_ix2 j⟩
  pointwise
  rfl

/-- On arguments that agree the kernel's result and the reference's are equal. -/
theorem algebraic : Cert.algebraic_Kernel2Ideal_Reference2Ideal := by
  intro m ρ m' ρ' _ hagree
  refine ⟨result m, (θ_run defs _ _).mono (fun r h c => ⟨(h c).1.trans (final m c), (h c).2⟩)
    (Cert.Kernel2Ideal.Value.run_blocks (F := Ideal) m ρ), reference m m' ρ' hagree⟩

end Cert.Proof.Ffn.Prompt

end
-- ==== Proof.Ffn.Sample.lean ====
/- The feed-forward half layer of the sampled tokens' rows, which follow the prompt's in the residual stream: the kernel's result array and the reference's are one array. -/
module

public import proofs.«01_k».proof.Proof.Gen.Kernel3Ideal.Value
public import proofs.«01_k».proof.Proof.Gen.Reference3Ideal.Run
public import proofs.«01_k».proof.Defs
public import proofs.«01_k».proof.Proof.Ffn.Block

@[expose] public section

set_option maxRecDepth 16384

noncomputable section

namespace Cert.Proof.Ffn.Sample

open Idealize.ShloMosaic Idealize.ShloMosaic.TcCoe Idealize.SL.Sem Cert.Kernel3Ideal Cert.Kernel3Ideal.Gen

variable (m : (ℓ : Loc nD τ sig) → Buf (Elt Ideal) ℓ)

/-- The half layer of every sampled row, from the launch's arguments. -/
def result (c : Dev nD) (i : (⟨2, ![1024, 1024]⟩ : Shape).Idx) : EReal :=
  halfLayer (fun k => m ((c : Thread nD τ).loc main_arg0) (ix2 ⟨16384 + (i 0).val, by have := (i 0).isLt; simp at this; omega⟩ k))
    (fun k => m ((c : Thread nD τ).loc main_arg1) (ix1 k))
    (fun j k => m ((c : Thread nD τ).loc main_arg2) (ix2 j k)) (fun j k => m ((c : Thread nD τ).loc main_arg3) (ix2 j k))
    (fun k => m ((c : Thread nD τ).loc main_arg4) (ix2 k (i 1))) (i 1)

/-- Each point's blocks: block `32 + t` of the rows coming in, block `t` of those going out, and the whole of every other operand. -/
theorem idx : ∀ t : Fin grid0.N, win0_0.index t = ![32 + t.val, 0] ∧ win0_1.index t = ![0, 0] ∧ win0_2.index t = ![0, 0]
    ∧ win0_3.index t = ![0, 0] ∧ win0_4.index t = ![0, 0] ∧ win0_5.index t = ![t.val, 0] := by decide +kernel

theorem points : ∀ t : Fin grid0.N, t.val < 2 := by decide +kernel

theorem gain_read (c : Dev nD) (k : Fin 1024) : V m c main_v0 (ix2 0 k) = m ((c : Thread nD τ).loc main_arg1) (ix1 k) := by
  entry_read
  pointwise

theorem gate_read (c : Dev nD) : V m c main_v1 = m ((c : Thread nD τ).loc main_arg2) := by
  entry_read
  rfl

theorem up_read (c : Dev nD) : V m c main_v2 = m ((c : Thread nD τ).loc main_arg3) := by
  entry_read
  rfl

theorem down_read (c : Dev nD) : V m c main_v3 = m ((c : Thread nD τ).loc main_arg4) := by
  entry_read
  rfl

theorem final (c : Dev nD) : (Gen.dats m 0 c).arrAt 5 cfg0.N = result m c := by
  refine (Gen.dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  refine (Ffn.out_apply _ _ _ _ _ r l).trans ?_
  have ht := points t
  have h0 : ∀ k : Fin 1024, iblk m c 0 t (ix2 r k) = m ((c : Thread nD τ).loc main_arg0) (ix2 ⟨(32 + t.val) * 512 + r.val, by omega⟩ k) := fun k => by
    rw [← V_main_arg0 m c]
    blk_ext [iblk, idx t]
  have h1 : ∀ k : Fin 1024, iblk m c 1 t (ix2 0 k) = m ((c : Thread nD τ).loc main_arg1) (ix1 k) := fun k => by
    rw [← gain_read m c]
    blk_ext [iblk, idx t]
  have h2 : ∀ (j : Fin 1024) (k : Fin 2816), iblk m c 2 t (ix2 j k) = m ((c : Thread nD τ).loc main_arg2) (ix2 j k) := fun j k => by
    rw [← gate_read m c]
    blk_ext [iblk, idx t]
  have h3 : ∀ (j : Fin 1024) (k : Fin 2816), iblk m c 3 t (ix2 j k) = m ((c : Thread nD τ).loc main_arg3) (ix2 j k) := fun j k => by
    rw [← up_read m c]
    blk_ext [iblk, idx t]
  have h4 : ∀ (j : Fin 2816) (k : Fin 1024), iblk m c 4 t (ix2 j k) = m ((c : Thread nD τ).loc main_arg4) (ix2 j k) := fun j k => by
    rw [← down_read m c]
    blk_ext [iblk, idx t]
  have he : (win0_5.blk t).view.emb (ix2 r l) = ix2 ⟨t.val * 512 + r.val, by omega⟩ l := by
    blk_ext [iblk, idx t]
  simp only [h0, h1, h2, h3, h4]
  rw [he]
  have hr : (⟨(32 + t.val) * 512 + r.val, by omega⟩ : Fin 17408) = ⟨16384 + (t.val * 512 + r.val), by omega⟩ := Fin.ext (by simp only []; omega)
  rw [hr]
  rfl

/-- The reference's composed term of arguments that agree with the kernel's is the same array. -/
theorem reference (m' : (ℓ : Loc Cert.Reference3Ideal.nD Cert.Reference3Ideal.τ Cert.Reference3Ideal.sig) → Buf (Elt Ideal) ℓ)
    (ρ' : Dev Cert.Reference3Ideal.nD → PrngReg)
    (hagree : ∀ c : Dev nD,
      m' ((c.tc : Thread Cert.Reference3Ideal.nD Cert.Reference3Ideal.τ).loc Cert.Reference3Ideal.main_arg0) = m ((c.tc : Thread nD τ).loc main_arg0)
      ∧ m' ((c.tc : Thread Cert.Reference3Ideal.nD Cert.Reference3Ideal.τ).loc Cert.Reference3Ideal.main_arg1) = m ((c.tc : Thread nD τ).loc main_arg1)
      ∧ m' ((c.tc : Thread Cert.Reference3Ideal.nD Cert.Reference3Ideal.τ).loc Cert.Reference3Ideal.main_arg2) = m ((c.tc : Thread nD τ).loc main_arg2)
      ∧ m' ((c.tc : Thread Cert.Reference3Ideal.nD Cert.Reference3Ideal.τ).loc Cert.Reference3Ideal.main_arg3) = m ((c.tc : Thread nD τ).loc main_arg3)
      ∧ m' ((c.tc : Thread Cert.Reference3Ideal.nD Cert.Reference3Ideal.τ).loc Cert.Reference3Ideal.main_arg4) = m ((c.tc : Thread nD τ).loc main_arg4)) :
    θ_run Cert.Reference3Ideal.defs (onTc (τ := Cert.Reference3Ideal.τ) (Cert.Reference3Ideal.main (F := Ideal))) ⟨m', fun _ => 0, ρ'⟩ fun r => ∀ c : Dev Cert.Reference3Ideal.nD,
      r.2.mem ((c.tc : Thread Cert.Reference3Ideal.nD Cert.Reference3Ideal.τ).loc Cert.Reference3Ideal.main_v21) = result m c
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4) := by
  refine (θ_run Cert.Reference3Ideal.defs _ _).mono (fun r h c => ⟨(h c).1.trans ?_, (h c).2⟩)
    (Cert.Reference3Ideal.Value.run (F := Ideal) m' ρ')
  clear h
  obtain ⟨e0, e1, e2, e3, e4⟩ := hagree c
  rw [e0, e1, e2, e3, e4]
  funext j
  obtain ⟨a, b, rfl⟩ : ∃ (a : Fin 1024) (b : Fin 1024), j = ix2 a b := ⟨j 0, j 1, eq_ix2 j⟩
  pointwise
  rfl

/-- On arguments that agree the kernel's result and the reference's are equal. -/
theorem algebraic : Cert.algebraic_Kernel3Ideal_Reference3Ideal := by
  intro m ρ m' ρ' _ hagree
  refine ⟨result m, (θ_run defs _ _).mono (fun r h c => ⟨(h c).1.trans (final m c), (h c).2⟩)
    (Cert.Kernel3Ideal.Value.run_blocks (F := Ideal) m ρ), reference m m' ρ' hagree⟩

end Cert.Proof.Ffn.Sample

end
-- ==== Proof.SbValue.Math.lean ====
/- Stick-breaking attention of one query as a function of its scores `z` and of one column `v` of the values, and the
   sums over the keys from a position onward, by which the kernel's tiles of 256 keys, taken from the last to the first,
   make up the whole. -/
module

public import Idealize.ShloMosaic.Lib.Pointwise

@[expose] public section

noncomputable section

namespace Cert.Proof.SbValue

open Idealize.ShloMosaic

/-! ## The logarithm of one minus a weight -/

/-- `max x 0 + log (1 + exp (-|x|))`, which is `log (1 + exp x)`. -/
def soft (x : EReal) : EReal := max x 0 + Ideal.log (1 + Ideal.exp (0 - max x (-x)))

/-- At a real number it is the real number of the same name. -/
theorem soft_coe (r : ℝ) : soft r = ((max r 0 + Real.log (1 + Real.exp (-|r|)) : ℝ) : EReal) := by
  have hm : max (r : EReal) 0 = ((max r 0 : ℝ) : EReal) := (EReal.coe_strictMono.monotone.map_max (a := r) (b := 0)).symm
  have ha : max (r : EReal) (-(r : EReal)) = ((|r| : ℝ) : EReal) :=
    (EReal.coe_strictMono.monotone.map_max (a := r) (b := -r)).symm
  have hp : ¬ (1 + Real.exp (-|r|)) ≤ 0 := not_le.mpr (by positivity)
  unfold soft
  rw [hm, ha, show (0 : EReal) - ((|r| : ℝ) : EReal) = ((-|r| : ℝ) : EReal) by rw [← EReal.coe_zero, ← EReal.coe_sub, zero_sub],
    show Ideal.exp ((-|r| : ℝ) : EReal) = ((Real.exp (-|r|) : ℝ) : EReal) from rfl,
    show (1 : EReal) + ((Real.exp (-|r|) : ℝ) : EReal) = ((1 + Real.exp (-|r|) : ℝ) : EReal) by rw [EReal.coe_add, EReal.coe_one],
    show Ideal.log ((1 + Real.exp (-|r|) : ℝ) : EReal) = if 1 + Real.exp (-|r|) ≤ 0 then ⊥ else ((Real.log (1 + Real.exp (-|r|)) : ℝ) : EReal) from rfl,
    if_neg hp, ← EReal.coe_add]

theorem soft_top : soft ⊤ = ⊤ := by
  have h : max (⊤ : EReal) (-⊤) = ⊤ := max_eq_left le_top
  unfold soft
  rw [h, max_eq_left le_top, show (0 : EReal) - ⊤ = ⊥ from rfl, show Ideal.exp ⊥ = ((0 : ℝ) : EReal) from rfl,
    show (1 : EReal) + ((0 : ℝ) : EReal) = ((1 : ℝ) : EReal) by rw [EReal.coe_zero, add_zero, EReal.coe_one],
    show Ideal.log ((1 : ℝ) : EReal) = if (1 : ℝ) ≤ 0 then ⊥ else ((Real.log 1 : ℝ) : EReal) from rfl, if_neg (by norm_num)]
  rfl

theorem soft_bot : soft ⊥ = 0 := by
  have h : max (⊥ : EReal) (-⊥) = ⊤ := max_eq_right bot_le
  unfold soft
  rw [h, max_eq_right bot_le, show (0 : EReal) - ⊤ = ⊥ from rfl, show Ideal.exp ⊥ = ((0 : ℝ) : EReal) from rfl,
    show (1 : EReal) + ((0 : ℝ) : EReal) = ((1 : ℝ) : EReal) by rw [EReal.coe_zero, add_zero, EReal.coe_one],
    show Ideal.log ((1 : ℝ) : EReal) = if (1 : ℝ) ≤ 0 then ⊥ else ((Real.log 1 : ℝ) : EReal) from rfl, if_neg (by norm_num),
    Real.log_one, EReal.coe_zero, add_zero]

theorem soft_ne_bot (x : EReal) : soft x ≠ ⊥ := by
  induction x with
  | bot => rw [soft_bot]; exact EReal.zero_ne_bot
  | coe r => rw [soft_coe]; exact EReal.coe_ne_bot _
  | top => rw [soft_top]; exact top_ne_bot

/-- `-log (1 + exp (-r)) = r - log (1 + exp r)`. -/
theorem neg_soft_neg (r : ℝ) : -soft (-(r : EReal)) = r - soft r := by
  rw [← EReal.coe_neg, soft_coe, soft_coe, ← EReal.coe_neg, ← EReal.coe_sub, abs_neg]
  congr 1
  rcases le_total r 0 with h | h
  · rw [max_eq_left (by linarith : (0 : ℝ) ≤ -r), max_eq_right h]; ring
  · rw [max_eq_right (by linarith : -r ≤ (0 : ℝ)), max_eq_left h]; ring

/-- The logarithm of a weight spelled in two ways: from what the key and those after it leave, less what the key leaves, and
    from what those after it leave. At a real score a real number is added and taken away; at an infinite score both are
    minus infinity. -/
theorem log_weight (x s : EReal) : -soft (-x) + (((0 - soft x) + s) - (0 - soft x)) = x - soft x + s := by
  induction x with
  | bot =>
    rw [EReal.neg_bot, soft_top, soft_bot, EReal.neg_top, EReal.bot_add, sub_zero, EReal.bot_add]
  | coe r =>
    rw [neg_soft_neg]
    congr 1
    rw [soft_coe, ← EReal.coe_zero, ← EReal.coe_sub]
    exact EReal.add_sub_cancel_left
  | top =>
    rw [soft_top, show (0 : EReal) - ⊤ = ⊥ from rfl, EReal.bot_add, show (⊥ : EReal) - ⊥ = ⊥ from rfl,
      show (⊤ : EReal) - ⊤ = ⊥ from rfl, EReal.bot_add, EReal.add_bot]

/-- A number below plus infinity is its high part and its low part together, when the high part is all of it. -/
theorem add_sub_self {x : EReal} (h : x ≠ ⊤) : x + (x - x) = x := by
  induction x with
  | bot => rfl
  | coe r => rw [← EReal.coe_sub, sub_self, EReal.coe_zero, add_zero]
  | top => exact absurd rfl h

/-! ## Sums from a position onward -/

/-- The sum of the terms at the positions from `n` onward. -/
def onward {N : ℕ} (f : Fin N → EReal) (n : ℕ) : EReal := ∑ k, if n ≤ k.val then f k else 0

theorem onward_zero {N : ℕ} (f : Fin N → EReal) : onward f 0 = ∑ k, f k :=
  Finset.sum_congr rfl fun k _ => if_pos (Nat.zero_le _)

theorem onward_eq_zero {N : ℕ} (f : Fin N → EReal) (n : ℕ) (h : ∀ k, n ≤ k.val → f k = 0) : onward f n = 0 :=
  Finset.sum_eq_zero fun k _ => by
    by_cases hk : n ≤ k.val
    · rw [if_pos hk, h k hk]
    · rw [if_neg hk]

/-- A sum over a window of `w` positions, of the terms in it. -/
theorem sum_window {N : ℕ} (f : Fin N → EReal) (n w : ℕ) (h : n + w ≤ N) :
    ∑ i : Fin w, f ⟨n + i.val, by omega⟩ = ∑ k : Fin N, if n ≤ k.val ∧ k.val < n + w then f k else 0 := by
  let e : Fin w ↪ Fin N := ⟨fun i => ⟨n + i.val, by omega⟩, fun a b hab => Fin.ext (by simpa using congrArg Fin.val hab)⟩
  rw [show (∑ i : Fin w, f ⟨n + i.val, by omega⟩) = ∑ k ∈ Finset.univ.map e, f k from (Finset.sum_map _ e f).symm,
    ← Finset.sum_filter]
  refine Finset.sum_congr (Finset.ext fun k => ?_) fun _ _ => rfl
  simp only [Finset.mem_map, Finset.mem_univ, true_and, Finset.mem_filter]
  constructor
  · rintro ⟨i, rfl⟩
    exact ⟨Nat.le_add_right _ _, Nat.add_lt_add_left i.isLt _⟩
  · rintro ⟨h1, h2⟩
    exact ⟨⟨k.val - n, by omega⟩, Fin.ext (by show n + (k.val - n) = k.val; omega)⟩

/-- A window before the positions from `n + w` onward makes them the positions from `n` onward. -/
theorem onward_add {N : ℕ} (f : Fin N → EReal) (n w : ℕ) (h : n + w ≤ N) :
    onward f (n + w) + ∑ i : Fin w, f ⟨n + i.val, by omega⟩ = onward f n := by
  rw [sum_window f n w h]
  unfold onward
  rw [← Finset.sum_add_distrib]
  refine Finset.sum_congr rfl fun k _ => ?_
  by_cases h1 : n + w ≤ k.val
  · rw [if_pos h1, if_neg (by omega), if_pos (by omega), add_zero]
  · by_cases h2 : n ≤ k.val
    · rw [if_neg h1, if_pos (by omega), if_pos h2, zero_add]
    · rw [if_neg h1, if_neg (by omega), if_neg h2, zero_add]

/-- The positions after position `r` of a window, and those after the window, are the positions from the next onward. -/
theorem later_in_window {N : ℕ} (f : Fin N → EReal) (n w : ℕ) (h : n + w ≤ N) (r : Fin w) :
    (∑ i : Fin w, if r.val < i.val then f ⟨n + i.val, by omega⟩ else 0) + onward f (n + w) = onward f (n + r.val + 1) := by
  rw [sum_window (fun k : Fin N => if n + r.val < k.val then f k else 0) n w h |>.symm.trans
      (Finset.sum_congr rfl fun i _ => by simp only [Nat.add_lt_add_iff_left]) |>.symm]
  unfold onward
  rw [← Finset.sum_add_distrib]
  refine Finset.sum_congr rfl fun k _ => ?_
  have hr := r.isLt
  by_cases h1 : n + w ≤ k.val
  · rw [if_neg (by omega), if_pos h1, if_pos (by omega), zero_add]
  · by_cases h2 : n + r.val < k.val
    · rw [if_pos (by omega), if_pos h2, if_neg h1, if_pos (by omega), add_zero]
    · by_cases h3 : n ≤ k.val
      · rw [if_pos (by omega), if_neg h2, if_neg h1, if_neg (by omega), add_zero]
      · rw [if_neg (by omega), if_neg h1, if_neg (by omega), add_zero]

/-- The term at a position, and those after it. -/
theorem onward_succ {N : ℕ} (f : Fin N → EReal) (k : Fin N) : f k + onward f (k.val + 1) = onward f k.val := by
  have h := onward_add f k.val 1 (by omega)
  rw [add_comm] at h
  simpa using h

/-- A sum that is minus infinity from a position onward is so from every earlier position. -/
theorem onward_bot {N : ℕ} {f : Fin N → EReal} {m n : ℕ} (hm : m ≤ n) (hn : n ≤ N) (h : onward f n = ⊥) : onward f m = ⊥ := by
  obtain ⟨w, rfl⟩ := Nat.exists_eq_add_of_le hm
  rw [← onward_add f m w hn, h, EReal.bot_add]

/-- Terms that are zero before a position leave the sum over all to those from it onward. -/
theorem onward_eq_sum {N : ℕ} (f : Fin N → EReal) (n : ℕ) (h : ∀ k, k.val < n → f k = 0) : onward f n = ∑ k, f k :=
  Finset.sum_congr rfl fun k _ => by
    by_cases hk : n ≤ k.val
    · rw [if_pos hk]
    · rw [if_neg hk, h k (by omega)]

/-! ## The attention of one query -/

section Attend

variable (q : ℕ) (z : Fin 4096 → EReal)

/-- The logarithm of what key `k` leaves of the stick; a key not before the query leaves all of it. -/
def rest (k : Fin 4096) : EReal := if k.val < q then 0 - soft (z k) else 0

/-- Key `k`'s weight: its own share of what the keys between it and the query have left. -/
def weight (k : Fin 4096) : EReal := if k.val < q then Ideal.exp (z k - soft (z k) + onward (rest q z) (k.val + 1)) else 0

/-- A column of the result. -/
def attend (v : Fin 4096 → EReal) : EReal := ∑ k, v k * weight q z k

variable {q z}

theorem rest_ne_top (k : Fin 4096) : rest q z k ≠ ⊤ := by
  unfold rest
  by_cases h : k.val < q
  · rw [if_pos h, zero_sub]
    exact fun e => soft_ne_bot (z k) (EReal.neg_eq_top_iff.mp e)
  · rw [if_neg h]; exact EReal.zero_ne_top

theorem rest_of_le {k : Fin 4096} (h : q ≤ k.val) : rest q z k = 0 := if_neg (by omega)

theorem weight_of_le {k : Fin 4096} (h : q ≤ k.val) : weight q z k = 0 := if_neg (by omega)

/-- Where the keys from position `n` onward leave nothing, the keys before have no weight. -/
theorem weight_of_bot {n : ℕ} (hn : n ≤ 4096) (h : onward (rest q z) n = ⊥) {k : Fin 4096} (hk : k.val < n) : weight q z k = 0 := by
  unfold weight
  rw [onward_bot (by omega) hn h, EReal.add_bot]
  exact ite_self 0

end Attend

end Cert.Proof.SbValue

end
-- ==== Proof.SbValue.Tile.lean ====
/- One tile of the kernel's loop for one head, read entry by entry: the scores, what each key leaves of the stick, the
   weights, and what the tile adds to the carry and to the accumulator. The kernel spells the second head of a pair with
   operations of its own; they are the first head's (`second`). -/
module

public import proofs.«01_k».proof.Proof.SbIdeal.Run
public import proofs.«01_k».proof.Proof.SbValue.Math

@[expose] public section

set_option maxRecDepth 16384

noncomputable section

namespace Cert.Proof.SbValue

open Idealize.ShloMosaic Cert.KernelIdeal Cert.KernelIdeal.Gen

section

variable (v0 v4 : IVec S256x256 32) (v6 : FVec Ideal S256x256 .bf16) (j : BitVec 32) (kk : Vec Ideal S1x256x64 .bf16) (qq : Vec Ideal S1x64x256 .bf16)
  (vv : Vec Ideal S1x1x64x256 .f32) (ca cb : FVec Ideal S1x256 .f32) (ac : FVec Ideal S64x256 .f32) (w : FVec Ideal S256x256 .f32) (r l : Fin 256) (d : Fin 64)

theorem score_apply : k0_pay36 kk qq (ix2 r l) = ∑ x : Fin 64, kk (ix3 0 r x) * qq (ix3 0 x l) := by
  pointwise [k0_pay36]

theorem soft_apply : k0_pay37 kk qq (ix2 r l) = soft (k0_pay36 kk qq (ix2 r l)) := by
  pointwise [k0_pay37]
  rfl

theorem rest_apply : k0_pay38 v0 v4 j kk qq (ix2 r l)
    = if k0_pay35 v0 v4 j (ix2 r l) = 1#1 then 0 - soft (k0_pay36 kk qq (ix2 r l)) else 0 := by
  pointwise [k0_pay38]
  rw [soft_apply]
  rfl

theorem weight_apply : k0_pay39 v0 v4 v6 j ca kk qq (ix2 r l)
    = if k0_pay35 v0 v4 j (ix2 r l) = 1#1 then
        Ideal.exp (k0_pay36 kk qq (ix2 r l) - soft (k0_pay36 kk qq (ix2 r l))
          + ((∑ x, v6 (ix2 r x) * k0_pay38 v0 v4 j kk qq (ix2 x l))
            + (∑ x, v6 (ix2 r x) * (k0_pay38 v0 v4 j kk qq (ix2 x l) - k0_pay38 v0 v4 j kk qq (ix2 x l))) + ca (ix2 0 l)))
      else 0 := by
  pointwise [k0_pay39]
  rw [soft_apply]
  rfl

theorem acc_apply : k0_pay40 ac w vv (ix2 d l) = ac (ix2 d l) + ∑ x : Fin 256, vv (ix4 0 0 d x) * w (ix2 x l) := by
  pointwise [k0_pay40]

theorem carry_apply : k0_pay41 ca w (ix2 0 l) = ca (ix2 0 l) + ∑ x : Fin 256, w (ix2 x l) := by
  pointwise [k0_pay41]

/-- The second head's operations are the first head's. -/
theorem second_rest : k0_pay44 (k0_pay35 v0 v4 j) kk qq = k0_pay38 v0 v4 j kk qq := rfl
theorem second_weight : k0_pay45 v6 ca (k0_pay35 v0 v4 j) kk qq = k0_pay39 v0 v4 v6 j ca kk qq := rfl
theorem second_acc : k0_pay8 ac w vv = k0_pay40 ac w vv := rfl
theorem second_carry : k0_pay9 ca w = k0_pay41 ca w := rfl

/-- The largest carry is `⊥` only when every carry of both heads is. -/
theorem top_eq_bot (h : k0_pay10 ca cb w = ⊥) : cb (ix2 0 l) = ⊥ ∧ k0_pay9 ca w (ix2 0 l) = ⊥ := by
  revert h
  pointwise [k0_pay10]
  intro e
  have below : ∀ f : Fin 256 → EReal, Finset.fold max (Ideal.ofBits FTy.f32 4286578688#32) (fun x : Fin 1 × Fin 256 => f x.2) Finset.univ = ⊥ → f l = ⊥ :=
    fun f hf => le_bot_iff.mp (hf ▸ (Finset.le_fold_max _).mpr (Or.inr ⟨(0, l), Finset.mem_univ _, le_rfl⟩))
  exact ⟨below (fun x => cb (ix2 0 x)) (max_eq_bot.mp e).1, below (fun x => k0_pay9 ca w (ix2 0 x)) (max_eq_bot.mp e).2⟩

/-! ## One tile against the sums over the keys from a position onward -/

variable (n : Fin 16) (q : Fin 256 → ℕ) (z : Fin 256 → Fin 4096 → EReal) (v : Fin 64 → Fin 4096 → EReal)

/-- The key at row `r` of tile `n`. -/
abbrev key (n : Fin 16) (r : Fin 256) : Fin 4096 := ⟨256 * n.val + r.val, by have := n.isLt; have := r.isLt; omega⟩

variable {v0 v4 v6 j kk qq vv ca ac n q z v}
  (hz : ∀ l r, k0_pay36 kk qq (ix2 r l) = z l (key n r)) (hv : ∀ d r, vv (ix4 0 0 d r) = v d (key n r))
  (hm : ∀ r l, k0_pay35 v0 v4 j (ix2 r l) = 1#1 ↔ (key n r).val < q l)
  (hu : ∀ r x, v6 (ix2 r x) = if r.val < x.val then 1 else 0)
  (hc : ∀ l, ca (ix2 0 l) = onward (rest (q l) (z l)) (256 * n.val + 256))
  (ha : ∀ d l, ac (ix2 d l) = onward (fun k => v d k * weight (q l) (z l) k) (256 * n.val + 256))

include hz hm in
theorem tile_rest : k0_pay38 v0 v4 j kk qq (ix2 r l) = rest (q l) (z l) (key n r) := by
  rw [rest_apply, hz]
  unfold rest
  exact if_congr (hm r l) rfl rfl

include hz hm hc in
/-- The carry after the tile. -/
theorem tile_carry : k0_pay41 ca (k0_pay38 v0 v4 j kk qq) (ix2 0 l) = onward (rest (q l) (z l)) (256 * n.val) := by
  rw [carry_apply, hc]
  simp only [tile_rest _ _ hz hm]
  exact onward_add (rest (q l) (z l)) (256 * n.val) 256 (by have := n.isLt; omega)

include hz hm hu hc in
theorem tile_weight : k0_pay39 v0 v4 v6 j ca kk qq (ix2 r l) = weight (q l) (z l) (key n r) := by
  rw [weight_apply, hz]
  unfold weight
  refine (if_congr (hm r l) ?_ rfl)
  congr 2
  simp only [tile_rest _ _ hz hm, hu, hc, ite_mul, one_mul, zero_mul]
  rw [← Finset.sum_add_distrib, Finset.sum_congr rfl fun x _ => show _ = if r.val < x.val then rest (q l) (z l) (key n x) else 0 by
    by_cases hx : r.val < x.val
    · simp only [if_pos hx, add_sub_self (rest_ne_top _)]
    · simp only [if_neg hx, add_zero]]
  exact later_in_window (rest (q l) (z l)) (256 * n.val) 256 (by have := n.isLt; omega) r

include hz hm hu hc hv ha in
/-- The accumulator after the tile. -/
theorem tile_acc : k0_pay40 ac (k0_pay39 v0 v4 v6 j ca kk qq) vv (ix2 d l)
    = onward (fun k => v d k * weight (q l) (z l) k) (256 * n.val) := by
  rw [acc_apply, ha]
  simp only [tile_weight _ _ hz hm hu hc, hv]
  exact onward_add (fun k => v d k * weight (q l) (z l) k) (256 * n.val) 256 (by have := n.isLt; omega)

end

end Cert.Proof.SbValue

end
-- ==== Proof.SbValue.Rounds.lean ====
/- The loop of one pair of heads, in rounds: entered with the carries and accumulators of the keys from tile `n` onward
   and `n` tiles left, it ends with both accumulators at the sums over all the keys. Over the extended reals the stop value is `⊥`, so
   it stops before the tiles are used up only when every carry is `⊥`; then no key of the tiles left has any weight. -/
module

public import proofs.«01_k».proof.Proof.SbValue.Tile
public import Idealize.ShloMosaic.Lib.Pipeline.ValueKit

@[expose] public section

set_option maxRecDepth 16384

noncomputable section

namespace Cert.Proof.SbValue

open Idealize.ShloMosaic Cert.KernelIdeal Cert.KernelIdeal.Gen Cert.Proof.SbIdeal

/-- Column `x` of head `h`. -/
abbrev col (h : Fin 8) (x : Fin 64) : Fin 512 := ⟨64 * h.val + x.val, by have := h.isLt; have := x.isLt; omega⟩

/-- Where a pair reads: the columns of its two heads `h` and `h'`; tile `n` starts at key `256 n`. -/
structure At (S : Sites) (h h' : Fin 8) : Prop where
  k : ∀ n : Fin 16, S.oK (BitVec.ofNat 32 n.val) = ![0, 256 * n.val, 64 * h.val]
  v : ∀ n : Fin 16, S.oV (BitVec.ofNat 32 n.val) = ![0, 0, 64 * h.val, 256 * n.val]
  q : S.oQ = ![0, 64 * h.val, 0]
  k' : ∀ n : Fin 16, S.oK' (BitVec.ofNat 32 n.val) = ![0, 256 * n.val, 64 * h'.val]
  v' : ∀ n : Fin 16, S.oV' (BitVec.ofNat 32 n.val) = ![0, 0, 64 * h'.val, 256 * n.val]
  q' : S.oQ' = ![0, 64 * h'.val, 0]

theorem at1 : At sites1 0 1 := ⟨by unfold sites1; decide +kernel, by unfold sites1; decide +kernel, rfl, by unfold sites1; decide +kernel, by unfold sites1; decide +kernel, rfl⟩
theorem at2 : At sites2 2 3 := ⟨by unfold sites2; decide +kernel, by unfold sites2; decide +kernel, rfl, by unfold sites2; decide +kernel, by unfold sites2; decide +kernel, rfl⟩
theorem at3 : At sites3 4 5 := ⟨by unfold sites3; decide +kernel, by unfold sites3; decide +kernel, rfl, by unfold sites3; decide +kernel, by unfold sites3; decide +kernel, rfl⟩
theorem at4 : At sites4 6 7 := ⟨by unfold sites4; decide +kernel, by unfold sites4; decide +kernel, rfl, by unfold sites4; decide +kernel, by unfold sites4; decide +kernel, rfl⟩

/-! ## The tiles a round loads -/

theorem keys_ld (x3 : Vec Ideal S1x4096x512 .bf16) (off : Fin 3 → ℕ) (inb : ∀ a, off a + S1x256x64.size a ≤ S1x4096x512.size a) (n : Fin 16) (h : Fin 8)
    (e : off = ![0, 256 * n.val, 64 * h.val]) (r : Fin 256) (x : Fin 64) :
    View.ld x3 (Rect.unit (s := S1x4096x512) off S1x256x64.size inb) (ix3 0 r x) = x3 (ix3 0 (key n r) (col h x)) := by
  subst e
  refine View.ld_unit_apply_of _ _ _ _ _ _ fun a => ?_
  fin_cases a <;> rfl

theorem values_ld (x4 : Vec Ideal S1x1x512x4096 .f32) (off : Fin 4 → ℕ) (inb : ∀ a, off a + S1x1x64x256.size a ≤ S1x1x512x4096.size a) (n : Fin 16) (h : Fin 8)
    (e : off = ![0, 0, 64 * h.val, 256 * n.val]) (r : Fin 256) (x : Fin 64) :
    View.ld x4 (Rect.unit (s := S1x1x512x4096) off S1x1x64x256.size inb) (ix4 0 0 x r) = x4 (ix4 0 0 (col h x) (key n r)) := by
  subst e
  refine View.ld_unit_apply_of _ _ _ _ _ _ fun a => ?_
  fin_cases a <;> rfl

theorem queries_ld (x2 : Vec Ideal S1x512x256 .bf16) (off : Fin 3 → ℕ) (inb : ∀ a, off a + S1x64x256.size a ≤ S1x512x256.size a) (h : Fin 8)
    (e : off = ![0, 64 * h.val, 0]) (l : Fin 256) (x : Fin 64) :
    View.ld x2 (Rect.unit (s := S1x512x256) off S1x64x256.size inb) (ix3 0 x l) = x2 (ix3 0 (col h x) l) := by
  subst e
  refine View.ld_unit_apply_of _ _ _ _ _ _ fun a => ?_
  fin_cases a <;> simp

/-- The mask of tile `n` at query block `p`: key before query. -/
theorem mask_apply (i : grid0.Coords) (n : Fin 16) (r l : Fin 256) :
    k0_pay35 (iota .tc S256x256 32 [0] iota_S256x256_d0_w32) (k0_pay20 i) (BitVec.ofNat 32 n.val) (ix2 r l) = 1#1
      ↔ (key n r).val < 256 * (i 1).val + l.val := by
  have hi : (i 1).val < 16 := (i 1).isLt
  have := n.isLt
  have := r.isLt
  have := l.isLt
  have key' : ∀ a b : ℕ, IntOp.addi (Scalar.muli (BitVec.ofNat 32 a) 256#32) (BitVec.ofNat 32 b) = BitVec.ofNat 32 (256 * a + b) := fun a b => by
    show BitVec.ofNat 32 a * BitVec.ofNat 32 256 + BitVec.ofNat 32 b = _
    rw [BitVec.ofNat_add, BitVec.ofNat_mul, BitVec.mul_comm]
  pointwise [k0_pay35, k0_pay20]
  rw [key', key', WordCmp.cmpi_slt_ofNat_eq_one_iff (by norm_num; omega) (by norm_num; omega)]

/-! ## The invariant -/

/-- The scores of head `h`: query `l` of the block against key `k`. -/
def score (h : Fin 8) (x2 : Vec Ideal S1x512x256 .bf16) (x3 : Vec Ideal S1x4096x512 .bf16) (l : Fin 256) (k : Fin 4096) : EReal :=
  ∑ x : Fin 64, x3 (ix3 0 k (col h x)) * x2 (ix3 0 (col h x) l)

/-- The values of head `h`: coordinate `d` of key `k`. -/
def value (h : Fin 8) (x4 : Vec Ideal S1x1x512x4096 .f32) (d : Fin 64) (k : Fin 4096) : EReal := x4 (ix4 0 0 (col h d) k)

section

variable (i : grid0.Coords) (v6 : FVec Ideal S256x256 .bf16) (x2 : Vec Ideal S1x512x256 .bf16) (x3 : Vec Ideal S1x4096x512 .bf16)
  (x4 : Vec Ideal S1x1x512x4096 .f32) (S : Sites) (h h' : Fin 8)

/-- The place of query `l` of the block in the sequence. -/
abbrev place (l : Fin 256) : ℕ := 256 * (i 1).val + l.val

/-- The state with `n` tiles left: everything from key `256 n` onward is accounted for. -/
structure Inv (n : ℕ) (s : St Ideal) : Prop where
  tile : s.1.toInt = (n : ℤ) - 1
  top : s.2.1 = ⊥ → ∀ l : Fin 256, s.2.2.1 (ix2 0 l) = ⊥ ∧ s.2.2.2.1 (ix2 0 l) = ⊥
  ca : ∀ l : Fin 256, s.2.2.1 (ix2 0 l) = onward (rest (place i l) (score h x2 x3 l)) (256 * n)
  cb : ∀ l : Fin 256, s.2.2.2.1 (ix2 0 l) = onward (rest (place i l) (score h' x2 x3 l)) (256 * n)
  aa : ∀ (d : Fin 64) (l : Fin 256), s.2.2.2.2.1 (ix2 d l)
    = onward (fun k => value h x4 d k * weight (place i l) (score h x2 x3 l) k) (256 * n)
  ab : ∀ (d : Fin 64) (l : Fin 256), s.2.2.2.2.2 (ix2 d l)
    = onward (fun k => value h' x4 d k * weight (place i l) (score h' x2 x3 l) k) (256 * n)

/-- A trip of the loop. -/
abbrev trip : St Ideal → St Ideal :=
  step (iota .tc S256x256 32 [0] iota_S256x256_d0_w32) (k0_pay20 i) v6 S x2 x3 x4

variable {i v6 x2 x3 x4 S h h'}
  (hu : ∀ r x : Fin 256, v6 (ix2 r x) = if r.val < x.val then 1 else 0)
  (hS : S.Fits) (hat : At S h h')

include hu hS hat in
/-- A trip takes up one tile. -/
theorem Inv.next {n : ℕ} (hn : n < 16) {s : St Ideal} (H : Inv i x2 x3 x4 h h' (n + 1) s) : Inv i x2 x3 x4 h h' n (trip i v6 x2 x3 x4 S s) := by
  obtain ⟨j, top, ca, cb, aa, ab⟩ := s
  obtain ⟨ht, h1, h2, h3, h4, h5⟩ := H
  dsimp only at ht h1 h2 h3 h4 h5
  have hj : j = BitVec.ofNat 32 n := BitVec.eq_of_toInt_eq (by
    rw [ht, WordCmp.toInt_ofNat_of_lt (by norm_num; omega)]; push_cast; ring)
  subst hj
  obtain ⟨m, rfl⟩ : ∃ m : Fin 16, n = m.val := ⟨⟨n, hn⟩, rfl⟩
  have hchk := hS m
  have e : 256 * (m.val + 1) = 256 * m.val + 256 := by ring
  rw [e] at h2 h3 h4 h5
  unfold trip step
  rw [dif_pos hchk]
  have hzA : ∀ l r, k0_pay36 (View.ld x3 (Rect.unit (s := S1x4096x512) (S.oK (BitVec.ofNat 32 m.val)) S1x256x64.size (S.hK _ hchk)))
      (View.ld x2 (Rect.unit (s := S1x512x256) S.oQ S1x64x256.size S.hQ)) (ix2 r l) = score h x2 x3 l (key m r) := fun l r => by
    rw [score_apply]
    exact Finset.sum_congr rfl fun x _ => congrArg₂ (· * ·) (keys_ld _ _ _ m h (hat.k m) r x) (queries_ld _ _ _ h hat.q l x)
  have hzB : ∀ l r, k0_pay36 (View.ld x3 (Rect.unit (s := S1x4096x512) (S.oK' (BitVec.ofNat 32 m.val)) S1x256x64.size (S.hK' _ hchk)))
      (View.ld x2 (Rect.unit (s := S1x512x256) S.oQ' S1x64x256.size S.hQ')) (ix2 r l) = score h' x2 x3 l (key m r) := fun l r => by
    rw [score_apply]
    exact Finset.sum_congr rfl fun x _ => congrArg₂ (· * ·) (keys_ld _ _ _ m h' (hat.k' m) r x) (queries_ld _ _ _ h' hat.q' l x)
  have hvA : ∀ (d : Fin 64) r, View.ld x4 (Rect.unit (s := S1x1x512x4096) (S.oV (BitVec.ofNat 32 m.val)) S1x1x64x256.size (S.hV _ hchk)) (ix4 0 0 d r)
      = value h x4 d (key m r) := fun d r => values_ld _ _ _ m h (hat.v m) r d
  have hvB : ∀ (d : Fin 64) r, View.ld x4 (Rect.unit (s := S1x1x512x4096) (S.oV' (BitVec.ofNat 32 m.val)) S1x1x64x256.size (S.hV' _ hchk)) (ix4 0 0 d r)
      = value h' x4 d (key m r) := fun d r => values_ld _ _ _ m h' (hat.v' m) r d
  have hm := fun r l => mask_apply i m r l
  refine ⟨?_, ?_, fun l => ?_, fun l => ?_, fun d l => ?_, fun d l => ?_⟩
  · exact (toInt_pred _ (by rw [ht]; push_cast; omega)).trans (by rw [ht]; push_cast; ring)
  · exact fun e l => top_eq_bot _ _ _ l e
  · exact tile_carry (n := m) (q := place i) (z := score h x2 x3) l hzA hm h2
  · exact tile_carry (n := m) (q := place i) (z := score h' x2 x3) l hzB hm h3
  · exact tile_acc (n := m) (q := place i) (z := score h x2 x3) (v := value h x4) l d hzA hvA hm hu h2 h4
  · exact tile_acc (n := m) (q := place i) (z := score h' x2 x3) (v := value h' x4) l d hzB hvB hm hu h3 h5

/-- The state the loop ends in. -/
def Done (i : grid0.Coords) (x2 : Vec Ideal S1x512x256 .bf16) (x3 : Vec Ideal S1x4096x512 .bf16) (x4 : Vec Ideal S1x1x512x4096 .f32)
    (h h' : Fin 8) (s : St Ideal) : Prop :=
  (∀ (d : Fin 64) (l : Fin 256), s.2.2.2.2.1 (ix2 d l) = ∑ k, value h x4 d k * weight (place i l) (score h x2 x3 l) k)
    ∧ ∀ (d : Fin 64) (l : Fin 256), s.2.2.2.2.2 (ix2 d l) = ∑ k, value h' x4 d k * weight (place i l) (score h' x2 x3 l) k

/-- With the tiles used up it is that state. -/
theorem Inv.done_zero {s : St Ideal} (H : Inv i x2 x3 x4 h h' 0 s) : Done i x2 x3 x4 h h' s :=
  ⟨fun d l => (H.aa d l).trans (by rw [mul_zero, onward_zero]), fun d l => (H.ab d l).trans (by rw [mul_zero, onward_zero])⟩

/-- With every carry at `⊥` it is that state. -/
theorem Inv.done_bot {n : ℕ} (hn : n ≤ 16) {s : St Ideal} (H : Inv i x2 x3 x4 h h' n s) (e : s.2.1 = ⊥) : Done i x2 x3 x4 h h' s :=
  ⟨fun d l => (H.aa d l).trans (onward_eq_sum _ _ fun k hk => by
      rw [weight_of_bot (by omega) ((H.ca l).symm.trans (H.top e l).1) hk, mul_zero]),
    fun d l => (H.ab d l).trans (onward_eq_sum _ _ fun k hk => by
      rw [weight_of_bot (by omega) ((H.cb l).symm.trans (H.top e l).2) hk, mul_zero])⟩

/-- With a tile left and a carry above `⊥` the loop goes on. -/
theorem Inv.goes {n : ℕ} {s : St Ideal} (H : Inv i x2 x3 x4 h h' (n + 1) s) (ht : s.2.1 ≠ ⊥) : goesOn s = 1#1 := by
  refine (IntOp.andi_eq_one).mpr ⟨?_, ?_⟩
  · show IntOp.cmpi .sge s.1 0#32 = 1#1
    rw [WordCmp.cmpi_sge_eq, WordCmp.ofBool_decide_eq_one_iff, H.tile]
    show (0 : ℤ) ≤ _
    push_cast; omega
  · show BitVec.ofBool (decide (Named.named (F := Ideal) κ "exit" 0xC2D00000#32 < s.2.1)) = 1#1
    rw [WordCmp.ofBool_decide_eq_one_iff]
    exact lt_of_le_of_ne' bot_le ht

theorem Inv.stops {s : St Ideal} (H : Inv i x2 x3 x4 h h' 0 s) : goesOn s ≠ 1#1 := fun e => by
  have := nonneg_of_goesOn e
  rw [H.tile] at this
  norm_num at this

/-- With every carry at `⊥` it stops. -/
theorem stops_bot {s : St Ideal} (e : s.2.1 = ⊥) : goesOn s ≠ 1#1 := fun g => by
  have g2 : BitVec.ofBool (decide (Named.named (F := Ideal) κ "exit" 0xC2D00000#32 < s.2.1)) = 1#1 := ((IntOp.andi_eq_one).mp g).2
  rw [WordCmp.ofBool_decide_eq_one_iff, e] at g2
  exact not_lt_bot g2

include hu hS hat in
theorem Inv.iter : ∀ (k n : ℕ) (s : St Ideal), n ≤ k → n ≤ 16 → Inv i x2 x3 x4 h h' n s
    → Done i x2 x3 x4 h h' (SbIdeal.iter (trip i v6 x2 x3 x4 S) k s)
  | 0, n, s, hk, _, H => by
    obtain rfl : n = 0 := by omega
    exact H.done_zero
  | k + 1, 0, s, _, _, H => by
    rw [SbIdeal.iter, if_neg H.stops]; exact H.done_zero
  | k + 1, n + 1, s, hk, hn, H => by
    by_cases e : s.2.1 = ⊥
    · rw [SbIdeal.iter, if_neg (stops_bot e)]; exact H.done_bot hn e
    · rw [SbIdeal.iter, if_pos (H.goes e)]
      exact Inv.iter k n _ (by omega) (by omega) (H.next hu hS hat (by omega))

/-- The loop's first state: no key from the query block's end onward counts. -/
theorem Inv.start : Inv i x2 x3 x4 h h' ((i 1).val + 1) (SbIdeal.start i) := by
  have hi : (i 1).val < 16 := (i 1).isLt
  have hle : ∀ (l : Fin 256) (k : Fin 4096), 256 * ((i 1).val + 1) ≤ k.val → place i l ≤ k.val := fun l k hk => by
    have := l.isLt; unfold place; omega
  refine ⟨?_, ?_, fun l => ?_, fun l => ?_, fun d l => ?_, fun d l => ?_⟩
  · show ((BitVec.ofNat 32 (i 1).val * 1#32) + 0#32).toInt = _
    rw [BitVec.mul_one, BitVec.add_zero, WordCmp.toInt_ofNat_of_lt (by norm_num; omega)]
    push_cast; ring
  · show Ideal.ofBits .f32 0x00000000#32 = ⊥ → _
    rw [show Ideal.ofBits .f32 0x00000000#32 = 0 from Ideal.ofBits_zero _]
    exact fun e => absurd e EReal.zero_ne_bot
  · refine Eq.trans ?_ (onward_eq_zero _ _ fun k hk => rest_of_le (hle l k hk)).symm
    show k0_pay22 (ix2 0 l) = 0
    pointwise [k0_pay22]
  · refine Eq.trans ?_ (onward_eq_zero _ _ fun k hk => rest_of_le (hle l k hk)).symm
    show k0_pay23 (ix2 0 l) = 0
    pointwise [k0_pay23]
  · refine Eq.trans ?_ (onward_eq_zero _ _ fun k hk => by rw [weight_of_le (hle l k hk), mul_zero]).symm
    show k0_pay24 (ix2 d l) = 0
    pointwise [k0_pay24]
  · refine Eq.trans ?_ (onward_eq_zero _ _ fun k hk => by rw [weight_of_le (hle l k hk), mul_zero]).symm
    show k0_pay25 (ix2 d l) = 0
    pointwise [k0_pay25]

end

end Cert.Proof.SbValue

end
-- ==== Proof.SbValue.Block.lean ====
/- One output block of the attention: what the body leaves at grid point `i`, entry by entry, is the attention of the
   block's queries over all the keys before each. -/
module

public import proofs.«01_k».proof.Proof.SbValue.Rounds

@[expose] public section

set_option maxRecDepth 16384

noncomputable section

namespace Cert.Proof.SbValue

open Idealize.ShloMosaic Cert.KernelIdeal Cert.KernelIdeal.Gen Cert.Proof.SbIdeal

/-- A pair's store puts the first head's accumulator in the first 64 columns and the second's in the other 64. -/
theorem pair_apply (a b : FVec Ideal S64x256 .f32) (l : Fin 256) (x : Fin 128) :
    k0_pay26 a b (ix3 0 l x) = if h : x.val < 64 then a (ix2 ⟨x.val, h⟩ l) else b (ix2 ⟨x.val - 64, by omega⟩ l) := by
  pointwise [k0_pay26]

/-- The head a column of the output belongs to. -/
abbrev head (c : Fin 512) : Fin 8 := ⟨c.val / 64, by omega⟩

section

variable (i : grid0.Coords) (x2 : Vec Ideal S1x512x256 .bf16) (x3 : Vec Ideal S1x4096x512 .bf16)
  (x4 : Vec Ideal S1x1x512x4096 .f32) (x5 : Vec Ideal S256x256 .bf16)
  (hu : ∀ r x : Fin 256, x5 (ix2 r x) = if r.val < x.val then 1 else 0)

include hu in
/-- A pair's columns. -/
theorem fin_apply (S : Sites) (h h' : Fin 8) (hS : S.Fits) (hat : At S h h') (l : Fin 256) (x : Fin 128) (c : Fin 512)
    (e : h'.val = h.val + 1) (hc : c.val = 64 * h.val + x.val) :
    k0_pay26 (fin S i x2 x3 x4 x5).2.2.2.2.1 (fin S i x2 x3 x4 x5).2.2.2.2.2 (ix3 0 l x)
      = attend (place i l) (score (head c) x2 x3 l) (fun k => x4 (ix4 0 0 c k)) := by
  have hi : (i 1).val < 16 := (i 1).isLt
  have hu' : ∀ r x : Fin 256, k0_pay21 (View.ld x5 rU) (ix2 r x) = if r.val < x.val then 1 else 0 := fun r x => by
    pointwise [k0_pay21]
    exact hu r x
  have H := Inv.iter (i := i) (x2 := x2) (x3 := x3) hu' hS hat 16 ((i 1).val + 1) (start i) (by omega) (by omega) (Inv.start (x4 := x4))
  rw [pair_apply]
  unfold attend
  have hl := x.isLt
  by_cases hx : x.val < 64
  · rw [dif_pos hx]
    refine (H.1 ⟨x.val, hx⟩ l).trans ?_
    have eh : head c = h := Fin.ext (by show c.val / 64 = h.val; omega)
    have ec : c = col h ⟨x.val, hx⟩ := Fin.ext (by show c.val = 64 * h.val + x.val; omega)
    rw [eh]
    exact Finset.sum_congr rfl fun k _ => by rw [ec]; rfl
  · rw [dif_neg hx]
    refine (H.2 ⟨x.val - 64, by omega⟩ l).trans ?_
    have eh : head c = h' := Fin.ext (by show c.val / 64 = h'.val; omega)
    have ec : c = col h' ⟨x.val - 64, by omega⟩ := Fin.ext (by show c.val = 64 * h'.val + (x.val - 64); omega)
    rw [eh]
    exact Finset.sum_congr rfl fun k _ => by rw [ec]; rfl

include hu in
theorem out_apply (l : Fin 256) (c : Fin 512) :
    out i x2 x3 x4 x5 (ix3 0 l c) = attend (place i l) (score (head c) x2 x3 l) (fun k => x4 (ix4 0 0 c k)) := by
  unfold out
  canon_tiles x h using cover ..
  all_goals
    obtain ⟨a, b, y, rfl⟩ : ∃ (a : Fin 1) (b : Fin 256) (y : Fin 128), x = ix3 a b y := ⟨x 0, x 1, x 2, eq_ix3 x⟩
    obtain rfl : a = 0 := Subsingleton.elim _ _
    obtain rfl : b = l := Fin.ext h1.symm
  · exact fin_apply i x2 x3 x4 x5 hu sites4 6 7 fits4 at4 b y c rfl h2
  · exact fin_apply i x2 x3 x4 x5 hu sites3 4 5 fits3 at3 b y c rfl h2
  · exact fin_apply i x2 x3 x4 x5 hu sites2 2 3 fits2 at2 b y c rfl h2
  · exact fin_apply i x2 x3 x4 x5 hu sites1 0 1 fits1 at1 b y c rfl (h2.trans (Nat.zero_add _).symm)

end

end Cert.Proof.SbValue

end
-- ==== Proof.SbValue.Kernel.lean ====
/- The attention's result array as the kernel leaves it: at every place, the attention of that query over the keys before
   it. -/
module

public import proofs.«01_k».proof.Proof.SbValue.Block

@[expose] public section

set_option maxRecDepth 16384

noncomputable section

namespace Cert.Proof.SbValue

open Idealize.ShloMosaic Idealize.ShloMosaic.TcCoe Idealize.SL.Sem Cert.KernelIdeal Cert.KernelIdeal.Gen Cert.Proof.SbIdeal

/-- The attention at sequence `b`, place `t`, column `e`, from the queries, keys and values. -/
def attention (q : (⟨3, ![4, 512, 4096]⟩ : Shape).Idx → EReal) (k : (⟨3, ![4, 4096, 512]⟩ : Shape).Idx → EReal)
    (v : (⟨4, ![2, 4, 512, 4096]⟩ : Shape).Idx → EReal) (b : Fin 4) (t : Fin 4096) (e : Fin 512) : EReal :=
  attend t.val (fun j => ∑ x : Fin 64, k (ix3 b j (col (head e) x)) * q (ix3 b (col (head e) x) t)) (fun j => v (ix4 0 b e j))

variable (m : (ℓ : Loc nD τ sig) → Buf (Elt Ideal) ℓ)

/-- The attention at every place, from the launch's arguments. -/
def result (c : Dev nD) (i : (⟨3, ![4, 4096, 512]⟩ : Shape).Idx) : EReal :=
  attention (m ((c : Thread nD τ).loc main_arg0)) (m ((c : Thread nD τ).loc main_arg1)) (m ((c : Thread nD τ).loc main_arg2)) (i 0) (i 1) (i 2)

/-- The sequence and the query block of a point, and the blocks the windows hold there. -/
theorem idx : ∀ t : Fin grid0.N, ((grid0.coords t) 0).val < 4 ∧ ((grid0.coords t) 1).val < 16
    ∧ win0_0.index t = ![((grid0.coords t) 0).val, 0, ((grid0.coords t) 1).val] ∧ win0_1.index t = ![((grid0.coords t) 0).val, 0, 0]
    ∧ win0_2.index t = ![0, ((grid0.coords t) 0).val, 0, 0] ∧ win0_3.index t = ![0, 0]
    ∧ win0_4.index t = ![((grid0.coords t) 0).val, ((grid0.coords t) 1).val, 0] := by decide +kernel

/-- The matrix the host builds: one above the diagonal, zero elsewhere. -/
theorem upper_read (c : Dev nD) (r x : Fin 256) : V m c main_v7 (ix2 r x) = (if r.val < x.val then 1 else 0 : EReal) := by
  have e : V m c main_v7 = truncf .bf16 (select (cmpi .sgt
      (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (iotaInDim S256 32 0))))
      (broadcastInDim S256x256 ![] bcast_S_S256x256 (constant (F := Ideal) S_ .f32 0x3F800000#32))
      (broadcastInDim S256x256 ![] bcast_S_S256x256 (constant (F := Ideal) S_ .f32 0x00000000#32))) bitsLt_bf16_f32 := by
    unfold V
    simp only [pre, hostOps0, hostOps0_1, hostOps0_2, List.flatten_cons, List.flatten_nil, List.append_nil, List.cons_append,
      List.nil_append, StableHlo.TRef.unary, StableHlo.TRef.ternary, StableHlo.TRef.toBuf, StableHlo.TRef.ofBuf, cast_eq]
    after_results_simp <;> rfl
  rw [e]
  pointwise
  unfold Scalar.select
  exact if_congr (WordCmp.cmpi_sgt_ofNat_eq_one_iff (by norm_num; omega) (by norm_num; omega)) rfl rfl

theorem final (c : Dev nD) : (dats m 0 c).arrAt 4 (cfg0 (F := Ideal)).N = result m c := by
  refine (dats m 0 c).arrAt_eq_of_covers 4 _ (by decide +kernel) fun t hf y => ?_
  blk_simp
  rw [after0_4]
  obtain ⟨a, l, e, rfl⟩ : ∃ (a : Fin 1) (l : Fin 256) (e : Fin 512), y = ix3 a l e := ⟨y 0, y 1, y 2, eq_ix3 y⟩
  obtain rfl : a = 0 := Subsingleton.elim _ _
  obtain ⟨hb, hp, i0, i1, i2, i3, i4⟩ := idx t
  have h0 : ∀ (k : Fin 512) (l : Fin 256), iblk m c 0 t (ix3 0 k l)
      = m ((c : Thread nD τ).loc main_arg0) (ix3 ⟨((grid0.coords t) 0).val, hb⟩ k ⟨256 * ((grid0.coords t) 1).val + l.val, by omega⟩) := fun k l => by
    rw [← V_arg0 m c]
    blk_ext [iblk, i0]
  have h1 : ∀ (j : Fin 4096) (k : Fin 512), iblk m c 1 t (ix3 0 j k)
      = m ((c : Thread nD τ).loc main_arg1) (ix3 ⟨((grid0.coords t) 0).val, hb⟩ j k) := fun j k => by
    rw [← V_arg1 m c]
    blk_ext [iblk, i1]
  have h2 : ∀ (k : Fin 512) (j : Fin 4096), iblk m c 2 t (ix4 0 0 k j)
      = m ((c : Thread nD τ).loc main_arg2) (ix4 0 ⟨((grid0.coords t) 0).val, hb⟩ k j) := fun k j => by
    rw [← V_arg2 m c]
    blk_ext [iblk, i2]
  have h3 : ∀ (r x : Fin 256), iblk m c 3 t (ix2 r x) = (if r.val < x.val then 1 else 0 : EReal) := fun r x => by
    rw [← upper_read m c]
    blk_ext [iblk, i3]
  have he : ((cfg0 (F := Ideal)).win 4 |>.blk t).view.emb (ix3 0 l e)
      = ix3 ⟨((grid0.coords t) 0).val, hb⟩ ⟨256 * ((grid0.coords t) 1).val + l.val, by omega⟩ e := by
    blk_ext [iblk, i4]
  refine (out_apply _ _ _ _ _ h3 l e).trans ?_
  rw [he]
  unfold score
  simp only [h0, h1, h2]
  rfl

end Cert.Proof.SbValue

end
-- ==== Proof.SbValue.Suffix.lean ====
/- The reference's window sum: a window as long as the axis, padded after the end, adds up the terms from a position onward. -/
module

public import proofs.«01_k».proof.Proof.SbValue.Math

@[expose] public section

set_option maxRecDepth 16384

noncomputable section

namespace Cert.Proof.SbValue

open Idealize.ShloMosaic

/-- The terms from a position onward, counted from that position; past the end there is nothing. -/
theorem sum_shifted {N : ℕ} (f : Fin N → EReal) (k : ℕ) (hk : k ≤ N) :
    (∑ w : Fin N, if h : k + w.val < N then f ⟨k + w.val, h⟩ else 0) = onward f k := by
  have e1 := sum_window f k (N - k) (by omega)
  have e2 := sum_window (fun w : Fin N => if h : k + w.val < N then f ⟨k + w.val, h⟩ else 0) 0 (N - k) (by omega)
  have e3 : (∑ i : Fin (N - k), if h : k + (0 + i.val) < N then f ⟨k + (0 + i.val), h⟩ else 0) = ∑ i : Fin (N - k), f ⟨k + i.val, by omega⟩ :=
    Finset.sum_congr rfl fun i _ => by
      rw [dif_pos (by omega)]
      exact congrArg f (Fin.ext (by show k + (0 + i.val) = k + i.val; omega))
  have e4 : (∑ w : Fin N, if h : k + w.val < N then f ⟨k + w.val, h⟩ else 0)
      = ∑ w : Fin N, if 0 ≤ w.val ∧ w.val < 0 + (N - k) then (if h : k + w.val < N then f ⟨k + w.val, h⟩ else 0) else 0 :=
    Finset.sum_congr rfl fun w _ => by
      by_cases h : k + w.val < N
      · rw [if_pos (by omega)]
      · rw [dif_neg h, ite_self]
  rw [e4, ← e2, e3, e1]
  unfold onward
  exact Finset.sum_congr rfl fun j _ => if_congr (by omega) rfl rfl

theorem foldl_add {M : ℕ} (g : Fin M → EReal) : (List.finRange M).foldl (fun r n => r + g n) 0 = ∑ n, g n := by
  rw [Fin.sum_univ_def, List.sum_eq_foldl, List.foldl_map]

/-- The window's indices are the places of its last axis. -/
def windowIdx (N : ℕ) : Fin N ≃ (⟨4, ![1, 1, 1, N]⟩ : Shape).Idx where
  toFun w := ix4 0 0 0 w
  invFun i := i 3
  left_inv _ := rfl
  right_inv i := by
    rw [eq_ix4 i]
    funext a
    fin_cases a
    · exact Subsingleton.elim (α := Fin 1) _ _
    · exact Subsingleton.elim (α := Fin 1) _ _
    · exact Subsingleton.elim (α := Fin 1) _ _
    · rfl

theorem suffix_apply {A B C N P : ℕ} (x : FVec Ideal ⟨4, ![A, B, C, N]⟩ .f32) (init : (⟨0, ![]⟩ : Shape).Idx → Ideal .f32)
    (hi : ∀ i, init i = (0 : EReal))
    (hw : (⟨4, ![A, B, C, N]⟩ : Shape).ReduceWindows ![1, 1, 1, N] ![1, 1, 1, 1] ![0, 0, 0, 0] ![0, 0, 0, P] ⟨4, ![A, B, C, N]⟩)
    (hu : 0 < (⟨0, ![]⟩ : Shape).numel) (b : Fin A) (h : Fin B) (q : Fin C) (k : Fin N) :
    Host.reduceWindowAdd (F := Ideal) ![1, 1, 1, N] ![1, 1, 1, 1] ![0, 0, 0, 0] ![0, 0, 0, P] x init hw hu (ix4 b h q k)
      = onward (fun j : Fin N => x (ix4 b h q j)) k.val := by
  refine Eq.trans ?_ (sum_shifted (fun j : Fin N => x (ix4 b h q j)) k.val k.isLt.le)
  show Host.reduceWindow (α := EReal) (· + ·) ![1, 1, 1, N] ![1, 1, 1, 1] ![0, 0, 0, 0] ![0, 0, 0, P] x
    (fun _ : (⟨0, ![]⟩ : Shape).Idx => init (Shape.Idx.first hu)) hw (by decide) (ix4 b h q k) = _
  rw [hi]
  unfold Host.reduceWindow
  refine (foldl_add _).trans ?_
  refine (Equiv.sum_comp ((windowIdx N).trans (⟨4, ![1, 1, 1, N]⟩ : Shape).rowMajor) _).symm.trans ?_
  refine Finset.sum_congr rfl fun w _ => ?_
  have hb := b.isLt
  have hh := h.isLt
  have hq := q.isLt
  have e : (⟨4, ![1, 1, 1, N]⟩ : Shape).rowMajor.symm (((windowIdx N).trans (⟨4, ![1, 1, 1, N]⟩ : Shape).rowMajor) w) = ix4 0 0 0 w :=
    Equiv.symm_apply_apply _ _
  dsimp only
  by_cases hlt : k.val + w.val < N
  · rw [dif_pos hlt, dif_pos ?_]
    · refine congrArg x (funext fun a => Fin.ext ?_)
      dsimp only
      rw [e]
      fin_cases a
      · show b.val * 1 + 0 - 0 = b.val; omega
      · show h.val * 1 + 0 - 0 = h.val; omega
      · show q.val * 1 + 0 - 0 = q.val; omega
      · show k.val * 1 + w.val - 0 = k.val + w.val; omega
    · intro a
      rw [e]
      fin_cases a
      · show 0 ≤ b.val * 1 + 0 ∧ b.val * 1 + 0 - 0 < A; omega
      · show 0 ≤ h.val * 1 + 0 ∧ h.val * 1 + 0 - 0 < B; omega
      · show 0 ≤ q.val * 1 + 0 ∧ q.val * 1 + 0 - 0 < C; omega
      · show 0 ≤ k.val * 1 + w.val ∧ k.val * 1 + w.val - 0 < N; omega
  · rw [dif_neg hlt, dif_neg ?_]
    intro hin
    have := (hin 3).2
    rw [e] at this
    change k.val * 1 + w.val - 0 < N at this
    omega

end Cert.Proof.SbValue

end
-- ==== Proof.SbValue.Ref.lean ====
/- The attention's result array as the reference leaves it: its operations in five steps, each read entry by entry. -/
module

public import proofs.«01_k».proof.Proof.Gen.ReferenceIdeal.Run
public import proofs.«01_k».proof.Proof.SbValue.Suffix
public import proofs.«01_k».proof.Proof.SbValue.Kernel

@[expose] public section

set_option maxRecDepth 16384

noncomputable section

namespace Cert.Proof.SbValue

open Idealize.ShloMosaic Idealize.ShloMosaic.TcCoe Idealize.SL.Sem Cert.ReferenceIdeal Cert.ReferenceIdeal.Gen

/-- An array over sequences, heads, queries and keys. -/
abbrev Table := FVec Ideal S4x8x4096x4096 .f32

/-- Zero everywhere. -/
abbrev zeros : Table := broadcastInDim S4x8x4096x4096 ![] bcast_S_S4x8x4096x4096 (constant (F := Ideal) S_ .f32 0x00000000#32)

/-- The scores. -/
def refScores (q : FVec Ideal S4x512x4096 .bf16) (k : FVec Ideal S4x4096x512 .bf16) : Table :=
  Host.dotGeneral dot_S4x8x64x4096_S4x4096x8x64_S4x8x4096x4096_2_3_3_1_01_02 none (shapeCast _ (extf .f32 q bitsLt_bf16_f32) shapeCasts_S4x512x4096_S4x8x64x4096) (shapeCast _ (extf .f32 k bitsLt_bf16_f32) shapeCasts_S4x4096x512_S4x4096x8x64)

/-- Key before query. -/
def refMask : IVec S4x8x4096x4096 1 :=
  broadcastInDim S4x8x4096x4096 ![0, 1, 2, 3] bcast_S1x1x4096x4096_S4x8x4096x4096_0_1_2_3 (broadcastInDim S1x1x4096x4096 ![2, 3] bcast_S4096x4096_S1x1x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The reference's soft maximum of a number and zero. -/
def refSoft (x : Table) : Table :=
  select (cmpf .une (subf x zeros) (subf x zeros)) (addf x zeros) (addf (maximumf x zeros) (Host.log1p (Host.exp (Host.negf (Host.absf (subf x zeros))))))

/-- What each key leaves of the stick. -/
def refRest (z : Table) : Table := select refMask (Host.negf (refSoft (Host.negf (Host.negf z)))) zeros

/-- The weights. -/
def refWeights (z : Table) : Table :=
  select refMask (Host.exp (addf (Host.negf (refSoft (Host.negf z))) (subf (Host.reduceWindowAdd ![1, 1, 1, 4096] ![1, 1, 1, 1] ![0, 0, 0, 0] ![0, 0, 0, 4095] (refRest z) (broadcastInDim S_ ![] bcast_S_S_ (constant (F := Ideal) S_ .f32 0x00000000#32)) reduceWindows_S4x8x4096x4096_S4x8x4096x4096_w1s1p0_0_w1s1p0_0_w1s1p0_0_w4096s1p0_4095 h_S_) (refRest z)))) zeros

/-- The result. -/
def refOut (w : Table) (v : FVec Ideal S2x4x512x4096 .f32) : FVec Ideal S4x4096x512 .f32 :=
  shapeCast _ (transpose S4x4096x8x64 [0, 3, 1, 2] (Host.dotGeneral dot_S4x8x64x4096_S4x8x4096x4096_S4x8x64x4096_3_3_2_2_01_01 none (shapeCast _ (shapeCast _ (extractStridedSlice S1x4x512x4096 ![0, 0, 0, 0] v slices_S2x4x512x4096_S1x4x512x4096_0_0_0_0) shapeCasts_S1x4x512x4096_S4x512x4096) shapeCasts_S4x512x4096_S4x8x64x4096) w) transposes_S4x8x64x4096_S4x4096x8x64_0_3_1_2) shapeCasts_S4x4096x8x64_S4x4096x512

theorem res_eq (m : (ℓ : Loc nD τ sig) → Buf (Elt Ideal) ℓ) (c : Dev nD) :
    Cert.ReferenceIdeal.Value.res_main_v26 m c = refOut (refWeights (refScores (m ((c.tc : Thread nD τ).loc main_arg0)) (m ((c.tc : Thread nD τ).loc main_arg1))))
      (m ((c.tc : Thread nD τ).loc main_arg2)) := rfl

section

variable (b : Fin 4) (h : Fin 8) (t k : Fin 4096)

theorem refScores_apply (q : FVec Ideal S4x512x4096 .bf16) (kk : FVec Ideal S4x4096x512 .bf16) :
    refScores q kk (ix4 b h t k) = ∑ x : Fin 64, kk (ix3 b k (col h x)) * q (ix3 b (col h x) t) := by
  pointwise [refScores]
  exact Finset.sum_congr rfl fun x _ => by
    rw [mul_comm, show (⟨h.val * 64 + x.val, by omega⟩ : Fin 512) = col h x from Fin.ext (by show h.val * 64 + x.val = 64 * h.val + x.val; omega)]

theorem refMask_apply : refMask (ix4 b h t k) = 1#1 ↔ k.val < t.val := by
  pointwise [refMask]
  exact WordCmp.cmpi_slt_ofNat_eq_one_iff (by norm_num; omega) (by norm_num; omega)

theorem refSoft_apply (x : Table) : refSoft x (ix4 b h t k) = soft (x (ix4 b h t k)) := by
  pointwise [refSoft]
  rw [if_neg (not_not.mpr rfl)]
  unfold soft
  rw [zero_sub]
  rfl

theorem refRest_apply (z : Table) : refRest z (ix4 b h t k) = rest t.val (fun j => z (ix4 b h t j)) k := by
  pointwise [refRest]
  rw [refSoft_apply]
  pointwise
  rw [neg_neg]
  unfold Scalar.select rest
  rw [zero_sub]
  exact if_congr (refMask_apply b h t k) rfl rfl

theorem refWeights_apply (z : Table) : refWeights z (ix4 b h t k) = weight t.val (fun j => z (ix4 b h t j)) k := by
  pointwise [refWeights]
  rw [suffix_apply _ _ (fun i => by pointwise), refSoft_apply]
  pointwise
  simp only [refRest_apply]
  rw [← onward_succ]
  unfold Scalar.select weight
  by_cases hk : k.val < t.val
  · refine (if_pos ((refMask_apply b h t k).mpr hk)).trans ?_
    rw [if_pos hk]
    congr 1
    rw [show rest t.val (fun j => z (ix4 b h t j)) k = 0 - soft (z (ix4 b h t k)) from if_pos hk]
    exact log_weight _ _
  · exact (if_neg (mt (refMask_apply b h t k).mp hk)).trans (if_neg hk).symm

theorem refOut_apply (w : Table) (v : FVec Ideal S2x4x512x4096 .f32) (e : Fin 512) :
    refOut w v (ix3 b t e) = ∑ j : Fin 4096, v (ix4 0 b e j) * w (ix4 b (head e) t j) := by
  pointwise [refOut]

/-- The reference's result, at every place. -/
theorem reference_apply (m : (ℓ : Loc nD τ sig) → Buf (Elt Ideal) ℓ) (c : Dev nD) (e : Fin 512) :
    Cert.ReferenceIdeal.Value.res_main_v26 m c (ix3 b t e)
      = attention (m ((c.tc : Thread nD τ).loc main_arg0)) (m ((c.tc : Thread nD τ).loc main_arg1)) (m ((c.tc : Thread nD τ).loc main_arg2)) b t e := by
  rw [res_eq, refOut_apply]
  simp only [refWeights_apply, refScores_apply]
  rfl

end

end Cert.Proof.SbValue

end
-- ==== Proof.SbValue.Claim.lean ====
/- The attention's value: on arguments that agree, the kernel's result array and the reference's are equal. -/
module

public import proofs.«01_k».proof.Defs
public import proofs.«01_k».proof.Proof.SbValue.Kernel
public import proofs.«01_k».proof.Proof.SbValue.Ref

@[expose] public section

set_option maxRecDepth 16384

noncomputable section

namespace Cert.Proof.SbValue

open Idealize.ShloMosaic Idealize.ShloMosaic.TcCoe Idealize.SL.Sem Cert.KernelIdeal Cert.KernelIdeal.Gen

theorem algebraic : Cert.algebraic_KernelIdeal_ReferenceIdeal := by
  intro m ρ m' ρ' _ hagree
  refine ⟨result m, (θ_run defs _ _).mono (fun r h c => ⟨((h.1 c).1 4).trans (final m c), SbIdeal.args_of m r h.1 c⟩)
      (SbIdeal.run_main_quiescent (F := Ideal) m ρ),
    (θ_run Cert.ReferenceIdeal.defs _ _).mono (fun r h c => ⟨(h c).1.trans ?_, (h c).2⟩) (Cert.ReferenceIdeal.Value.run (F := Ideal) m' ρ')⟩
  clear h
  obtain ⟨e0, e1, e2⟩ := hagree c
  funext j
  obtain ⟨b, t, e, rfl⟩ : ∃ (b : Fin 4) (t : Fin 4096) (e : Fin 512), j = ix3 b t e := ⟨j 0, j 1, j 2, eq_ix3 j⟩
  refine (reference_apply b t m' c e).trans ?_
  rw [e0, e1, e2]; rfl

end Cert.Proof.SbValue

end
-- ==== Proof.ProjAb.Block.lean ====
/- What one grid point of the prompt's projection leaves in each of its five output blocks: the pooled inputs, the scaled
   queries, the keys by place and by column, and the values, of 512 rows. -/
module

public import proofs.«01_k».proof.Proof.Gen.Kernel4Ideal.Frame
public import proofs.«01_k».proof.Proof.Ffn.Math
public import Idealize.ShloMosaic.Lib.Pipeline.ValueKit

@[expose] public section

set_option maxRecDepth 16384

noncomputable section

namespace Cert.Proof.ProjAb

open Idealize.ShloMosaic Cert.Kernel4Ideal Cert.Kernel4Ideal.Gen Cert.Proof.Ffn

/-- A normalised row times one column of the projection. -/
def projected (x gain w : Fin 1024 → EReal) : EReal := ∑ j, normed x gain j * w j

/-- The f32 constant one eighth, by which the queries are scaled. -/
abbrev eighth : EReal := Ideal.ofBits .f32 0x3E000000#32

variable (x0 : Vec Ideal S512x1024 .f32) (x1 : Vec Ideal S1x1024 .f32) (x2 : Vec Ideal S1024x2048 .bf16)

/-- A block's row times a column of the projection. -/
def entry (r : Fin 512) (e : Fin 2048) : EReal := projected (fun k => x0 (ix2 r k)) (fun k => x1 (ix2 0 k)) (fun j => x2 (ix2 j e))

theorem product_apply (r : Fin 512) (e : Fin 2048) : k0_pay3 x0 x1 x2 (ix2 r e) = entry x0 x1 x2 r e := by
  pointwise [k0_pay3]
  rfl

theorem pool_apply (r e : Fin 512) : k0_pay4 x0 x1 x2 (ix2 r e) = entry x0 x1 x2 r ⟨e.val, by omega⟩ := by
  pointwise [k0_pay4]
  exact product_apply x0 x1 x2 r ⟨e.val, by omega⟩

theorem query_apply (e r : Fin 512) : k0_pay7 x0 x1 x2 (ix3 0 e r) = entry x0 x1 x2 r ⟨512 + e.val, by omega⟩ * eighth := by
  pointwise [k0_pay7]
  rw [product_apply]

theorem key_apply (r e : Fin 512) : k0_pay8 x0 x1 x2 (ix3 0 r e) = entry x0 x1 x2 r ⟨1024 + e.val, by omega⟩ := by
  pointwise [k0_pay8, k0_pay5]
  exact product_apply x0 x1 x2 r ⟨1024 + e.val, by omega⟩

theorem column_apply (e r : Fin 512) :
    k0_pay1 (k0_pay9 x0 x1 x2) (ix4 0 0 e r) = entry x0 x1 x2 r ⟨1024 + e.val, by omega⟩ := by
  pointwise [k0_pay1, k0_pay9, k0_pay5]
  exact product_apply x0 x1 x2 r ⟨1024 + e.val, by omega⟩

theorem value_apply (e r : Fin 512) :
    k0_pay2 (k0_pay6 x0 x1 x2) (ix4 0 0 e r) = entry x0 x1 x2 r ⟨1536 + e.val, by omega⟩ := by
  pointwise [k0_pay2, k0_pay6]
  exact product_apply x0 x1 x2 r ⟨1536 + e.val, by omega⟩

end Cert.Proof.ProjAb

end
-- ==== Proof.ProjAb.Kernel.lean ====
/- The five arrays the prompt's projection leaves, each as a function of the launch's arguments. The keys and the values
   by column go into the second slot of a stack whose first slot keeps what it held. -/
module

public import proofs.«01_k».proof.Proof.ProjAb.Block

@[expose] public section

set_option maxRecDepth 16384

noncomputable section

namespace Cert.Proof.ProjAb

open Idealize.ShloMosaic Idealize.ShloMosaic.TcCoe Idealize.SL.Sem Cert.Kernel4Ideal Cert.Kernel4Ideal.Gen

/-- A row of the residual stream, normalised, times a column of the projection. -/
def cell (x : (⟨2, ![17408, 1024]⟩ : Shape).Idx → EReal) (g : (⟨1, ![1024]⟩ : Shape).Idx → EReal)
    (w : (⟨2, ![1024, 2048]⟩ : Shape).Idx → EReal) (r : Fin 17408) (e : Fin 2048) : EReal :=
  projected (fun k => x (ix2 r k)) (fun k => g (ix1 k)) (fun j => w (ix2 j e))

variable (m : (ℓ : Loc nD τ sig) → Buf (Elt Ideal) ℓ)

/-- The projection at a row and a column, from the launch's arguments. -/
def at_ (c : Dev nD) (r : Fin 17408) (e : Fin 2048) : EReal :=
  cell (m ((c : Thread nD τ).loc main_arg0)) (m ((c : Thread nD τ).loc main_arg1)) (m ((c : Thread nD τ).loc main_arg2)) r e

/-- The row of the residual stream that holds place `p` of sequence `b`. -/
def row (b : Fin 4) (p : Fin 4096) : Fin 17408 := ⟨4096 * b.val + p.val, by omega⟩

/-- The pooled inputs. -/
def pool (c : Dev nD) (i : (⟨2, ![16384, 512]⟩ : Shape).Idx) : EReal :=
  at_ m c ⟨(i 0).val, by have := (i 0).isLt; simp at this; omega⟩ ⟨(i 1).val, by have := (i 1).isLt; simp at this; omega⟩

/-- The scaled queries, by column. -/
def query (c : Dev nD) (i : (⟨3, ![4, 512, 4096]⟩ : Shape).Idx) : EReal :=
  at_ m c (row (i 0) (i 2)) ⟨512 + (i 1).val, by have := (i 1).isLt; simp at this; omega⟩ * eighth

/-- The keys, by place. -/
def key (c : Dev nD) (i : (⟨3, ![4, 4096, 512]⟩ : Shape).Idx) : EReal :=
  at_ m c (row (i 0) (i 1)) ⟨1024 + (i 2).val, by have := (i 2).isLt; simp at this; omega⟩

/-- This layer's columns from column `1024` of the projection on (its keys) or from `1536` on (its values). -/
def column (o : ℕ) (ho : o ≤ 1536) (c : Dev nD) (i : (⟨4, ![2, 4, 512, 4096]⟩ : Shape).Idx) : EReal :=
  at_ m c (row (i 1) (i 3)) ⟨o + (i 2).val, by have := (i 2).isLt; simp at this; omega⟩

/-- The stack of keys by column: the given first slot, and this layer's keys. -/
def keys (c : Dev nD) (i : (⟨4, ![2, 4, 512, 4096]⟩ : Shape).Idx) : EReal :=
  if 1 ≤ (i 0).val / 1 then column m 1024 (by omega) c i else m ((c : Thread nD τ).loc main_arg3) i

/-- The stack of values by column: the given first slot, and this layer's values. -/
def values (c : Dev nD) (i : (⟨4, ![2, 4, 512, 4096]⟩ : Shape).Idx) : EReal :=
  if 1 ≤ (i 0).val / 1 then column m 1536 (by omega) c i else m ((c : Thread nD τ).loc main_arg4) i

/-- Each point's sequence and tile of places, and the blocks the windows hold there. -/
theorem idx : ∀ t : Fin grid0.N, ((grid0.coords t) 0).val < 4 ∧ ((grid0.coords t) 1).val < 8
    ∧ win0_0.index t = ![8 * ((grid0.coords t) 0).val + ((grid0.coords t) 1).val, 0]
    ∧ win0_1.index t = ![0, 0] ∧ win0_2.index t = ![0, 0]
    ∧ win0_3.index t = ![8 * ((grid0.coords t) 0).val + ((grid0.coords t) 1).val, 0]
    ∧ win0_4.index t = ![((grid0.coords t) 0).val, 0, ((grid0.coords t) 1).val]
    ∧ win0_5.index t = ![((grid0.coords t) 0).val, ((grid0.coords t) 1).val, 0]
    ∧ win0_6.index t = ![1, ((grid0.coords t) 0).val, 0, ((grid0.coords t) 1).val]
    ∧ win0_7.index t = ![1, ((grid0.coords t) 0).val, 0, ((grid0.coords t) 1).val] := by decide +kernel

theorem gain_read (c : Dev nD) (k : Fin 1024) : V m c main_v0 (ix2 0 k) = m ((c : Thread nD τ).loc main_arg1) (ix1 k) := by
  show StableHlo.after hostOps0 (fun b => m (c, b)) (Proc.devRef .tc main_v0) (ix2 0 k) = _
  entry_read
  pointwise

theorem matrix_read (c : Dev nD) : V m c main_v1 = m ((c : Thread nD τ).loc main_arg2) := by
  entry_read
  rfl

theorem keys_read (c : Dev nD) : V m c main_v2_3 = m ((c : Thread nD τ).loc main_arg3) := by
  entry_read
  rfl

theorem values_read (c : Dev nD) : V m c main_v2_4 = m ((c : Thread nD τ).loc main_arg4) := by
  entry_read
  rfl

/-- A point's block product at a row is the projection at the row of the stream the block holds there. -/
theorem entry_read' (c : Dev nD) (t : Fin cfg0.N) (r : Fin 512) (e : Fin 2048) (s : Fin 17408)
    (hs : s.val = (8 * ((grid0.coords t) 0).val + ((grid0.coords t) 1).val) * 512 + r.val) :
    entry (iblk m c 0 t) (iblk m c 1 t) (iblk m c 2 t) r e = at_ m c s e := by
  obtain ⟨hb, hp, i0, i1, i2, -⟩ := idx t
  have h0 : ∀ k : Fin 1024, iblk m c 0 t (ix2 r k) = m ((c : Thread nD τ).loc main_arg0) (ix2 s k) := fun k => by
    rw [← V_main_arg0 m c, show s = ⟨(8 * ((grid0.coords t) 0).val + ((grid0.coords t) 1).val) * 512 + r.val, by omega⟩ from Fin.ext hs]
    blk_ext [iblk, i0]
  have h1 : ∀ k : Fin 1024, iblk m c 1 t (ix2 0 k) = m ((c : Thread nD τ).loc main_arg1) (ix1 k) := fun k => by
    rw [← gain_read m c]
    blk_ext [iblk, i1]
  have h2 : ∀ (j : Fin 1024) (k : Fin 2048), iblk m c 2 t (ix2 j k) = m ((c : Thread nD τ).loc main_arg2) (ix2 j k) := fun j k => by
    rw [← matrix_read m c]
    blk_ext [iblk, i2]
  unfold entry at_ cell
  simp only [h0, h1, h2]

theorem pool_final (c : Dev nD) : (dats m 0 c).arrAt 3 cfg0.N = pool m c := by
  refine (dats m 0 c).arrAt_eq_of_covers 3 _ (by decide +kernel) fun t hf y => ?_
  blk_simp
  rw [after0_3]
  obtain ⟨r, e, rfl⟩ : ∃ r e : Fin 512, y = ix2 r e := ⟨y 0, y 1, eq_ix2 y⟩
  obtain ⟨hb, hp, -, -, -, i3, -⟩ := idx t
  have he : (win0_3.blk t).view.emb (ix2 r e)
      = ix2 ⟨(8 * ((grid0.coords t) 0).val + ((grid0.coords t) 1).val) * 512 + r.val, by omega⟩ e := by
    blk_ext [iblk, i3]
  rw [he]
  dsimp only [outsAt0]
  frame_out
  exact (pool_apply _ _ _ r e).trans (entry_read' m c t r _ _ rfl)

theorem query_final (c : Dev nD) : (dats m 0 c).arrAt 4 cfg0.N = query m c := by
  refine (dats m 0 c).arrAt_eq_of_covers 4 _ (by decide +kernel) fun t hf y => ?_
  blk_simp
  rw [after0_4]
  obtain ⟨a, e, r, rfl⟩ : ∃ (a : Fin 1) (e r : Fin 512), y = ix3 a e r := ⟨y 0, y 1, y 2, eq_ix3 y⟩
  obtain rfl : a = 0 := Subsingleton.elim _ _
  obtain ⟨hb, hp, -, -, -, -, i4, -⟩ := idx t
  have he : (win0_4.blk t).view.emb (ix3 0 e r)
      = ix3 ⟨((grid0.coords t) 0).val, hb⟩ e ⟨((grid0.coords t) 1).val * 512 + r.val, by omega⟩ := by
    blk_ext [iblk, i4]
  rw [he]
  dsimp only [outsAt0]
  frame_out
  refine (query_apply _ _ _ e r).trans (congrArg (· * eighth) (entry_read' m c t r _ _ ?_))
  show 4096 * ((grid0.coords t) 0).val + (((grid0.coords t) 1).val * 512 + r.val) = _
  omega

theorem key_final (c : Dev nD) : (dats m 0 c).arrAt 5 cfg0.N = key m c := by
  refine (dats m 0 c).arrAt_eq_of_covers 5 _ (by decide +kernel) fun t hf y => ?_
  blk_simp
  rw [after0_5]
  obtain ⟨a, r, e, rfl⟩ : ∃ (a : Fin 1) (r e : Fin 512), y = ix3 a r e := ⟨y 0, y 1, y 2, eq_ix3 y⟩
  obtain rfl : a = 0 := Subsingleton.elim _ _
  obtain ⟨hb, hp, -, -, -, -, -, i5, -⟩ := idx t
  have he : (win0_5.blk t).view.emb (ix3 0 r e)
      = ix3 ⟨((grid0.coords t) 0).val, hb⟩ ⟨((grid0.coords t) 1).val * 512 + r.val, by omega⟩ e := by
    blk_ext [iblk, i5]
  rw [he]
  dsimp only [outsAt0]
  frame_out
  refine (key_apply _ _ _ r e).trans (entry_read' m c t r _ _ ?_)
  show 4096 * ((grid0.coords t) 0).val + (((grid0.coords t) 1).val * 512 + r.val) = _
  omega

theorem keys_final (c : Dev nD) : (dats m 0 c).arrAt 6 cfg0.N = keys m c := by
  have h := (dats m 0 c).arrAt_eq_of_coversWhere 6 (column m 1024 (by omega) c)
    (fun β => 1 ≤ β (0 : Fin _)) (P := fun i => 1 ≤ (i 0 : ℕ) / 1) (by decide +kernel) (fun t hf y => ?_) (fun j => Iff.rfl)
  · refine h.trans (funext fun i => ?_)
    unfold keys
    rw [← keys_read m c]
    rfl
  blk_simp
  rw [after0_6]
  obtain ⟨a, a', e, r, rfl⟩ : ∃ (a a' : Fin 1) (e r : Fin 512), y = ix4 a a' e r := ⟨y 0, y 1, y 2, y 3, eq_ix4 y⟩
  obtain rfl : a = 0 := Subsingleton.elim _ _
  obtain rfl : a' = 0 := Subsingleton.elim _ _
  obtain ⟨hb, hp, -, -, -, -, -, -, i6, -⟩ := idx t
  have he : (win0_6.blk t).view.emb (ix4 0 0 e r)
      = ix4 1 ⟨((grid0.coords t) 0).val, hb⟩ e ⟨((grid0.coords t) 1).val * 512 + r.val, by omega⟩ := by
    blk_ext [iblk, i6]
  rw [he]
  dsimp only [outsAt0]
  frame_out
  refine (column_apply _ _ _ e r).trans (entry_read' m c t r _ _ ?_)
  show 4096 * ((grid0.coords t) 0).val + (((grid0.coords t) 1).val * 512 + r.val) = _
  omega

theorem values_final (c : Dev nD) : (dats m 0 c).arrAt 7 cfg0.N = values m c := by
  have h := (dats m 0 c).arrAt_eq_of_coversWhere 7 (column m 1536 (by omega) c)
    (fun β => 1 ≤ β (0 : Fin _)) (P := fun i => 1 ≤ (i 0 : ℕ) / 1) (by decide +kernel) (fun t hf y => ?_) (fun j => Iff.rfl)
  · refine h.trans (funext fun i => ?_)
    unfold values
    rw [← values_read m c]
    rfl
  blk_simp
  rw [after0_7]
  obtain ⟨a, a', e, r, rfl⟩ : ∃ (a a' : Fin 1) (e r : Fin 512), y = ix4 a a' e r := ⟨y 0, y 1, y 2, y 3, eq_ix4 y⟩
  obtain rfl : a = 0 := Subsingleton.elim _ _
  obtain rfl : a' = 0 := Subsingleton.elim _ _
  obtain ⟨hb, hp, -, -, -, -, -, -, -, i7⟩ := idx t
  have he : (win0_7.blk t).view.emb (ix4 0 0 e r)
      = ix4 1 ⟨((grid0.coords t) 0).val, hb⟩ e ⟨((grid0.coords t) 1).val * 512 + r.val, by omega⟩ := by
    blk_ext [iblk, i7]
  rw [he]
  dsimp only [outsAt0]
  frame_out
  refine (value_apply _ _ _ e r).trans (entry_read' m c t r _ _ ?_)
  show 4096 * ((grid0.coords t) 0).val + (((grid0.coords t) 1).val * 512 + r.val) = _
  omega

end Cert.Proof.ProjAb

end
-- ==== Proof.ProjAb.History.lean ====
/- The last fifteen places of the prompt's pooled inputs: what the host cuts out of the projection's first array after the
   kernel has run. -/
module

public import proofs.«01_k».proof.Proof.ProjAb.Kernel

@[expose] public section

set_option maxRecDepth 16384

noncomputable section

namespace Cert.Proof.ProjAb

open Idealize.ShloMosaic Idealize.ShloMosaic.TcCoe Idealize.ShloMosaic.Tactic Idealize.SL.Sem Cert.Kernel4Ideal Cert.Kernel4Ideal.Gen

variable (m : (ℓ : Loc nD τ sig) → Buf (Elt Ideal) ℓ) (ρ : Dev nD → PrngReg)

/-- The pooled inputs of each sequence's last fifteen places. -/
def history (c : Dev nD) (i : (⟨3, ![4, 15, 512]⟩ : Shape).Idx) : EReal :=
  at_ m c (row (i 0) ⟨4081 + (i 1).val, by have := (i 1).isLt; simp at this; omega⟩)
    ⟨(i 2).val, by have := (i 2).isLt; simp at this; omega⟩

/-- The host's two lines, from any contents: the first array, by sequence and place, cut. -/
theorem history_cut (W : Valuation τ sig (Elt Ideal)) :
    StableHlo.after hostOps1 W (Proc.devRef .tc main_v4)
      = extractStridedSlice S4x15x512 ![0, 4081, 0] (shapeCast S4x4096x512 (W (Proc.devRef .tc main_v2_0))
          shapeCasts_S16384x512_S4x4096x512) slices_S4x4096x512_S4x15x512_0_4081_0 := by
  after_results
  rfl

/-- What they leave is those. -/
theorem history_final (c : Dev nD) :
    Pipeline.afterTail₀ cfgs (dats m) 0 (V0 m) [hostOps1] c main_v4 = history m c := by
  have e : Pipeline.withArrays (cfgs 0).spec c (V0 m c) (fun w => (dats m 0 c).arrAt w (cfgs 0).N) (Proc.devRef .tc main_v2_0)
      = pool m c := (Pipeline.withArrays_arr spec0 launch0.win.arr_inj c _ _ 3).trans (pool_final m c)
  refine (history_cut _).trans ?_
  rw [e]
  funext j
  obtain ⟨b, p, e, rfl⟩ : ∃ (b : Fin 4) (p : Fin 15) (e : Fin 512), j = ix3 b p e := ⟨j 0, j 1, j 2, eq_ix3 j⟩
  pointwise
  unfold history pool
  exact congrArg₂ (at_ m c) (Fin.ext (by simp [row]; omega)) rfl

/-- The run, read at the six results and the five arguments. -/
theorem run : θ_run defs (onTc (τ := τ) (main (F := Ideal))) ⟨m, fun _ => 0, ρ⟩ fun r => ∀ c : Dev nD,
    r.2.mem ((c : Thread nD τ).loc main_v2_0) = pool m c
    ∧ r.2.mem ((c : Thread nD τ).loc main_v2_1) = query m c
    ∧ r.2.mem ((c : Thread nD τ).loc main_v2_2) = key m c
    ∧ r.2.mem ((c : Thread nD τ).loc main_v2_3) = keys m c
    ∧ r.2.mem ((c : Thread nD τ).loc main_v2_4) = values m c
    ∧ r.2.mem ((c : Thread nD τ).loc main_v4) = history m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ?_) (θ_run_and (run_main (F := Ideal) m ρ) (unchanged m ρ))
  obtain ⟨⟨arr, rest⟩, kept⟩ := And.intro (h.1 c) (h.2 c)
  exact ⟨(arr 3).trans (pool_final m c), (arr 4).trans (query_final m c), (arr 5).trans (key_final m c),
    (arr 6).trans (keys_final m c), (arr 7).trans (values_final m c),
    (rest main_v4 (Pipeline.mem_restRefs_of main_v4 (by decide) (by decide))).trans (history_final m c), kept⟩

end Cert.Proof.ProjAb

end
-- ==== Proof.ProjAb.Claim.lean ====
/- The prompt's projection: on arguments that agree, the kernel's six result arrays and the reference's are equal. -/
module

public import proofs.«01_k».proof.Defs
public import proofs.«01_k».proof.Proof.Gen.Reference4Ideal.Run
public import proofs.«01_k».proof.Proof.ProjAb.History

@[expose] public section

set_option maxRecDepth 16384

noncomputable section

namespace Cert.Proof.ProjAb

open Idealize.ShloMosaic Idealize.ShloMosaic.TcCoe Idealize.SL.Sem Cert.Reference4Ideal Cert.Reference4Ideal.Gen

variable (x : FVec Ideal S17408x1024 .f32) (g : FVec Ideal S1024 .f32) (w : FVec Ideal S1024x2048 .f32)

/-- The prompt's rows, by sequence and place. -/
def refRows : FVec Ideal S4x4096x1024 .f32 :=
  shapeCast _ (extractStridedSlice S16384x1024 ![0, 0] x slices_S17408x1024_S16384x1024_0_0) shapeCasts_S16384x1024_S4x4096x1024

/-- The reference's projection of the normalised rows. -/
def refProduct : FVec Ideal S4x4096x2048 .f32 :=
  Host.dotGeneral dot_S4x4096x1024_S1024x2048_S4x4096x2048_2_0_01_1_n_n none (mulf (mulf (refRows x) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refRows x) (refRows x)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) w

/-- Queries (0), keys (1) or values (2): 512 columns of the projection, from the 512th on. -/
def refThird (o : Fin 4 → ℕ) (ho : S4x4096x3x512.Slices o S4x4096x1x512) : FVec Ideal S4x4096x512 .f32 :=
  shapeCast _ (extractStridedSlice S4x4096x1x512 o (shapeCast _ (extractStridedSlice S4x4096x1536 ![0, 0, 512] (refProduct x g w) slices_S4x4096x2048_S4x4096x1536_0_0_512) shapeCasts_S4x4096x1536_S4x4096x3x512) ho) shapeCasts_S4x4096x1x512_S4x4096x512

theorem refRows_apply (b : Fin 4) (p : Fin 4096) (k : Fin 1024) : refRows x (ix3 b p k) = x (ix2 (row b p) k) := by
  pointwise [refRows]
  exact congrArg (fun r => x (ix2 r k)) (Fin.ext (by show b.val * 4096 + p.val = 4096 * b.val + p.val; omega))

theorem refProduct_apply (b : Fin 4) (p : Fin 4096) (e : Fin 2048) : refProduct x g w (ix3 b p e) = cell x g w (row b p) e := by
  pointwise [refProduct]
  simp only [refRows_apply]
  rfl

theorem refQuery_apply (b : Fin 4) (p : Fin 4096) (e : Fin 512) :
    refThird x g w ![0, 0, 0, 0] slices_S4x4096x3x512_S4x4096x1x512_0_0_0_0 (ix3 b p e) = cell x g w (row b p) ⟨512 + e.val, by omega⟩ := by
  pointwise [refThird]
  rw [refProduct_apply]

theorem refKey_apply (b : Fin 4) (p : Fin 4096) (e : Fin 512) :
    refThird x g w ![0, 0, 1, 0] slices_S4x4096x3x512_S4x4096x1x512_0_0_1_0 (ix3 b p e) = cell x g w (row b p) ⟨1024 + e.val, by omega⟩ := by
  pointwise [refThird]
  rw [refProduct_apply]
  exact congrArg (cell x g w (row b p)) (Fin.ext (by show 512 + (512 + e.val) = 1024 + e.val; omega))

theorem refValue_apply (b : Fin 4) (p : Fin 4096) (e : Fin 512) :
    refThird x g w ![0, 0, 2, 0] slices_S4x4096x3x512_S4x4096x1x512_0_0_2_0 (ix3 b p e) = cell x g w (row b p) ⟨1536 + e.val, by omega⟩ := by
  pointwise [refThird]
  rw [refProduct_apply]
  exact congrArg (cell x g w (row b p)) (Fin.ext (by show 512 + (1024 + e.val) = 1536 + e.val; omega))

/-- A stack whose first slot is a given stack's and whose second is a table, by column. -/
def refStack (s : FVec Ideal S2x4x512x4096 .f32) (v : FVec Ideal S4x4096x512 .f32) : FVec Ideal S2x4x512x4096 .f32 :=
  concatenate S2x4x512x4096 0 [⟨S1x4x512x4096, broadcastInDim S1x4x512x4096 ![1, 2, 3] bcast_S4x512x4096_S1x4x512x4096_1_2_3 (shapeCast _ (extractStridedSlice S1x4x512x4096 ![0, 0, 0, 0] s slices_S2x4x512x4096_S1x4x512x4096_0_0_0_0) shapeCasts_S1x4x512x4096_S4x512x4096)⟩, ⟨S1x4x512x4096, broadcastInDim S1x4x512x4096 ![1, 2, 3] bcast_S4x512x4096_S1x4x512x4096_1_2_3 (transpose S4x512x4096 [0, 2, 1] v transposes_S4x4096x512_S4x512x4096_0_2_1)⟩] concatenates_S1x4x512x4096_S1x4x512x4096_S2x4x512x4096_d0

theorem refStack_apply (s : FVec Ideal S2x4x512x4096 .f32) (v : FVec Ideal S4x4096x512 .f32) (n : Fin 2) (b : Fin 4) (e : Fin 512) (p : Fin 4096) :
    refStack s v (ix4 n b e p) = if 1 ≤ n.val / 1 then v (ix3 b p e) else s (ix4 n b e p) := by
  pointwise [refStack]
  by_cases h : n.val < 1
  · obtain rfl : n = 0 := Fin.ext (by show n.val = 0; omega)
    simp
  · rw [dif_neg h, if_pos (by omega)]

/-- The pooled inputs: the first 512 columns. -/
def refPool : FVec Ideal S16384x512 .f32 :=
  shapeCast _ (extractStridedSlice S4x4096x512 ![0, 0, 0] (refProduct x g w) slices_S4x4096x2048_S4x4096x512_0_0_0) shapeCasts_S4x4096x512_S16384x512

theorem refPool_apply (a : Fin 16384) (e : Fin 512) : refPool x g w (ix2 a e) = cell x g w ⟨a.val, by omega⟩ ⟨e.val, by omega⟩ := by
  pointwise [refPool]
  rw [refProduct_apply]
  exact congrArg (fun r => cell x g w r _) (Fin.ext (by show 4096 * (a.val / 4096) + a.val % 4096 = a.val; omega))

/-- The scaled queries, by column. -/
def refScaled (q : FVec Ideal S4x4096x512 .f32) : FVec Ideal S4x512x4096 .bf16 :=
  truncf .bf16 (transpose S4x512x4096 [0, 2, 1] (mulf q (broadcastInDim S4x4096x512 ![] bcast_S_S4x4096x512 (constant S_ .f32 0x3E000000#32))) transposes_S4x4096x512_S4x512x4096_0_2_1) bitsLt_bf16_f32

theorem refScaled_apply (q : FVec Ideal S4x4096x512 .f32) (b : Fin 4) (e : Fin 512) (p : Fin 4096) :
    refScaled q (ix3 b e p) = q (ix3 b p e) * eighth := by
  pointwise [refScaled]

/-- The pooled inputs of each sequence's last fifteen places. -/
def refHistory : FVec Ideal S4x15x512 .f32 :=
  extractStridedSlice S4x15x512 ![0, 4081, 0] (extractStridedSlice S4x4096x512 ![0, 0, 0] (refProduct x g w) slices_S4x4096x2048_S4x4096x512_0_0_0) slices_S4x4096x512_S4x15x512_0_4081_0

theorem refHistory_apply (b : Fin 4) (p : Fin 15) (e : Fin 512) :
    refHistory x g w (ix3 b p e) = cell x g w (row b ⟨4081 + p.val, by omega⟩) ⟨e.val, by omega⟩ := by
  pointwise [refHistory]
  rw [refProduct_apply]

theorem algebraic : Cert.algebraic_Kernel4Ideal_Reference4Ideal := by
  intro m ρ m' ρ' _ hagree
  refine ⟨pool m, query m, key m, keys m, values m, history m, run m ρ,
    (θ_run Cert.Reference4Ideal.defs _ _).mono (fun r h c => ?_) (Cert.Reference4Ideal.Value.run (F := Ideal) m' ρ')⟩
  obtain ⟨h3, h4, h5, h6, h7, h8, ha⟩ := h c
  obtain ⟨e0, e1, e2, e3, e4⟩ := hagree c
  refine ⟨h3.trans ?_, h4.trans ?_, h5.trans ?_, h6.trans ?_, h7.trans ?_, h8.trans ?_, ha⟩
  all_goals clear h h3 h4 h5 h6 h7 h8 ha; funext j
  · obtain ⟨a, e, rfl⟩ : ∃ (a : Fin 16384) (e : Fin 512), j = ix2 a e := ⟨j 0, j 1, eq_ix2 j⟩
    refine (refPool_apply _ _ _ a e).trans ?_
    rw [e0, e1, e2]; rfl
  · obtain ⟨b, e, p, rfl⟩ : ∃ (b : Fin 4) (e : Fin 512) (p : Fin 4096), j = ix3 b e p := ⟨j 0, j 1, j 2, eq_ix3 j⟩
    refine (refScaled_apply _ b e p).trans ?_
    refine (congrArg (· * eighth) (refQuery_apply _ _ _ b p e)).trans ?_
    rw [e0, e1, e2]; rfl
  · obtain ⟨b, p, e, rfl⟩ : ∃ (b : Fin 4) (p : Fin 4096) (e : Fin 512), j = ix3 b p e := ⟨j 0, j 1, j 2, eq_ix3 j⟩
    refine (refKey_apply _ _ _ b p e).trans ?_
    rw [e0, e1, e2]; rfl
  · obtain ⟨n, b, e, p, rfl⟩ : ∃ (n : Fin 2) (b : Fin 4) (e : Fin 512) (p : Fin 4096), j = ix4 n b e p := ⟨j 0, j 1, j 2, j 3, eq_ix4 j⟩
    refine (refStack_apply _ _ n b e p).trans ?_
    refine (if_congr Iff.rfl (refKey_apply _ _ _ b p e) rfl).trans ?_
    rw [e0, e1, e2, e3]; rfl
  · obtain ⟨n, b, e, p, rfl⟩ : ∃ (n : Fin 2) (b : Fin 4) (e : Fin 512) (p : Fin 4096), j = ix4 n b e p := ⟨j 0, j 1, j 2, j 3, eq_ix4 j⟩
    refine (refStack_apply _ _ n b e p).trans ?_
    refine (if_congr Iff.rfl (refValue_apply _ _ _ b p e) rfl).trans ?_
    rw [e0, e1, e2, e4]; rfl
  · obtain ⟨b, p, e, rfl⟩ : ∃ (b : Fin 4) (p : Fin 15) (e : Fin 512), j = ix3 b p e := ⟨j 0, j 1, j 2, eq_ix3 j⟩
    refine (refHistory_apply _ _ _ b p e).trans ?_
    rw [e0, e1, e2]; rfl

end Cert.Proof.ProjAb

end
-- ==== Proof.OutProj.Block.lean ====
/- What one grid point of the output projection leaves in its block of 512 rows: each row, plus the pooled part times the
   upper half of the matrix, plus the attention's part times the lower half. -/
module

public import proofs.«01_k».proof.Proof.Gen.Kernel5Ideal.Frame
public import Idealize.ShloMosaic.Lib.Pointwise
public import Idealize.ShloMosaic.Lib.Pipeline.ValueKit

@[expose] public section

set_option maxRecDepth 16384

noncomputable section

namespace Cert.Proof.OutProj

open Idealize.ShloMosaic Idealize.ShloMosaic.TcCoe Cert.Kernel5Ideal Cert.Kernel5Ideal.Gen

/-- A number, plus a pooled row `p` and an attention row `s` times a column `w` of the matrix. -/
def joined (x : EReal) (p s : Fin 512 → EReal) (w : Fin 1024 → EReal) : EReal :=
  x + (∑ k : Fin 512, p k * w ⟨k.val, by omega⟩) + ∑ k : Fin 512, s k * w ⟨512 + k.val, by omega⟩

variable (x0 : Vec Ideal S512x1024 .f32) (x1 x2 : Vec Ideal S512x512 .f32) (x3 : Vec Ideal S1024x1024 .bf16)

theorem first_apply (r : Fin 512) (l : Fin 1024) :
    out0_4 x0 x1 x2 x3 (ix2 r l) = joined (x0 (ix2 r l)) (fun k => x1 (ix2 r k)) (fun k => x2 (ix2 r k)) (fun k => x3 (ix2 k l)) := by
  frame_out
  pointwise [k0_pay1]
  rfl

theorem second_apply (c : Dev nD) (i : grid1.Coords) (a1 : Memref sig .tc .vmem S512x1024 .f32) (h1 : a1.IsWhole)
    (a2 a3 : Memref sig .tc .vmem S512x512 .f32) (h2 : a2.IsWhole) (h3 : a3.IsWhole) (a4 : Memref sig .tc .vmem S1024x1024 .bf16)
    (h4 : a4.IsWhole) (a6 : Memref sig .tc .vmem S512x1024 .f32) (h6 : a6.IsWhole) (r : Fin 512) (l : Fin 1024) :
    out1_A_4 c i a1 h1 a2 h2 a3 h3 a4 h4 a6 h6 x0 x1 x2 x3 (ix2 r l)
      = joined (x0 (ix2 r l)) (fun k => x1 (ix2 r k)) (fun k => x2 (ix2 r k)) (fun k => x3 (ix2 k l)) := by
  frame_out
  pointwise [k1_pay1]
  rfl

end Cert.Proof.OutProj

end
-- ==== Proof.OutProj.Kernel.lean ====
/- The residual stream after the two output projections: the first call writes the prompt's rows into a new array, the
   second the sample's rows into a copy of it. -/
module

public import proofs.«01_k».proof.Proof.OutProj.Block

@[expose] public section

set_option maxRecDepth 16384

noncomputable section

namespace Cert.Proof.OutProj

open Idealize.ShloMosaic Idealize.ShloMosaic.TcCoe Idealize.SL.Sem Cert.Kernel5Ideal Cert.Kernel5Ideal.Gen

/-- Whole rows of the stream after the projection: `n` rows of parts, added to the stream's rows. -/
def stream {n : ℕ} (x : (⟨2, ![17408, 1024]⟩ : Shape).Idx → EReal) (p s : (⟨2, ![n, 512]⟩ : Shape).Idx → EReal)
    (w : (⟨2, ![1024, 1024]⟩ : Shape).Idx → EReal) (a : Fin 17408) (r : Fin n) (l : Fin 1024) : EReal :=
  joined (x (ix2 a l)) (fun k => p (ix2 r k)) (fun k => s (ix2 r k)) (fun k => w (ix2 k l))

variable (m : (ℓ : Loc nD τ sig) → Buf (Elt Ideal) ℓ) (ρ : Dev nD → PrngReg)

/-- The stream after the projection, from the launch's arguments: the prompt's rows, then the sample's. -/
def result (c : Dev nD) (i : (⟨2, ![17408, 1024]⟩ : Shape).Idx) : EReal :=
  if h : (i 0).val < 16384 then
    stream (m ((c : Thread nD τ).loc main_arg0)) (m ((c : Thread nD τ).loc main_arg1)) (m ((c : Thread nD τ).loc main_arg2))
      (m ((c : Thread nD τ).loc main_arg5)) (i 0) ⟨(i 0).val, h⟩ (i 1)
  else
    stream (m ((c : Thread nD τ).loc main_arg0)) (m ((c : Thread nD τ).loc main_arg3)) (m ((c : Thread nD τ).loc main_arg4))
      (m ((c : Thread nD τ).loc main_arg5)) (i 0) (⟨(i 0).val - 16384, by have := (i 0).isLt; simp at this; omega⟩ : Fin 1024) (i 1)

theorem result_prompt (c : Dev nD) (b : ℕ) (h : b < 16384) (l : Fin 1024) :
    result m c (ix2 ⟨b, by omega⟩ l) = stream (m ((c : Thread nD τ).loc main_arg0)) (m ((c : Thread nD τ).loc main_arg1))
      (m ((c : Thread nD τ).loc main_arg2)) (m ((c : Thread nD τ).loc main_arg5)) ⟨b, by omega⟩ (⟨b, h⟩ : Fin 16384) l := by
  unfold result
  exact dif_pos h

theorem result_sample (c : Dev nD) (b d : ℕ) (hb : b = 16384 + d) (h : d < 1024) (l : Fin 1024) :
    result m c (ix2 ⟨b, by omega⟩ l) = stream (m ((c : Thread nD τ).loc main_arg0)) (m ((c : Thread nD τ).loc main_arg3))
      (m ((c : Thread nD τ).loc main_arg4)) (m ((c : Thread nD τ).loc main_arg5)) ⟨b, by omega⟩ (⟨d, h⟩ : Fin 1024) l := by
  subst hb
  have hd : (⟨16384 + d - 16384, by omega⟩ : Fin 1024) = ⟨d, h⟩ := Fin.ext (Nat.add_sub_cancel_left _ _)
  rw [← hd]
  unfold result
  exact dif_neg (by show ¬ 16384 + d < 16384; omega)

theorem idx0 : ∀ t : Fin grid0.N, t.val < 32 ∧ win0_0.index t = ![t.val, 0] ∧ win0_1.index t = ![t.val, 0]
    ∧ win0_2.index t = ![t.val, 0] ∧ win0_3.index t = ![0, 0] ∧ win0_4.index t = ![t.val, 0] := by decide +kernel

theorem idx1 : ∀ t : Fin grid1.N, t.val < 2 ∧ win1_0.index t = ![32 + t.val, 0] ∧ win1_1.index t = ![t.val, 0]
    ∧ win1_2.index t = ![t.val, 0] ∧ win1_3.index t = ![0, 0] ∧ win1_4.index t = ![32 + t.val, 0] := by decide +kernel

/-- The matrix both calls read is the last argument. -/
theorem matrix_first (c : Dev nD) : V1 m ρ c main_v0 = m ((c : Thread nD τ).loc main_arg5) := by
  show StableHlo.after hostOps0 (W0 m ρ c) main_v0 = _
  after_results_simp <;> rfl

theorem matrix_second (c : Dev nD) : V3 m ρ c main_v0 = m ((c : Thread nD τ).loc main_arg5) :=
  (W3_of m ρ c main_v0 (by decide)).trans ((W2_of m ρ c main_v0 (by decide)).trans (matrix_first m ρ c))

/-- The second call finds in its result's buffer what the first call left. -/
theorem carried (c : Dev nD) : V3 m ρ c main_v2 = (dat0 (V1 m ρ) c).arrAt 4 cfg0.N := by
  refine Eq.trans ?_ (W2_arr m ρ c 4)
  show StableHlo.after hostOps1 (W2 m ρ c) main_v2 = _
  after_results_simp <;> rfl

theorem first (c : Dev nD) (a : Fin 17408) (l : Fin 1024) (ha : a.val < 16384) :
    (dat0 (V1 m ρ) c).arrAt 4 cfg0.N (ix2 a l) = result m c (ix2 a l) := by
  have h := (dat0 (V1 m ρ) c).arrAt_eq_of_coversWhere 4 (result m c) (fun β => β (0 : Fin _) < 32)
    (P := fun i => (i 0 : ℕ) / 512 < 32) (by decide +kernel) (fun t hf y => ?_) (fun j => Iff.rfl)
  · rw [h]
    exact if_pos (by show a.val / 512 < 32; omega)
  blk_simp
  rw [after0_4]
  obtain ⟨r, l, rfl⟩ : ∃ (r : Fin 512) (l : Fin 1024), y = ix2 r l := ⟨y 0, y 1, eq_ix2 y⟩
  obtain ⟨ht, i0, i1, i2, i3, i4⟩ := idx0 t
  have h0 : iblk0 (V1 m ρ) c 0 t (ix2 r l) = m ((c : Thread nD τ).loc main_arg0) (ix2 ⟨t.val * 512 + r.val, by omega⟩ l) := by
    rw [← W1_args m ρ c main_arg0 (by decide)]
    blk_ext [iblk0, i0]
  have h1 : ∀ k : Fin 512, iblk0 (V1 m ρ) c 1 t (ix2 r k) = m ((c : Thread nD τ).loc main_arg1) (ix2 ⟨t.val * 512 + r.val, by omega⟩ k) := fun k => by
    rw [← W1_args m ρ c main_arg1 (by decide)]
    blk_ext [iblk0, i1]
  have h2 : ∀ k : Fin 512, iblk0 (V1 m ρ) c 2 t (ix2 r k) = m ((c : Thread nD τ).loc main_arg2) (ix2 ⟨t.val * 512 + r.val, by omega⟩ k) := fun k => by
    rw [← W1_args m ρ c main_arg2 (by decide)]
    blk_ext [iblk0, i2]
  have h3 : ∀ k : Fin 1024, iblk0 (V1 m ρ) c 3 t (ix2 k l) = m ((c : Thread nD τ).loc main_arg5) (ix2 k l) := fun k => by
    rw [← matrix_first m ρ c]
    blk_ext [iblk0, i3]
  have he : (win0_4.blk t).view.emb (ix2 r l) = ix2 ⟨t.val * 512 + r.val, by omega⟩ l := by
    blk_ext [iblk0, i4]
  rw [he]
  refine (first_apply _ _ _ _ r l).trans ?_
  simp only [h0, h1, h2, h3]
  exact (result_prompt m c (t.val * 512 + r.val) (by omega) l).symm

theorem final (c : Dev nD) : (dat1 (V3 m ρ) c).arrAt 4 cfg1.N = result m c := by
  have h := (dat1 (V3 m ρ) c).arrAt_eq_of_coversWhere 4 (result m c) (fun β => 32 ≤ β (0 : Fin _))
    (P := fun i => 32 ≤ (i 0 : ℕ) / 512) (by decide +kernel) (fun t hf y => ?_) (fun j => Iff.rfl)
  · refine h.trans (funext fun i => ?_)
    obtain ⟨a, l, rfl⟩ : ∃ (a : Fin 17408) (l : Fin 1024), i = ix2 a l := ⟨i 0, i 1, eq_ix2 i⟩
    by_cases ha : a.val < 16384
    · refine (if_neg (by show ¬ 32 ≤ a.val / 512; omega)).trans ?_
      refine Eq.trans ?_ (first m ρ c a l ha)
      exact congrFun (carried m ρ c) (ix2 a l)
    · exact if_pos (by show 32 ≤ a.val / 512; omega)
  blk_simp
  rw [after1_4]
  obtain ⟨r, l, rfl⟩ : ∃ (r : Fin 512) (l : Fin 1024), y = ix2 r l := ⟨y 0, y 1, eq_ix2 y⟩
  obtain ⟨ht, i0, i1, i2, i3, i4⟩ := idx1 t
  have h0 : iblk1 (V3 m ρ) c 0 t (ix2 r l) = m ((c : Thread nD τ).loc main_arg0) (ix2 ⟨(32 + t.val) * 512 + r.val, by omega⟩ l) := by
    rw [← W3_args m ρ c main_arg0 (by decide)]
    blk_ext [iblk1, i0]
  have h1 : ∀ k : Fin 512, iblk1 (V3 m ρ) c 1 t (ix2 r k) = m ((c : Thread nD τ).loc main_arg3) (ix2 ⟨t.val * 512 + r.val, by omega⟩ k) := fun k => by
    rw [← W3_args m ρ c main_arg3 (by decide)]
    blk_ext [iblk1, i1]
  have h2 : ∀ k : Fin 512, iblk1 (V3 m ρ) c 2 t (ix2 r k) = m ((c : Thread nD τ).loc main_arg4) (ix2 ⟨t.val * 512 + r.val, by omega⟩ k) := fun k => by
    rw [← W3_args m ρ c main_arg4 (by decide)]
    blk_ext [iblk1, i2]
  have h3 : ∀ k : Fin 1024, iblk1 (V3 m ρ) c 3 t (ix2 k l) = m ((c : Thread nD τ).loc main_arg5) (ix2 k l) := fun k => by
    rw [← matrix_second m ρ c]
    blk_ext [iblk1, i3]
  have he : (win1_4.blk t).view.emb (ix2 r l) = ix2 ⟨(32 + t.val) * 512 + r.val, by omega⟩ l := by
    blk_ext [iblk1, i4]
  rw [he]
  refine (second_apply _ _ _ _ _ _ _ _ _ _ _ _ _ _ _ _ r l).trans ?_
  simp only [h0, h1, h2, h3]
  exact (result_sample m c ((32 + t.val) * 512 + r.val) (t.val * 512 + r.val) (by omega) (by omega) l).symm

end Cert.Proof.OutProj

end
-- ==== Proof.OutProj.Run.lean ====
/- The run of the two output projections, one after the other: it ends with the result's buffer at the contents the last
   boundary names, and with every argument as launched. -/
module

public import proofs.«01_k».proof.Proof.Gen.Kernel5Ideal.Frame

@[expose] public section

set_option maxRecDepth 16384

noncomputable section

namespace Cert.Proof.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]
variable (m : (ℓ : Loc nD τ sig) → Buf (Elt F) ℓ) (ρ : Dev nD → PrngReg)

/-- What the launch hands the pipelines: their cells and tokens. -/
abbrev handed : UR sig nD τ := initOf (Pipeline.cells cfgs cellOf_inj) (Pipeline.launchToks cfgs cellOf_inj)

set_option backward.isDefEq.respectTransparency.types false in
theorem run : θ_run defs (onTc (τ := τ) (main (F := F))) ⟨m, fun _ => 0, ρ⟩ fun r =>
    ∀ c : Dev nD, ∀ b ∈ Pipeline.ucRefs τ sig, r.2.mem (c, b) = W4 m ρ c b := by
  refine Pipeline.θ_run_regions_kit_sems (pcfgs (F := F)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := handed) (hu₀ := ?own)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩) (hinit := Pipeline.initEach L lv fun c => ?start)
    (QY := fun c s => ∀ b ∈ Pipeline.ucRefs τ sig, s.mem (c, b) = W4 m ρ c b) (hfin := fun c s => ?finish) (hQ := fun s h _ => h)
  case own =>
    have own_ : (ownU handed : sProp (MT nD τ sig Unit (Elt F) ℕ (UR sig nD τ) ℕ)) ⊢ BI.own (emb₁ handed) := .rfl
    have none_ : (BI.emp : sProp (MT nD τ sig Unit (Elt F) ℕ (UR sig nD τ) ℕ)) ⊢ bigSep Finset.univ (fun _ : Dev nD => BI.emp) := by
      rw [BI.bigSep_emp_const]
    iintro H
    imodintro
    isplitl [H]
    · iapply own_
      iexact H
    · iapply none_
      iempintro
  case start =>
    have e := Pipeline.unscopedBufs_held (Ix := Unit) (Name := ℕ) (U := UR sig nD τ) (Lvl := ℕ) c (W0 m ρ c)
    rw [show unscopedBufs c (fun b => m ((c : Thread nD τ).loc b)) = _ from e]
    iintro ⟨⟨Hb, -, Ho, -, Hr, -⟩, -⟩
    imodintro
    isplitl [Hb]
    · iexact Hb
    isplitl [Hr]
    · iexists _; iexact Hr
    · iexists ∅; iexact Ho
  case finish =>
    iintro ⟨⟨Hb, -⟩, Hs⟩
    unfold StableHlo.held
    imodintro
    iapply (pointsTo_read_all (Pipeline.ucRefs τ sig) (fun b => (c, b)) (W4 m ρ c) s)
    isplitl [Hb]
    · iexact Hb
    · iexact Hs

/-- The result's buffer and the arguments, read from the last boundary. -/
theorem run_result : θ_run defs (onTc (τ := τ) (main (F := F))) ⟨m, fun _ => 0, ρ⟩ fun r => ∀ c : Dev nD,
    r.2.mem ((c : Thread nD τ).loc main_v2) = (dat1 (V3 m ρ) c).arrAt 4 cfg1.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine (θ_run defs _ _).mono (fun r h c => ?_) (run m ρ)
  have at_ (b : Ref sig .tc) (hb : ¬ (Proc.devRef .tc b : DevRef τ sig).isScoped) := h c _ (mem_uc b hb)
  exact ⟨(at_ main_v2 (by decide)).trans (W4_arr m ρ c 4), (at_ main_arg0 (by decide)).trans (W4_main_arg0 m ρ c),
    (at_ main_arg1 (by decide)).trans (W4_main_arg1 m ρ c), (at_ main_arg2 (by decide)).trans (W4_main_arg2 m ρ c),
    (at_ main_arg3 (by decide)).trans (W4_main_arg3 m ρ c), (at_ main_arg4 (by decide)).trans (W4_main_arg4 m ρ c),
    (at_ main_arg5 (by decide)).trans (W4_main_arg5 m ρ c)⟩

end Cert.Proof.OutProj

end
-- ==== Proof.OutProj.Claim.lean ====
/- The output projection: on arguments that agree, the stream the two calls leave and the reference's are equal. -/
module

public import proofs.«01_k».proof.Defs
public import proofs.«01_k».proof.Proof.Gen.Reference5Ideal.Run
public import proofs.«01_k».proof.Proof.OutProj.Kernel
public import proofs.«01_k».proof.Proof.OutProj.Run

@[expose] public section

set_option maxRecDepth 16384

noncomputable section

namespace Cert.Proof.OutProj

open Idealize.ShloMosaic Idealize.ShloMosaic.TcCoe Idealize.SL.Sem Cert.Reference5Ideal Cert.Reference5Ideal.Gen

variable (x : FVec Ideal S17408x1024 .f32) (p s : FVec Ideal S16384x512 .f32) (q u : FVec Ideal S1024x512 .f32) (w : FVec Ideal S1024x1024 .f32)

/-- The prompt's rows through the projection. -/
def refPrompt : FVec Ideal S16384x1024 .f32 :=
  Host.dotGeneral dot_S16384x1024_S1024x1024_S16384x1024_1_0_0_1_n_n none (concatenate S16384x1024 1 [⟨S16384x512, p⟩, ⟨S16384x512, s⟩] concatenates_S16384x512_S16384x512_S16384x1024_d1) w

/-- The sample's rows through the projection. -/
def refSample : FVec Ideal S1024x1024 .f32 :=
  Host.dotGeneral dot_S1024x1024_S1024x1024_S1024x1024_1_0_0_1_n_n none (concatenate S1024x1024 1 [⟨S1024x512, q⟩, ⟨S1024x512, u⟩] concatenates_S1024x512_S1024x512_S1024x1024_d1) w

theorem refPrompt_apply (y : EReal) (r : Fin 16384) (l : Fin 1024) :
    y + refPrompt p s w (ix2 r l) = joined y (fun k => p (ix2 r k)) (fun k => s (ix2 r k)) (fun k => w (ix2 k l)) := by
  pointwise [refPrompt]
  exact (add_assoc _ _ _).symm

theorem refSample_apply (y : EReal) (r : Fin 1024) (l : Fin 1024) :
    y + refSample q u w (ix2 r l) = joined y (fun k => q (ix2 r k)) (fun k => u (ix2 r k)) (fun k => w (ix2 k l)) := by
  pointwise [refSample]
  exact (add_assoc _ _ _).symm

/-- The stream plus the projected rows: the prompt's, then the sample's. -/
def refStream : FVec Ideal S17408x1024 .f32 :=
  addf x (concatenate S17408x1024 0 [⟨S16384x1024, refPrompt p s w⟩, ⟨S1024x1024, refSample q u w⟩] concatenates_S16384x1024_S1024x1024_S17408x1024_d0)

theorem refStream_apply (a : Fin 17408) (l : Fin 1024) : refStream x p s q u w (ix2 a l)
    = if h : a.val < 16384 then stream x p s w a (⟨a.val, h⟩ : Fin 16384) l
      else stream x q u w a (⟨a.val - 16384, by omega⟩ : Fin 1024) l := by
  pointwise [refStream]
  by_cases h : a.val < 16384
  · rw [dif_pos h, dif_pos h]
    exact refPrompt_apply p s w _ _ l
  · rw [dif_neg h, dif_neg h]
    exact refSample_apply q u w _ _ l

theorem algebraic : Cert.algebraic_Kernel5Ideal_Reference5Ideal := by
  intro m ρ m' ρ' _ hagree
  refine ⟨result m,
    (θ_run Cert.Kernel5Ideal.defs _ _).mono (fun r h c => ?_) (run_result (F := Ideal) m ρ),
    (θ_run Cert.Reference5Ideal.defs _ _).mono (fun r h c => ?_) (Cert.Reference5Ideal.Value.run (F := Ideal) m' ρ')⟩
  · obtain ⟨h2, ha⟩ := h c
    exact ⟨h2.trans (final m ρ c), ha⟩
  · obtain ⟨h5, ha⟩ := h c
    obtain ⟨e0, e1, e2, e3, e4, e5⟩ := hagree c
    refine ⟨h5.trans ?_, ha⟩
    clear h h5 ha
    funext j
    obtain ⟨a, l, rfl⟩ : ∃ (a : Fin 17408) (l : Fin 1024), j = ix2 a l := ⟨j 0, j 1, eq_ix2 j⟩
    refine (refStream_apply _ _ _ _ _ _ a l).trans ?_
    rw [e0, e1, e2, e3, e4, e5]
    rfl

end Cert.Proof.OutProj

end
-- ==== Proof.ProjAb.Sample.lean ====
/- The four arrays the sample's projection leaves, each as a function of the launch's arguments: the pooled inputs, the
   queries, the keys and the values of the last 1024 rows of the residual stream. -/
module

public import proofs.«01_k».proof.Proof.Gen.Kernel8Ideal.Frame
public import proofs.«01_k».proof.Proof.ProjAb.Kernel

@[expose] public section

set_option maxRecDepth 16384

noncomputable section

namespace Cert.Proof.ProjAb.Sample

open Idealize.ShloMosaic Idealize.ShloMosaic.TcCoe Idealize.SL.Sem Cert.Kernel8Ideal Cert.Kernel8Ideal.Gen

variable (x0 : Vec Ideal S512x1024 .f32) (x1 : Vec Ideal S1x1024 .f32) (x2 : Vec Ideal S1024x2048 .bf16)

/-- A block's row times a column of the projection. -/
def entry (r : Fin 512) (e : Fin 2048) : EReal := projected (fun k => x0 (ix2 r k)) (fun k => x1 (ix2 0 k)) (fun j => x2 (ix2 j e))

theorem product_apply (r : Fin 512) (e : Fin 2048) : k0_pay1 x0 x1 x2 (ix2 r e) = entry x0 x1 x2 r e := by
  pointwise [k0_pay1]
  rfl

variable (m : (ℓ : Loc nD τ sig) → Buf (Elt Ideal) ℓ)

/-- Columns from `o` on of the sample's rows of the projection. -/
def columns (o : ℕ) (ho : o ≤ 1536) (c : Dev nD) (i : (⟨2, ![1024, 512]⟩ : Shape).Idx) : EReal :=
  cell (m ((c : Thread nD τ).loc main_arg0)) (m ((c : Thread nD τ).loc main_arg1)) (m ((c : Thread nD τ).loc main_arg2))
    ⟨16384 + (i 0).val, by have := (i 0).isLt; simp at this; omega⟩ ⟨o + (i 1).val, by have := (i 1).isLt; simp at this; omega⟩

theorem idx : ∀ t : Fin grid0.N, t.val < 2 ∧ win0_0.index t = ![32 + t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] := by decide +kernel

theorem gain_read (c : Dev nD) (k : Fin 1024) : V m c main_v0 (ix2 0 k) = m ((c : Thread nD τ).loc main_arg1) (ix1 k) := by
  show StableHlo.after hostOps0 (fun b => m (c, b)) (Proc.devRef .tc main_v0) (ix2 0 k) = _
  entry_read
  pointwise

theorem matrix_read (c : Dev nD) : V m c main_v1 = m ((c : Thread nD τ).loc main_arg2) := by
  entry_read
  rfl

/-- A point's block product at a row is the projection at the row of the stream the block holds there. -/
theorem entry_columns (c : Dev nD) (t : Fin cfg0.N) (r e : Fin 512) (o : ℕ) (ho : o ≤ 1536) (a : Fin 1024)
    (ha : a.val = t.val * 512 + r.val) :
    entry (iblk m c 0 t) (iblk m c 1 t) (iblk m c 2 t) r ⟨o + e.val, by omega⟩ = columns m o ho c (ix2 a e) := by
  obtain ⟨ht, i0, i1, i2, -⟩ := idx t
  have h0 : ∀ k : Fin 1024, iblk m c 0 t (ix2 r k) = m ((c : Thread nD τ).loc main_arg0) (ix2 ⟨16384 + a.val, by omega⟩ k) := fun k => by
    rw [← V_main_arg0 m c, show (⟨16384 + a.val, by omega⟩ : Fin 17408) = ⟨(32 + t.val) * 512 + r.val, by omega⟩ from
      Fin.ext (by show 16384 + a.val = (32 + t.val) * 512 + r.val; omega)]
    blk_ext [iblk, i0]
  have h1 : ∀ k : Fin 1024, iblk m c 1 t (ix2 0 k) = m ((c : Thread nD τ).loc main_arg1) (ix1 k) := fun k => by
    rw [← gain_read m c]
    blk_ext [iblk, i1]
  have h2 : ∀ (j : Fin 1024) (k : Fin 2048), iblk m c 2 t (ix2 j k) = m ((c : Thread nD τ).loc main_arg2) (ix2 j k) := fun j k => by
    rw [← matrix_read m c]
    blk_ext [iblk, i2]
  unfold entry columns cell
  simp only [h0, h1, h2]
  rfl

theorem pool_final (c : Dev nD) : (dats m 0 c).arrAt 3 cfg0.N = columns m 0 (by omega) c := by
  refine (dats m 0 c).arrAt_eq_of_covers 3 _ (by decide +kernel) fun t hf y => ?_
  blk_simp
  rw [after0_3]
  obtain ⟨r, e, rfl⟩ : ∃ r e : Fin 512, y = ix2 r e := ⟨y 0, y 1, eq_ix2 y⟩
  obtain ⟨ht, -, -, -, i3, -⟩ := idx t
  have he : (win0_3.blk t).view.emb (ix2 r e) = ix2 ⟨t.val * 512 + r.val, by omega⟩ e := by
    blk_ext [iblk, i3]
  rw [he]
  frame_out
  refine Eq.trans ?_ (entry_columns m c t r e 0 (by omega) _ rfl)
  pointwise [k0_pay2]
  rw [product_apply]

theorem query_final (c : Dev nD) : (dats m 0 c).arrAt 4 cfg0.N = columns m 512 (by omega) c := by
  refine (dats m 0 c).arrAt_eq_of_covers 4 _ (by decide +kernel) fun t hf y => ?_
  blk_simp
  rw [after0_4]
  obtain ⟨r, e, rfl⟩ : ∃ r e : Fin 512, y = ix2 r e := ⟨y 0, y 1, eq_ix2 y⟩
  obtain ⟨ht, -, -, -, -, i4, -⟩ := idx t
  have he : (win0_4.blk t).view.emb (ix2 r e) = ix2 ⟨t.val * 512 + r.val, by omega⟩ e := by
    blk_ext [iblk, i4]
  rw [he]
  frame_out
  refine Eq.trans ?_ (entry_columns m c t r e 512 (by omega) _ rfl)
  pointwise [k0_pay3]
  rw [product_apply]

theorem key_final (c : Dev nD) : (dats m 0 c).arrAt 5 cfg0.N = columns m 1024 (by omega) c := by
  refine (dats m 0 c).arrAt_eq_of_covers 5 _ (by decide +kernel) fun t hf y => ?_
  blk_simp
  rw [after0_5]
  obtain ⟨r, e, rfl⟩ : ∃ r e : Fin 512, y = ix2 r e := ⟨y 0, y 1, eq_ix2 y⟩
  obtain ⟨ht, -, -, -, -, -, i5, -⟩ := idx t
  have he : (win0_5.blk t).view.emb (ix2 r e) = ix2 ⟨t.val * 512 + r.val, by omega⟩ e := by
    blk_ext [iblk, i5]
  rw [he]
  frame_out
  refine Eq.trans ?_ (entry_columns m c t r e 1024 (by omega) _ rfl)
  pointwise [k0_pay4]
  rw [product_apply]

theorem value_final (c : Dev nD) : (dats m 0 c).arrAt 6 cfg0.N = columns m 1536 (by omega) c := by
  refine (dats m 0 c).arrAt_eq_of_covers 6 _ (by decide +kernel) fun t hf y => ?_
  blk_simp
  rw [after0_6]
  obtain ⟨r, e, rfl⟩ : ∃ r e : Fin 512, y = ix2 r e := ⟨y 0, y 1, eq_ix2 y⟩
  obtain ⟨ht, -, -, -, -, -, -, i6⟩ := idx t
  have he : (win0_6.blk t).view.emb (ix2 r e) = ix2 ⟨t.val * 512 + r.val, by omega⟩ e := by
    blk_ext [iblk, i6]
  rw [he]
  frame_out
  refine Eq.trans ?_ (entry_columns m c t r e 1536 (by omega) _ rfl)
  pointwise [k0_pay5]
  rw [product_apply]

end Cert.Proof.ProjAb.Sample

end
-- ==== Proof.ProjAb.SampleHistory.lean ====
/- The last fifteen places of the sample's pooled inputs, the carried ones first: what the host joins and cuts after the
   kernel has run. -/
module

public import proofs.«01_k».proof.Proof.ProjAb.Sample

@[expose] public section

set_option maxRecDepth 16384

noncomputable section

namespace Cert.Proof.ProjAb.Sample

open Idealize.ShloMosaic Idealize.ShloMosaic.TcCoe Idealize.ShloMosaic.Tactic Idealize.SL.Sem Cert.Kernel8Ideal Cert.Kernel8Ideal.Gen

variable (m : (ℓ : Loc nD τ sig) → Buf (Elt Ideal) ℓ) (ρ : Dev nD → PrngReg)

/-- Fifteen carried places and the call's eight, of which the last fifteen: the last seven carried, then the eight. -/
def lastPlaces (s : Fin 128 → Fin 15 → Fin 512 → EReal) (u : Fin 128 → Fin 8 → Fin 512 → EReal) (b : Fin 128) (p : Fin 15)
    (e : Fin 512) : EReal :=
  if h : p.val < 7 then s b ⟨p.val + 8, by omega⟩ e else u b ⟨p.val - 7, by omega⟩ e

/-- The places kept for the next call. -/
def history (c : Dev nD) (i : (⟨3, ![128, 15, 512]⟩ : Shape).Idx) : EReal :=
  lastPlaces (fun b p e => m ((c : Thread nD τ).loc main_arg3) (ix3 b p e))
    (fun b p e => columns m 0 (by omega) c (ix2 ⟨b.val * 8 + p.val, by omega⟩ e)) (i 0) (i 1) (i 2)

/-- A zero place, the carried places and the call's, joined and cut to the last fifteen. -/
def joinCut (s : FVec Ideal S128x15x512 .f32) (u : FVec Ideal S1024x512 .f32) : FVec Ideal S128x15x512 .f32 :=
  extractStridedSlice S128x15x512 ![0, 9, 0] (concatenate S128x24x512 1
    [⟨S128x1x512, broadcastInDim S128x1x512 ![] bcast_S_S128x1x512 (constant S_ .f32 0x00000000#32)⟩, ⟨S128x15x512, s⟩,
      ⟨S128x8x512, shapeCast S128x8x512 u shapeCasts_S1024x512_S128x8x512⟩]
    concatenates_S128x1x512_S128x15x512_S128x8x512_S128x24x512_d1) slices_S128x24x512_S128x15x512_0_9_0

theorem joinCut_apply (s : FVec Ideal S128x15x512 .f32) (u : FVec Ideal S1024x512 .f32) (b : Fin 128) (p : Fin 15) (e : Fin 512) :
    joinCut s u (ix3 b p e) = lastPlaces (fun b p e => s (ix3 b p e)) (fun b p e => u (ix2 ⟨b.val * 8 + p.val, by omega⟩ e)) b p e := by
  pointwise [joinCut]
  unfold lastPlaces
  rw [dif_neg (by omega)]
  by_cases h : p.val < 7
  · rw [dif_pos h, dif_pos (by omega)]
    exact congrArg (fun q => s (ix3 b q e)) (Fin.ext (by show 9 + p.val - 1 = p.val + 8; omega))
  · rw [dif_neg h, dif_neg (by omega)]
    exact congrArg (fun a => u (ix2 a e)) (Fin.ext (by show b.val * 8 + (9 + p.val - 1 - 15) = b.val * 8 + (p.val - 7); omega))

/-- The host's lines, from any contents. -/
theorem history_cut (W : Valuation τ sig (Elt Ideal)) :
    StableHlo.after hostOps1 W (Proc.devRef .tc main_v6)
      = joinCut (W (Proc.devRef .tc main_arg3)) (W (Proc.devRef .tc main_v2_0)) := by
  after_results
  rfl

/-- What they leave is those. -/
theorem history_final (c : Dev nD) :
    Pipeline.afterTail₀ cfgs (dats m) 0 (V0 m) [hostOps1] c main_v6 = history m c := by
  have e : Pipeline.withArrays (cfgs 0).spec c (V0 m c) (fun w => (dats m 0 c).arrAt w (cfgs 0).N) (Proc.devRef .tc main_v2_0)
      = columns m 0 (by omega) c := (Pipeline.withArrays_arr spec0 launch0.win.arr_inj c _ _ 3).trans (pool_final m c)
  have e' : Pipeline.withArrays (cfgs 0).spec c (V0 m c) (fun w => (dats m 0 c).arrAt w (cfgs 0).N) (Proc.devRef .tc main_arg3)
      = m ((c : Thread nD τ).loc main_arg3) :=
    (Pipeline.withArrays_of_ne spec0 c (V0 m c) _ main_arg3 (by decide)).trans (V_main_arg3 m c)
  refine (history_cut _).trans ?_
  rw [e, e']
  funext j
  obtain ⟨b, p, e, rfl⟩ : ∃ (b : Fin 128) (p : Fin 15) (e : Fin 512), j = ix3 b p e := ⟨j 0, j 1, j 2, eq_ix3 j⟩
  exact joinCut_apply _ _ b p e

/-- The run, read at the five results and the four arguments. -/
theorem run : θ_run defs (onTc (τ := τ) (main (F := Ideal))) ⟨m, fun _ => 0, ρ⟩ fun r => ∀ c : Dev nD,
    r.2.mem ((c : Thread nD τ).loc main_v2_0) = columns m 0 (by omega) c
    ∧ r.2.mem ((c : Thread nD τ).loc main_v2_1) = columns m 512 (by omega) c
    ∧ r.2.mem ((c : Thread nD τ).loc main_v2_2) = columns m 1024 (by omega) c
    ∧ r.2.mem ((c : Thread nD τ).loc main_v2_3) = columns m 1536 (by omega) c
    ∧ r.2.mem ((c : Thread nD τ).loc main_v6) = history m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ?_) (θ_run_and (run_main (F := Ideal) m ρ) (unchanged m ρ))
  obtain ⟨⟨arr, rest⟩, kept⟩ := And.intro (h.1 c) (h.2 c)
  exact ⟨(arr 3).trans (pool_final m c), (arr 4).trans (query_final m c), (arr 5).trans (key_final m c),
    (arr 6).trans (value_final m c),
    (rest main_v6 (Pipeline.mem_restRefs_of main_v6 (by decide) (by decide))).trans (history_final m c), kept⟩

end Cert.Proof.ProjAb.Sample

end
-- ==== Proof.ProjAb.SampleClaim.lean ====
/- The sample's projection: on arguments that agree, the kernel's five result arrays and the reference's are equal. -/
module

public import proofs.«01_k».proof.Defs
public import proofs.«01_k».proof.Proof.Gen.Reference8Ideal.Run
public import proofs.«01_k».proof.Proof.ProjAb.SampleHistory

@[expose] public section

set_option maxRecDepth 16384

noncomputable section

namespace Cert.Proof.ProjAb.Sample

open Idealize.ShloMosaic Idealize.ShloMosaic.TcCoe Idealize.SL.Sem Cert.Reference8Ideal Cert.Reference8Ideal.Gen

variable (x : FVec Ideal S17408x1024 .f32) (g : FVec Ideal S1024 .f32) (w : FVec Ideal S1024x2048 .f32)

/-- The sample's rows. -/
def refRows : FVec Ideal S1024x1024 .f32 := extractStridedSlice S1024x1024 ![16384, 0] x slices_S17408x1024_S1024x1024_16384_0

/-- The reference's projection of the normalised rows. -/
def refProduct : FVec Ideal S1024x2048 .f32 :=
  Host.dotGeneral dot_S1024x1024_S1024x2048_S1024x2048_1_0_0_1_n_n none (mulf (mulf (refRows x) (broadcastInDim S1024x1024 ![0, 1] bcast_S1024x1_S1024x1024_0_1 (Host.rsqrt (addf (Host.divf (broadcastInDim S1024x1 ![0] bcast_S1024_S1024x1_0 (Host.reduceAdd (mulf (refRows x) (refRows x)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 g))) w

/-- Queries (0), keys (1) or values (2): 512 columns of the projection, from the 512th on. -/
def refThird (o : Fin 3 → ℕ) (ho : S1024x3x512.Slices o S1024x1x512) : FVec Ideal S1024x512 .f32 :=
  shapeCast _ (extractStridedSlice S1024x1x512 o (shapeCast _ (extractStridedSlice S1024x1536 ![0, 512] (refProduct x g w) slices_S1024x2048_S1024x1536_0_512) shapeCasts_S1024x1536_S1024x3x512) ho) shapeCasts_S1024x1x512_S1024x512

theorem refProduct_apply (a : Fin 1024) (e : Fin 2048) : refProduct x g w (ix2 a e) = cell x g w ⟨16384 + a.val, by omega⟩ e := by
  pointwise [refProduct, refRows]
  rfl

theorem refPool_apply (a : Fin 1024) (e : Fin 512) :
    extractStridedSlice S1024x512 ![0, 0] (refProduct x g w) slices_S1024x2048_S1024x512_0_0 (ix2 a e)
      = cell x g w ⟨16384 + a.val, by omega⟩ ⟨0 + e.val, by omega⟩ := by
  pointwise
  rw [refProduct_apply]

theorem refQuery_apply (a : Fin 1024) (e : Fin 512) :
    refThird x g w ![0, 0, 0] slices_S1024x3x512_S1024x1x512_0_0_0 (ix2 a e)
      = cell x g w ⟨16384 + a.val, by omega⟩ ⟨512 + e.val, by omega⟩ := by
  pointwise [refThird]
  rw [refProduct_apply]

theorem refKey_apply (a : Fin 1024) (e : Fin 512) :
    refThird x g w ![0, 1, 0] slices_S1024x3x512_S1024x1x512_0_1_0 (ix2 a e)
      = cell x g w ⟨16384 + a.val, by omega⟩ ⟨1024 + e.val, by omega⟩ := by
  pointwise [refThird]
  rw [refProduct_apply]
  exact congrArg (cell x g w _) (Fin.ext (by show 512 + (512 + e.val) = 1024 + e.val; omega))

theorem refValue_apply (a : Fin 1024) (e : Fin 512) :
    refThird x g w ![0, 2, 0] slices_S1024x3x512_S1024x1x512_0_2_0 (ix2 a e)
      = cell x g w ⟨16384 + a.val, by omega⟩ ⟨1536 + e.val, by omega⟩ := by
  pointwise [refThird]
  rw [refProduct_apply]
  exact congrArg (cell x g w _) (Fin.ext (by show 512 + (1024 + e.val) = 1536 + e.val; omega))

/-- The carried places and the call's, joined and cut to the last fifteen. -/
def refHistory (s : FVec Ideal S128x15x512 .f32) : FVec Ideal S128x15x512 .f32 :=
  extractStridedSlice S128x15x512 ![0, 8, 0] (concatenate S128x23x512 1
    [⟨S128x15x512, s⟩, ⟨S128x8x512, shapeCast _ (extractStridedSlice S1024x512 ![0, 0] (refProduct x g w) slices_S1024x2048_S1024x512_0_0) shapeCasts_S1024x512_S128x8x512⟩]
    concatenates_S128x15x512_S128x8x512_S128x23x512_d1) slices_S128x23x512_S128x15x512_0_8_0

theorem refHistory_apply (s : FVec Ideal S128x15x512 .f32) (b : Fin 128) (p : Fin 15) (e : Fin 512) :
    refHistory x g w s (ix3 b p e) = lastPlaces (fun b p e => s (ix3 b p e))
      (fun b p e => cell x g w ⟨16384 + (b.val * 8 + p.val), by omega⟩ ⟨0 + e.val, by omega⟩) b p e := by
  pointwise [refHistory]
  unfold lastPlaces
  by_cases h : p.val < 7
  · rw [dif_pos h, dif_pos (by omega)]
    exact congrArg (fun q => s (ix3 b q e)) (Fin.ext (by show 8 + p.val = p.val + 8; omega))
  · rw [dif_neg h, dif_neg (by omega), refProduct_apply]
    exact congrArg (fun a => cell x g w a _) (Fin.ext (by show 16384 + (b.val * 8 + (8 + p.val - 15)) = 16384 + (b.val * 8 + (p.val - 7)); omega))

theorem algebraic : Cert.algebraic_Kernel8Ideal_Reference8Ideal := by
  intro m ρ m' ρ' _ hagree
  refine ⟨columns m 0 (by omega), columns m 512 (by omega), columns m 1024 (by omega), columns m 1536 (by omega), history m,
    run m ρ, (θ_run Cert.Reference8Ideal.defs _ _).mono (fun r h c => ?_) (Cert.Reference8Ideal.Value.run (F := Ideal) m' ρ')⟩
  obtain ⟨h3, h4, h5, h6, h7, ha⟩ := h c
  obtain ⟨e0, e1, e2, e3⟩ := hagree c
  refine ⟨h3.trans ?_, h4.trans ?_, h5.trans ?_, h6.trans ?_, h7.trans ?_, ha⟩
  all_goals clear h h3 h4 h5 h6 h7 ha; funext j
  · obtain ⟨a, e, rfl⟩ : ∃ (a : Fin 1024) (e : Fin 512), j = ix2 a e := ⟨j 0, j 1, eq_ix2 j⟩
    refine (refPool_apply _ _ _ a e).trans ?_
    rw [e0, e1, e2]; rfl
  · obtain ⟨a, e, rfl⟩ : ∃ (a : Fin 1024) (e : Fin 512), j = ix2 a e := ⟨j 0, j 1, eq_ix2 j⟩
    refine (refQuery_apply _ _ _ a e).trans ?_
    rw [e0, e1, e2]; rfl
  · obtain ⟨a, e, rfl⟩ : ∃ (a : Fin 1024) (e : Fin 512), j = ix2 a e := ⟨j 0, j 1, eq_ix2 j⟩
    refine (refKey_apply _ _ _ a e).trans ?_
    rw [e0, e1, e2]; rfl
  · obtain ⟨a, e, rfl⟩ : ∃ (a : Fin 1024) (e : Fin 512), j = ix2 a e := ⟨j 0, j 1, eq_ix2 j⟩
    refine (refValue_apply _ _ _ a e).trans ?_
    rw [e0, e1, e2]; rfl
  · obtain ⟨b, p, e, rfl⟩ : ∃ (b : Fin 128) (p : Fin 15) (e : Fin 512), j = ix3 b p e := ⟨j 0, j 1, j 2, eq_ix3 j⟩
    refine (refHistory_apply _ _ _ _ b p e).trans ?_
    rw [e0, e1, e2, e3]; rfl

end Cert.Proof.ProjAb.Sample

end
-- ==== Proof.ProjC.Cells.lean ====
/- What an odd layer's projection leaves at one row of the residual stream: its numbers column by column, and the queries
   and keys normalised head by head. -/
module

public import proofs.«01_k».proof.Proof.ProjAb.Block
public import proofs.«01_k».proof.Proof.ProjC.Math

@[expose] public section

noncomputable section

namespace Cert.Proof.ProjC

open Idealize.ShloMosaic Cert.Proof.Ffn Cert.Proof.ProjAb

theorem projected_finite (x g w : Fin 1024 → EReal) (hg : ∀ j, Finite (g j)) (hw : ∀ j, Finite (w j)) : Finite (projected x g w) :=
  Finite.sum _ _ fun j => (normed_finite x g hg j).mul (hw j)

variable (x : (⟨2, ![17408, 1024]⟩ : Shape).Idx → EReal) (g : (⟨1, ![1024]⟩ : Shape).Idx → EReal)
  (w : (⟨2, ![1024, 2120]⟩ : Shape).Idx → EReal) (q : (⟨1, ![64]⟩ : Shape).Idx → EReal)

/-- A row of the stream through one column of the projection. -/
def place (a : Fin 17408) (e : Fin 2120) : EReal := projected (fun k => x (ix2 a k)) (fun k => g (ix1 k)) fun j => w (ix2 j e)

/-- The normalised queries of a row: 16 heads in columns 0 to 1023. -/
def query (a : Fin 17408) (e : Fin 1024) : EReal :=
  headNormed 16 rfl (fun l => place x g w a ⟨l.val, by omega⟩) (fun d => q (ix1 d)) e

/-- The normalised keys of a row: 4 heads in columns 1024 to 1279. -/
def key (a : Fin 17408) (e : Fin 256) : EReal :=
  headNormed 4 rfl (fun l => place x g w a ⟨1024 + l.val, by omega⟩) (fun d => q (ix1 d)) e

theorem place_finite (hg : ∀ i, Finite (g i)) (hw : ∀ (j : Fin 1024) (e : Fin 2120), e.val < 1280 → Finite (w (ix2 j e)))
    (a : Fin 17408) (e : Fin 2120) (he : e.val < 1280) : Finite (place x g w a e) :=
  projected_finite _ _ _ (fun _ => hg _) fun j => hw j e he

end Cert.Proof.ProjC

end
-- ==== Proof.ProjC.PromptBlock.lean ====
/- What one grid point of the prompt's projection leaves in its output blocks of 512 rows. -/
module

public import proofs.«01_k».proof.Proof.Gen.Kernel6Ideal.Frame
public import proofs.«01_k».proof.Proof.ProjC.Cells

@[expose] public section

set_option maxRecDepth 16384

noncomputable section

namespace Cert.Proof.ProjC.Prompt

open Idealize.ShloMosaic Idealize.ShloMosaic.TcCoe Idealize.SL.Sem Cert.Kernel6Ideal Cert.Kernel6Ideal.Gen Cert.Proof.ProjAb

/-- The f32 constant by which the queries are scaled: an eighth of the binary logarithm of e. -/
abbrev scale : EReal := Ideal.ofBits .f32 0x3E38AA3B#32

variable (x0 : Vec Ideal S512x1024 .f32) (x1 : Vec Ideal S1x1024 .f32) (x2 : Vec Ideal S1024x2176 .bf16)
  (x3 : Vec Ideal S1x1024 .f32) (x4 : Vec Ideal S1x256 .f32) (x5 : Vec Ideal S1024x128 .bf16) (x6 : Vec Ideal S128x1024 .bf16)

/-- A block's row times a column of the padded projection. -/
def entry (r : Fin 512) (e : Fin 2176) : EReal := projected (fun k => x0 (ix2 r k)) (fun k => x1 (ix2 0 k)) (fun j => x2 (ix2 j e))

theorem product_apply (r : Fin 512) (e : Fin 2176) : k0_pay7 x0 x1 x2 (ix2 r e) = entry x0 x1 x2 r e := by
  pointwise [k0_pay7]
  rfl

/-- The two matrices' entries: lanes into heads, and heads over lanes. -/
def Segments : Prop := (∀ (l : Fin 1024) (s : Fin 128), x5 (ix2 l s) = if Within l.val s.val then Ideal.ofBits .f32 0x3C800000#32 else 0)
  ∧ ∀ (s : Fin 128) (l : Fin 1024), x6 (ix2 s l) = if Within l.val s.val then 1 else 0

theorem query_apply (hs : Segments x5 x6) (r : Fin 512) (p : Fin 1024 → EReal)
    (hp : ∀ l : Fin 1024, entry x0 x1 x2 r ⟨l.val, by omega⟩ = p l) (hf : ∀ l, Finite (p l)) (q : Fin 64 → EReal)
    (hq : ∀ l : Fin 1024, x3 (ix2 0 l) = q ⟨l.val % 64, Nat.mod_lt _ (by norm_num)⟩) (h : Fin 16) (d : Fin 64) :
    k0_pay20 (k0_pay19 (k0_pay8 x0 x1 x2) (k0_pay9 x6) (k0_pay10 x3) (k0_pay13 x0 x1 x2 x5) (k0_pay14 x0 x1 x2 x5 x6)) (ix4 0 h d r)
      = headNormed 16 rfl p q ⟨h.val * 64 + d.val, by omega⟩ * scale := by
  pointwise [k0_pay20, k0_pay19, k0_pay14, k0_pay13, k0_pay12, k0_pay11, k0_pay10, k0_pay9, k0_pay8]
  simp only [product_apply, hp, hq]
  rw [show entry x0 x1 x2 r ⟨h.val * 64 + d.val, by omega⟩ = p ⟨h.val * 64 + d.val, by omega⟩ from hp ⟨_, by omega⟩]
  unfold headNormed
  rw [← spread_mean (H := 16) rfl (by norm_num) p hf (fun l s => x5 (ix2 l s)) (fun s l => x6 (ix2 s l)) hs.1 hs.2 _]

/-- A block's normalised keys, with the two matrices cut to the keys' 256 lanes. -/
theorem key_apply (u : Vec Ideal S256x128 .bf16) (v : Vec Ideal S128x256 .bf16)
    (hu : ∀ (l : Fin 256) (s : Fin 128), u (ix2 l s) = if Within l.val s.val then Ideal.ofBits .f32 0x3C800000#32 else 0)
    (hv : ∀ (s : Fin 128) (l : Fin 256), v (ix2 s l) = if Within l.val s.val then 1 else 0) (r : Fin 512) (p : Fin 256 → EReal)
    (hp : ∀ l : Fin 256, entry x0 x1 x2 r ⟨1024 + l.val, by omega⟩ = p l) (hf : ∀ l, Finite (p l)) (q : Fin 64 → EReal)
    (hq : ∀ l : Fin 256, x4 (ix2 0 l) = q ⟨l.val % 64, Nat.mod_lt _ (by norm_num)⟩) (e : Fin 256) :
    k0_pay15 (k0_pay7 x0 x1 x2) u v x4 (ix2 r e) = headNormed 4 rfl p q e := by
  pointwise [k0_pay15]
  simp only [product_apply, hp, hq]
  unfold headNormed
  rw [← spread_mean (H := 4) rfl (by norm_num) p hf (fun l s => u (ix2 l s)) (fun s l => v (ix2 s l)) hu hv e]

theorem keyRows_apply (k : FVec Ideal S512x256 .f32) (r : Fin 512) (e : Fin 256) :
    (k0_pay21 (F := Ideal) k (ix3 0 r e) : EReal) = k (ix2 r e) := by
  pointwise [k0_pay21]

theorem keyColumns_apply (k : FVec Ideal S512x256 .f32) (e : Fin 256) (r : Fin 512) :
    (k0_pay22 (F := Ideal) k (ix4 0 0 e r) : EReal) = k (ix2 r e) := by
  pointwise [k0_pay22]

theorem value_apply (e : Fin 256) (r : Fin 512) :
    k0_pay23 (k0_pay16 (k0_pay7 x0 x1 x2)) (ix4 0 0 e r) = entry x0 x1 x2 r ⟨1280 + e.val, by omega⟩ := by
  pointwise [k0_pay23, k0_pay16]
  rw [product_apply]

theorem indexKey_apply (e : Fin 64) (r : Fin 512) :
    k0_pay4 (k0_pay18 (k0_pay7 x0 x1 x2)) (ix4 0 0 e r) = entry x0 x1 x2 r ⟨2048 + e.val, by omega⟩ := by
  pointwise [k0_pay4, k0_pay3, k0_pay18]
  rw [product_apply]

theorem indexWeight_apply (h : Fin 8) (r : Fin 512) :
    k0_pay5 (k0_pay18 (k0_pay7 x0 x1 x2)) (ix3 0 h r) = entry x0 x1 x2 r ⟨2112 + h.val, by omega⟩ := by
  pointwise [k0_pay5, k0_pay3, k0_pay18]
  rw [product_apply]
  exact congrArg (entry x0 x1 x2 r) (Fin.ext (by show 2048 + (64 + h.val) = 2112 + h.val; omega))

/-- An index key in three parts: twice its first bfloat16 part and once the rest. -/
def keyPart (a : Fin 64 → EReal) (e : Fin 192) : EReal :=
  if h : e.val < 64 then a ⟨e.val, h⟩ else if h' : e.val - 64 < 64 then a ⟨e.val - 64, by omega⟩
  else a ⟨e.val - 64 - 64, by omega⟩ - a ⟨e.val - 64 - 64, by omega⟩

/-- An index query in three parts: its first bfloat16 part, the rest, and the first part again. -/
def queryPart (a : Fin 64 → EReal) (e : Fin 192) : EReal :=
  if h : e.val < 64 then a ⟨e.val, h⟩ else if h' : e.val - 64 < 64 then a ⟨e.val - 64, by omega⟩ - a ⟨e.val - 64, by omega⟩
  else a ⟨e.val - 64 - 64, by omega⟩

theorem queryPart_first (a : Fin 64 → EReal) (e : Fin 192) (d : Fin 64) (h : e.val = d.val ∨ e.val = 128 + d.val) :
    queryPart a e = a d := by
  unfold queryPart
  rcases h with h | h
  · rw [dif_pos (by omega)]
    exact congrArg a (Fin.ext h)
  · rw [dif_neg (by omega), dif_neg (by omega)]
    exact congrArg a (Fin.ext (by show e.val - 64 - 64 = d.val; omega))

theorem queryPart_rest (a : Fin 64 → EReal) (e : Fin 192) (d : Fin 64) (h : e.val = 64 + d.val) : queryPart a e = a d - a d := by
  unfold queryPart
  rw [dif_neg (by omega), dif_pos (by omega), show (⟨e.val - 64, by omega⟩ : Fin 64) = d from Fin.ext (by show e.val - 64 = d.val; omega)]

theorem queryPart_congr (a b : Fin 64 → EReal) (e : Fin 192) (h : ∀ d, a d = b d) : queryPart a e = queryPart b e := by
  rw [funext h]

theorem keyPart_congr (a b : Fin 64 → EReal) (e : Fin 192) (h : ∀ d, a d = b d) : keyPart a e = keyPart b e := by
  rw [funext h]

theorem keyParts_apply (r : Fin 512) (e : Fin 192) : k0_pay6 (k0_pay18 (k0_pay7 x0 x1 x2)) (ix3 0 r e)
    = keyPart (fun d => entry x0 x1 x2 r ⟨2048 + d.val, by omega⟩) e := by
  pointwise [k0_pay6, k0_pay18]
  simp only [product_apply]
  unfold keyPart
  rfl

/-- The first parts of a block's scaled index queries, by column. -/
theorem first_apply (h : Fin 8) (d : Fin 64) (e r : Fin 512) (he : e.val = 64 * h.val + d.val) :
    k0_pay25 (k0_pay17 (k0_pay7 x0 x1 x2)) (ix2 e r) = entry x0 x1 x2 r ⟨1536 + (64 * h.val + d.val), by omega⟩ * eighth := by
  pointwise [k0_pay25, k0_pay24, k0_pay17]
  rw [product_apply]
  simp only [he]

/-- The rest of them. -/
theorem rest_apply (h : Fin 8) (d : Fin 64) (e r : Fin 512) (he : e.val = 64 * h.val + d.val) :
    k0_pay26 (k0_pay17 (k0_pay7 x0 x1 x2)) (ix2 e r) = entry x0 x1 x2 r ⟨1536 + (64 * h.val + d.val), by omega⟩ * eighth
      - entry x0 x1 x2 r ⟨1536 + (64 * h.val + d.val), by omega⟩ * eighth := by
  pointwise [k0_pay26, k0_pay25, k0_pay24, k0_pay17]
  rw [product_apply]
  simp only [he]

variable (m : (ℓ : Loc nD τ sig) → Buf (Elt Ideal) ℓ)

/-- The 24 stores of the index queries, three for each head. -/
theorem queryParts_apply (c : Dev nD) (t : Fin cfg0.N) (h : Fin 8) (e : Fin 192) (r : Fin 512) : (dats m 0 c).after 9 t (ix4 0 h e r)
    = queryPart (fun d => entry (iblk m c 0 t) (iblk m c 1 t) (iblk m c 2 t) r ⟨1536 + (64 * h.val + d.val), by omega⟩ * eighth) e := by
  rw [after0_9]
  dsimp only [outsAt0]
  frame_out
  generalize iblk m c 0 t = x0
  generalize iblk m c 1 t = x1
  generalize iblk m c 2 t = x2
  have z : (0 : Fin 1).val = 0 := rfl
  canon_tiles x h
  all_goals
    obtain ⟨a, a', d, r', rfl⟩ : ∃ (a a' : Fin 1) (d : Fin 64) (r' : Fin 512), x = ix4 a a' d r' := ⟨x 0, x 1, x 2, x 3, eq_ix4 x⟩
    first | replace h1 : h.val = _ + a'.val := h1 | replace h1 : h.val = a'.val := h1
    first | replace h2 : e.val = _ + d.val := h2 | replace h2 : e.val = d.val := h2
    obtain rfl : r = r' := Fin.ext h3
    obtain rfl : a = 0 := Subsingleton.elim _ _
    obtain rfl : a' = 0 := Subsingleton.elim _ _
    rw [z] at h1
    clear h0 h3 x0_lt x1_lt x2_lt x3_lt
    pointwise [k0_pay1, k0_pay2, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46, k0_pay47,
      k0_pay48, k0_pay49, k0_pay50, k0_pay51]
    first
    | refine (first_apply x0 x1 x2 h d _ r ?_).trans
        (queryPart_first (fun d => entry x0 x1 x2 r ⟨1536 + (64 * h.val + d.val), by omega⟩ * eighth) e d (by omega)).symm
      (try dsimp only); omega
    | refine (rest_apply x0 x1 x2 h d _ r ?_).trans
        (queryPart_rest (fun d => entry x0 x1 x2 r ⟨1536 + (64 * h.val + d.val), by omega⟩ * eighth) e d (by omega)).symm
      (try dsimp only); omega

end Cert.Proof.ProjC.Prompt

end
-- ==== Proof.ProjC.Prompt.lean ====
/- The eight arrays the odd layer's prompt projection leaves, each as a function of the launch's arguments. The keys and the
   values by column and the index keys by column go into the second slot of a stack whose first slot keeps what it held. -/
module

public import proofs.«01_k».proof.Proof.ProjC.PromptBlock
public import proofs.«01_k».proof.Proof.ProjAb.Kernel

@[expose] public section

set_option maxRecDepth 16384

noncomputable section

namespace Cert.Proof.ProjC.Prompt

open Idealize.ShloMosaic Idealize.ShloMosaic.TcCoe Idealize.SL.Sem Cert.Kernel6Ideal Cert.Kernel6Ideal.Gen Cert.Proof.ProjAb

variable (m : (ℓ : Loc nD τ sig) → Buf (Elt Ideal) ℓ)

/-! The launch's arguments. -/

def stream (c : Dev nD) : (⟨2, ![17408, 1024]⟩ : Shape).Idx → EReal := m ((c : Thread nD τ).loc main_arg0)

def gain (c : Dev nD) : (⟨1, ![1024]⟩ : Shape).Idx → EReal := m ((c : Thread nD τ).loc main_arg1)

def matrix (c : Dev nD) : (⟨2, ![1024, 2120]⟩ : Shape).Idx → EReal := m ((c : Thread nD τ).loc main_arg2)

def queryGain (c : Dev nD) : (⟨1, ![64]⟩ : Shape).Idx → EReal := m ((c : Thread nD τ).loc main_arg3)

def keyGain (c : Dev nD) : (⟨1, ![64]⟩ : Shape).Idx → EReal := m ((c : Thread nD τ).loc main_arg4)

def keyStack (c : Dev nD) : (⟨4, ![2, 4, 256, 4096]⟩ : Shape).Idx → EReal := m ((c : Thread nD τ).loc main_arg5)

def valueStack (c : Dev nD) : (⟨4, ![2, 4, 256, 4096]⟩ : Shape).Idx → EReal := m ((c : Thread nD τ).loc main_arg6)

def indexStack (c : Dev nD) : (⟨4, ![2, 4, 64, 4096]⟩ : Shape).Idx → EReal := m ((c : Thread nD τ).loc main_arg7)

/-- The gain and the query and key columns of the projection hold real numbers. -/
def Real (c : Dev nD) : Prop :=
  (∀ i, Finite (gain m c i)) ∧ ∀ (j : Fin 1024) (e : Fin 2120), e.val < 1280 → Finite (matrix m c (ix2 j e))

/-! What the host hands the launch. -/

theorem gain_read (c : Dev nD) (k : Fin 1024) : V m c main_v44 (ix2 0 k) = gain m c (ix1 k) := by
  simp only [V, hostOps0, hostOps0_1, hostOps0_2, hostOps0_3, hostOps0_4, hostOps0_5, hostOps0_6, List.flatten_cons, List.flatten_nil, List.append_nil, List.cons_append, List.nil_append]
  entry_read
  pointwise
  rfl

theorem matrix_read (c : Dev nD) (j : Fin 1024) (e : Fin 2176) :
    (V m c main_v1 (ix2 j e) : EReal) = if h : e.val < 2120 then matrix m c (ix2 j ⟨e.val, h⟩) else 0 := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise
  split
  · rfl
  · show FloatOps.sitofp (F := Ideal) .f32 0#32 = 0
    simp [FloatOps.sitofp]

theorem queryGain_read (c : Dev nD) (l : Fin 1024) :
    V m c main_v5 (ix2 0 l) = queryGain m c (ix1 ⟨l.val % 64, Nat.mod_lt _ (by norm_num)⟩) := by
  simp only [V, hostOps0, hostOps0_1, hostOps0_2, hostOps0_3, hostOps0_4, hostOps0_5, hostOps0_6, List.flatten_cons, List.flatten_nil, List.append_nil, List.cons_append, List.nil_append]
  entry_read
  pointwise
  rfl

theorem keyGain_read (c : Dev nD) (l : Fin 256) :
    V m c main_v9 (ix2 0 l) = keyGain m c (ix1 ⟨l.val % 64, Nat.mod_lt _ (by norm_num)⟩) := by
  simp only [V, hostOps0, hostOps0_1, hostOps0_2, hostOps0_3, hostOps0_4, hostOps0_5, hostOps0_6, List.flatten_cons, List.flatten_nil, List.append_nil, List.cons_append, List.nil_append]
  entry_read
  pointwise
  rfl

theorem gather_read (c : Dev nD) (l : Fin 1024) (s : Fin 128) :
    (V m c main_v41 (ix2 l s) : EReal) = if Within l.val s.val then Ideal.ofBits .f32 0x3C800000#32 else 0 := by
  refine Eq.trans ?_ (within_word l.val l.isLt s.val s.isLt _ _)
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise

theorem spread_read (c : Dev nD) (s : Fin 128) (l : Fin 1024) :
    (show EReal from V m c main_v43 (ix2 s l)) = if Within l.val s.val then (1 : EReal) else (0 : EReal) := by
  refine Eq.trans ?_ (within_word l.val l.isLt s.val s.isLt 1 0)
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise

theorem keyStack_read (c : Dev nD) : V m c main_v45_5 = keyStack m c := by
  simp only [V, hostOps0, hostOps0_1, hostOps0_2, hostOps0_3, hostOps0_4, hostOps0_5, hostOps0_6, List.flatten_cons, List.flatten_nil, List.append_nil, List.cons_append, List.nil_append]
  entry_read
  rfl

theorem valueStack_read (c : Dev nD) : V m c main_v45_6 = valueStack m c := by
  simp only [V, hostOps0, hostOps0_1, hostOps0_2, hostOps0_3, hostOps0_4, hostOps0_5, hostOps0_6, List.flatten_cons, List.flatten_nil, List.append_nil, List.cons_append, List.nil_append]
  entry_read
  rfl

theorem indexStack_read (c : Dev nD) : V m c main_v45_7 = indexStack m c := by
  simp only [V, hostOps0, hostOps0_1, hostOps0_2, hostOps0_3, hostOps0_4, hostOps0_5, hostOps0_6, List.flatten_cons, List.flatten_nil, List.append_nil, List.cons_append, List.nil_append]
  entry_read
  rfl

/-! The blocks at a grid point. -/

/-- Each point's sequence and tile of places, and the blocks the windows hold there. -/
theorem idx : ∀ t : Fin grid0.N, ((grid0.coords t) 0).val < 4 ∧ ((grid0.coords t) 1).val < 8
    ∧ win0_0.index t = ![8 * ((grid0.coords t) 0).val + ((grid0.coords t) 1).val, 0] ∧ win0_1.index t = ![0, 0]
    ∧ win0_2.index t = ![0, 0] ∧ win0_3.index t = ![0, 0] ∧ win0_4.index t = ![0, 0] ∧ win0_5.index t = ![0, 0]
    ∧ win0_6.index t = ![0, 0] := by decide +kernel

theorem idx_out : ∀ t : Fin grid0.N, win0_7.index t = ![((grid0.coords t) 0).val, 0, 0, ((grid0.coords t) 1).val]
    ∧ win0_8.index t = ![((grid0.coords t) 0).val, ((grid0.coords t) 1).val, 0]
    ∧ win0_9.index t = ![((grid0.coords t) 0).val, 0, 0, ((grid0.coords t) 1).val]
    ∧ win0_10.index t = ![((grid0.coords t) 0).val, 0, ((grid0.coords t) 1).val]
    ∧ win0_11.index t = ![((grid0.coords t) 0).val, ((grid0.coords t) 1).val, 0]
    ∧ win0_12.index t = ![1, ((grid0.coords t) 0).val, 0, ((grid0.coords t) 1).val]
    ∧ win0_13.index t = ![1, ((grid0.coords t) 0).val, 0, ((grid0.coords t) 1).val]
    ∧ win0_14.index t = ![1, ((grid0.coords t) 0).val, 0, ((grid0.coords t) 1).val] := by decide +kernel

theorem segments (c : Dev nD) (t : Fin cfg0.N) : Segments (iblk m c 5 t) (iblk m c 6 t) := by
  obtain ⟨-, -, -, -, -, -, -, i5, i6⟩ := idx t
  refine ⟨fun l s => ?_, fun s l => ?_⟩
  · rw [← gather_read m c]
    blk_ext [iblk, i5]
  · rw [← spread_read m c]
    blk_ext [iblk, i6]

theorem block_queryGain (c : Dev nD) (t : Fin cfg0.N) (l : Fin 1024) :
    iblk m c 3 t (ix2 0 l) = queryGain m c (ix1 ⟨l.val % 64, Nat.mod_lt _ (by norm_num)⟩) := by
  obtain ⟨-, -, -, -, -, i3, -⟩ := idx t
  rw [← queryGain_read m c]
  blk_ext [iblk, i3]

theorem block_keyGain (c : Dev nD) (t : Fin cfg0.N) (l : Fin 256) :
    iblk m c 4 t (ix2 0 l) = keyGain m c (ix1 ⟨l.val % 64, Nat.mod_lt _ (by norm_num)⟩) := by
  obtain ⟨-, -, -, -, -, -, i4, -⟩ := idx t
  rw [← keyGain_read m c]
  blk_ext [iblk, i4]

/-- The place in its sequence of a block's row. -/
def spot (t : Fin cfg0.N) (r : Fin 512) : Fin 4096 :=
  ⟨((grid0.coords t) 1).val * 512 + r.val, by have := (idx t).2.1; omega⟩

/-- A point's block product: the projection at the row of the stream the block holds there. -/
theorem entry_place (c : Dev nD) (t : Fin cfg0.N) (r : Fin 512) (e : Fin 2176) (he : e.val < 2120) :
    entry (iblk m c 0 t) (iblk m c 1 t) (iblk m c 2 t) r e
      = place (stream m c) (gain m c) (matrix m c) (row ⟨((grid0.coords t) 0).val, (idx t).1⟩ (spot t r)) ⟨e.val, he⟩ := by
  obtain ⟨hb, hp, i0, i1, i2, -⟩ := idx t
  have hs : row ⟨((grid0.coords t) 0).val, (idx t).1⟩ (spot t r)
      = ⟨(8 * ((grid0.coords t) 0).val + ((grid0.coords t) 1).val) * 512 + r.val, by omega⟩ :=
    Fin.ext (by show 4096 * ((grid0.coords t) 0).val + (((grid0.coords t) 1).val * 512 + r.val)
                  = (8 * ((grid0.coords t) 0).val + ((grid0.coords t) 1).val) * 512 + r.val
                omega)
  rw [hs]
  have h0 : ∀ k : Fin 1024, iblk m c 0 t (ix2 r k)
      = stream m c (ix2 ⟨(8 * ((grid0.coords t) 0).val + ((grid0.coords t) 1).val) * 512 + r.val, by omega⟩ k) := fun k => by
    refine Eq.trans ?_ (congrFun (V_main_arg0 m c) (ix2 ⟨(8 * ((grid0.coords t) 0).val + ((grid0.coords t) 1).val) * 512 + r.val, by omega⟩ k))
    blk_ext [iblk, i0]
  have h1 : ∀ k : Fin 1024, iblk m c 1 t (ix2 0 k) = gain m c (ix1 k) := fun k => by
    rw [← gain_read m c]
    blk_ext [iblk, i1]
  have h2 : ∀ j : Fin 1024, (iblk m c 2 t (ix2 j e) : EReal) = if h : e.val < 2120 then matrix m c (ix2 j ⟨e.val, h⟩) else 0 := fun j => by
    rw [← matrix_read m c]
    blk_ext [iblk, i2]
  unfold entry
  simp only [h0, h1, h2, dif_pos he]
  rfl

/-! The eight arrays. -/

/-- The scaled queries, head by head, by column. -/
def queries (c : Dev nD) (i : (⟨4, ![4, 16, 64, 4096]⟩ : Shape).Idx) : EReal :=
  query (stream m c) (gain m c) (matrix m c) (queryGain m c) (row (i 0) (i 3))
    ⟨(i 1).val * 64 + (i 2).val, by have := (i 1).isLt; have := (i 2).isLt; simp at *; omega⟩ * scale

/-- The keys, by place. -/
def keys (c : Dev nD) (i : (⟨3, ![4, 4096, 256]⟩ : Shape).Idx) : EReal :=
  key (stream m c) (gain m c) (matrix m c) (keyGain m c) (row (i 0) (i 1)) (i 2)

/-- The scaled index queries of a row in their three parts, head by head. -/
def threeQueries (x : (⟨2, ![17408, 1024]⟩ : Shape).Idx → EReal) (g : (⟨1, ![1024]⟩ : Shape).Idx → EReal)
    (w : (⟨2, ![1024, 2120]⟩ : Shape).Idx → EReal) (a : Fin 17408) (h : Fin 8) (e : Fin 192) : EReal :=
  queryPart (fun d => place x g w a ⟨1536 + (64 * h.val + d.val), by omega⟩ * eighth) e

/-- The index keys of a row in their three parts. -/
def threeKeys (x : (⟨2, ![17408, 1024]⟩ : Shape).Idx → EReal) (g : (⟨1, ![1024]⟩ : Shape).Idx → EReal)
    (w : (⟨2, ![1024, 2120]⟩ : Shape).Idx → EReal) (a : Fin 17408) (e : Fin 192) : EReal :=
  keyPart (fun d => place x g w a ⟨2048 + d.val, by omega⟩) e

def indexQueries (c : Dev nD) (i : (⟨4, ![4, 8, 192, 4096]⟩ : Shape).Idx) : EReal :=
  threeQueries (stream m c) (gain m c) (matrix m c) (row (i 0) (i 3)) (i 1) (i 2)

def indexWeights (c : Dev nD) (i : (⟨3, ![4, 8, 4096]⟩ : Shape).Idx) : EReal :=
  place (stream m c) (gain m c) (matrix m c) (row (i 0) (i 2)) ⟨2112 + (i 1).val, by have := (i 1).isLt; simp at this; omega⟩

def indexKeys (c : Dev nD) (i : (⟨3, ![4, 4096, 192]⟩ : Shape).Idx) : EReal :=
  threeKeys (stream m c) (gain m c) (matrix m c) (row (i 0) (i 1)) (i 2)

/-- This layer's keys, values and index keys by column, whatever the slot. -/
def keyColumns (c : Dev nD) (i : (⟨4, ![2, 4, 256, 4096]⟩ : Shape).Idx) : EReal :=
  key (stream m c) (gain m c) (matrix m c) (keyGain m c) (row (i 1) (i 3)) (i 2)

def valueColumns (c : Dev nD) (i : (⟨4, ![2, 4, 256, 4096]⟩ : Shape).Idx) : EReal :=
  place (stream m c) (gain m c) (matrix m c) (row (i 1) (i 3)) ⟨1280 + (i 2).val, by have := (i 2).isLt; simp at this; omega⟩

def indexColumns (c : Dev nD) (i : (⟨4, ![2, 4, 64, 4096]⟩ : Shape).Idx) : EReal :=
  place (stream m c) (gain m c) (matrix m c) (row (i 1) (i 3)) ⟨2048 + (i 2).val, by have := (i 2).isLt; simp at this; omega⟩

/-- The three stacks: the given first slot, and this layer's columns. -/
def stackedKeys (c : Dev nD) (i : (⟨4, ![2, 4, 256, 4096]⟩ : Shape).Idx) : EReal :=
  if 1 ≤ (i 0).val / 1 then keyColumns m c i else keyStack m c i

def stackedValues (c : Dev nD) (i : (⟨4, ![2, 4, 256, 4096]⟩ : Shape).Idx) : EReal :=
  if 1 ≤ (i 0).val / 1 then valueColumns m c i else valueStack m c i

def stackedIndex (c : Dev nD) (i : (⟨4, ![2, 4, 64, 4096]⟩ : Shape).Idx) : EReal :=
  if 1 ≤ (i 0).val / 1 then indexColumns m c i else indexStack m c i

/-- A block's normalised keys are the rows' of the stream. -/
theorem blockKeys_place (c : Dev nD) (hm : Real m c) (t : Fin cfg0.N) (u : Vec Ideal S256x128 .bf16) (v : Vec Ideal S128x256 .bf16)
    (hu : ∀ (l : Fin 256) (s : Fin 128), u (ix2 l s) = iblk m c 5 t (ix2 ⟨l.val, by omega⟩ s))
    (hv : ∀ (s : Fin 128) (l : Fin 256), v (ix2 s l) = iblk m c 6 t (ix2 s ⟨l.val, by omega⟩)) (r : Fin 512) (e : Fin 256) :
    k0_pay15 (k0_pay7 (iblk m c 0 t) (iblk m c 1 t) (iblk m c 2 t)) u v (iblk m c 4 t) (ix2 r e)
      = key (stream m c) (gain m c) (matrix m c) (keyGain m c) (row ⟨((grid0.coords t) 0).val, (idx t).1⟩ (spot t r)) e :=
  key_apply _ _ _ (iblk m c 4 t) u v (fun l s => (hu l s).trans ((segments m c t).1 _ s)) (fun s l => (hv s l).trans ((segments m c t).2 s _))
    r _ (fun l => entry_place m c t r _ (by show 1024 + l.val < 2120; omega))
    (fun l => place_finite _ _ _ hm.1 hm.2 _ _ (by show 1024 + l.val < 1280; omega)) (fun d => keyGain m c (ix1 d)) (block_keyGain m c t) e

theorem query_final (c : Dev nD) (hm : Real m c) : (dats m 0 c).arrAt 7 cfg0.N = queries m c := by
  refine (dats m 0 c).arrAt_eq_of_covers 7 _ (by decide +kernel) fun t hf y => ?_
  blk_simp
  rw [after0_7]
  obtain ⟨a, h, d, r, rfl⟩ : ∃ (a : Fin 1) (h : Fin 16) (d : Fin 64) (r : Fin 512), y = ix4 a h d r := ⟨y 0, y 1, y 2, y 3, eq_ix4 y⟩
  obtain rfl : a = 0 := Subsingleton.elim _ _
  have i7 := (idx_out t).1
  have he : (win0_7.blk t).view.emb (ix4 0 h d r) = ix4 ⟨((grid0.coords t) 0).val, (idx t).1⟩ h d (spot t r) := by
    blk_ext [iblk, i7, spot]
  rw [he]
  dsimp only [outsAt0]
  frame_out
  exact query_apply _ _ _ (iblk m c 3 t) _ _ (segments m c t) r _ (fun l => entry_place m c t r _ (by show l.val < 2120; omega))
    (fun l => place_finite _ _ _ hm.1 hm.2 _ _ (by show l.val < 1280; omega)) (fun d => queryGain m c (ix1 d)) (block_queryGain m c t) h d

theorem key_final (c : Dev nD) (hm : Real m c) : (dats m 0 c).arrAt 8 cfg0.N = keys m c := by
  refine (dats m 0 c).arrAt_eq_of_covers 8 _ (by decide +kernel) fun t hf y => ?_
  blk_simp
  rw [after0_8]
  obtain ⟨a, r, e, rfl⟩ : ∃ (a : Fin 1) (r : Fin 512) (e : Fin 256), y = ix3 a r e := ⟨y 0, y 1, y 2, eq_ix3 y⟩
  obtain rfl : a = 0 := Subsingleton.elim _ _
  obtain ⟨-, i8, -⟩ := idx_out t
  have he : (win0_8.blk t).view.emb (ix3 0 r e) = ix3 ⟨((grid0.coords t) 0).val, (idx t).1⟩ (spot t r) e := by
    blk_ext [iblk, i8, spot]
  rw [he]
  dsimp only [outsAt0]
  frame_out
  exact (keyRows_apply _ r e).trans (blockKeys_place m c hm t _ _ (fun l s => by pointwise) (fun s l => by pointwise) r e)

theorem indexQuery_final (c : Dev nD) : (dats m 0 c).arrAt 9 cfg0.N = indexQueries m c := by
  refine (dats m 0 c).arrAt_eq_of_covers 9 _ (by decide +kernel) fun t hf y => ?_
  blk_simp
  obtain ⟨a, h, e, r, rfl⟩ : ∃ (a : Fin 1) (h : Fin 8) (e : Fin 192) (r : Fin 512), y = ix4 a h e r := ⟨y 0, y 1, y 2, y 3, eq_ix4 y⟩
  obtain rfl : a = 0 := Subsingleton.elim _ _
  obtain ⟨-, -, i9, -⟩ := idx_out t
  have he : (win0_9.blk t).view.emb (ix4 0 h e r) = ix4 ⟨((grid0.coords t) 0).val, (idx t).1⟩ h e (spot t r) := by
    blk_ext [iblk, i9, spot]
  rw [he]
  refine (queryParts_apply m c t h e r).trans ?_
  unfold indexQueries threeQueries
  refine queryPart_congr _ _ e fun d => ?_
  exact congrArg (· * eighth) (entry_place m c t r _ (by show 1536 + (64 * h.val + d.val) < 2120; omega))

theorem indexWeight_final (c : Dev nD) : (dats m 0 c).arrAt 10 cfg0.N = indexWeights m c := by
  refine (dats m 0 c).arrAt_eq_of_covers 10 _ (by decide +kernel) fun t hf y => ?_
  blk_simp
  rw [after0_10]
  obtain ⟨a, h, r, rfl⟩ : ∃ (a : Fin 1) (h : Fin 8) (r : Fin 512), y = ix3 a h r := ⟨y 0, y 1, y 2, eq_ix3 y⟩
  obtain rfl : a = 0 := Subsingleton.elim _ _
  obtain ⟨-, -, -, i10, -⟩ := idx_out t
  have he : (win0_10.blk t).view.emb (ix3 0 h r) = ix3 ⟨((grid0.coords t) 0).val, (idx t).1⟩ h (spot t r) := by
    blk_ext [iblk, i10, spot]
  rw [he]
  dsimp only [outsAt0]
  frame_out
  exact (indexWeight_apply _ _ _ h r).trans (entry_place m c t r _ (by show 2112 + h.val < 2120; omega))

theorem indexKey_final (c : Dev nD) : (dats m 0 c).arrAt 11 cfg0.N = indexKeys m c := by
  refine (dats m 0 c).arrAt_eq_of_covers 11 _ (by decide +kernel) fun t hf y => ?_
  blk_simp
  rw [after0_11]
  obtain ⟨a, r, e, rfl⟩ : ∃ (a : Fin 1) (r : Fin 512) (e : Fin 192), y = ix3 a r e := ⟨y 0, y 1, y 2, eq_ix3 y⟩
  obtain rfl : a = 0 := Subsingleton.elim _ _
  obtain ⟨-, -, -, -, i11, -⟩ := idx_out t
  have he : (win0_11.blk t).view.emb (ix3 0 r e) = ix3 ⟨((grid0.coords t) 0).val, (idx t).1⟩ (spot t r) e := by
    blk_ext [iblk, i11, spot]
  rw [he]
  dsimp only [outsAt0]
  frame_out
  refine (keyParts_apply _ _ _ r e).trans ?_
  unfold indexKeys threeKeys
  refine keyPart_congr _ _ e fun d => ?_
  exact entry_place m c t r _ (by show 2048 + d.val < 2120; omega)

theorem stackedKeys_final (c : Dev nD) (hm : Real m c) : (dats m 0 c).arrAt 12 cfg0.N = stackedKeys m c := by
  have h := (dats m 0 c).arrAt_eq_of_coversWhere 12 (keyColumns m c)
    (fun β => 1 ≤ β (0 : Fin _)) (P := fun i => 1 ≤ (i 0 : ℕ) / 1) (by decide +kernel) (fun t hf y => ?_) (fun j => Iff.rfl)
  · refine h.trans (funext fun i => ?_)
    unfold stackedKeys
    rw [← keyStack_read m c]
    rfl
  blk_simp
  rw [after0_12]
  obtain ⟨a, a', e, r, rfl⟩ : ∃ (a a' : Fin 1) (e : Fin 256) (r : Fin 512), y = ix4 a a' e r := ⟨y 0, y 1, y 2, y 3, eq_ix4 y⟩
  obtain rfl : a = 0 := Subsingleton.elim _ _
  obtain rfl : a' = 0 := Subsingleton.elim _ _
  obtain ⟨-, -, -, -, -, i12, -⟩ := idx_out t
  have he : (win0_12.blk t).view.emb (ix4 0 0 e r) = ix4 1 ⟨((grid0.coords t) 0).val, (idx t).1⟩ e (spot t r) := by
    blk_ext [iblk, i12, spot]
  rw [he]
  dsimp only [outsAt0]
  frame_out
  exact (keyColumns_apply _ e r).trans (blockKeys_place m c hm t _ _ (fun l s => by pointwise) (fun s l => by pointwise) r e)

theorem stackedValues_final (c : Dev nD) : (dats m 0 c).arrAt 13 cfg0.N = stackedValues m c := by
  have h := (dats m 0 c).arrAt_eq_of_coversWhere 13 (valueColumns m c)
    (fun β => 1 ≤ β (0 : Fin _)) (P := fun i => 1 ≤ (i 0 : ℕ) / 1) (by decide +kernel) (fun t hf y => ?_) (fun j => Iff.rfl)
  · refine h.trans (funext fun i => ?_)
    unfold stackedValues
    rw [← valueStack_read m c]
    rfl
  blk_simp
  rw [after0_13]
  obtain ⟨a, a', e, r, rfl⟩ : ∃ (a a' : Fin 1) (e : Fin 256) (r : Fin 512), y = ix4 a a' e r := ⟨y 0, y 1, y 2, y 3, eq_ix4 y⟩
  obtain rfl : a = 0 := Subsingleton.elim _ _
  obtain rfl : a' = 0 := Subsingleton.elim _ _
  obtain ⟨-, -, -, -, -, -, i13, -⟩ := idx_out t
  have he : (win0_13.blk t).view.emb (ix4 0 0 e r) = ix4 1 ⟨((grid0.coords t) 0).val, (idx t).1⟩ e (spot t r) := by
    blk_ext [iblk, i13, spot]
  rw [he]
  dsimp only [outsAt0]
  frame_out
  exact (value_apply _ _ _ e r).trans (entry_place m c t r _ (by show 1280 + e.val < 2120; omega))

theorem stackedIndex_final (c : Dev nD) : (dats m 0 c).arrAt 14 cfg0.N = stackedIndex m c := by
  have h := (dats m 0 c).arrAt_eq_of_coversWhere 14 (indexColumns m c)
    (fun β => 1 ≤ β (0 : Fin _)) (P := fun i => 1 ≤ (i 0 : ℕ) / 1) (by decide +kernel) (fun t hf y => ?_) (fun j => Iff.rfl)
  · refine h.trans (funext fun i => ?_)
    unfold stackedIndex
    rw [← indexStack_read m c]
    rfl
  blk_simp
  rw [after0_14]
  obtain ⟨a, a', e, r, rfl⟩ : ∃ (a a' : Fin 1) (e : Fin 64) (r : Fin 512), y = ix4 a a' e r := ⟨y 0, y 1, y 2, y 3, eq_ix4 y⟩
  obtain rfl : a = 0 := Subsingleton.elim _ _
  obtain rfl : a' = 0 := Subsingleton.elim _ _
  obtain ⟨-, -, -, -, -, -, -, i14⟩ := idx_out t
  have he : (win0_14.blk t).view.emb (ix4 0 0 e r) = ix4 1 ⟨((grid0.coords t) 0).val, (idx t).1⟩ e (spot t r) := by
    blk_ext [iblk, i14, spot]
  rw [he]
  dsimp only [outsAt0]
  frame_out
  exact (indexKey_apply _ _ _ e r).trans (entry_place m c t r _ (by show 2048 + e.val < 2120; omega))

end Cert.Proof.ProjC.Prompt

end
-- ==== Proof.ProjC.PromptReference.lean ====
/- The reference of the odd layer's prompt projection, array by array. -/
module

public import proofs.«01_k».proof.Proof.Gen.Reference6Ideal.Run
public import proofs.«01_k».proof.Proof.ProjC.Prompt

@[expose] public section

set_option maxRecDepth 16384

noncomputable section

namespace Cert.Proof.ProjC.Prompt

open Idealize.ShloMosaic Idealize.ShloMosaic.TcCoe Idealize.SL.Sem Cert.Reference6Ideal Cert.Reference6Ideal.Gen Cert.Proof.ProjAb

variable (x : FVec Ideal S17408x1024 .f32) (g : FVec Ideal S1024 .f32) (w : FVec Ideal S1024x2120 .f32) (q : FVec Ideal S64 .f32)

/-- The prompt's rows, by sequence and place. -/
def refRows : FVec Ideal S4x4096x1024 .f32 :=
  shapeCast _ (extractStridedSlice S16384x1024 ![0, 0] x slices_S17408x1024_S16384x1024_0_0) shapeCasts_S16384x1024_S4x4096x1024

/-- The reference's projection of the normalised rows. -/
def refProduct : FVec Ideal S4x4096x2120 .f32 :=
  Host.dotGeneral dot_S4x4096x1024_S1024x2120_S4x4096x2120_2_0_01_1_n_n none (mulf (mulf (refRows x) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refRows x) (refRows x)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) w

theorem refRows_apply (b : Fin 4) (p : Fin 4096) (k : Fin 1024) : refRows x (ix3 b p k) = x (ix2 (row b p) k) := by
  pointwise [refRows]
  exact congrArg (fun r => x (ix2 r k)) (Fin.ext (by show b.val * 4096 + p.val = 4096 * b.val + p.val; omega))

theorem refProduct_apply (b : Fin 4) (p : Fin 4096) (e : Fin 2120) : refProduct x g w (ix3 b p e) = place x g w (row b p) e := by
  pointwise [refProduct]
  simp only [refRows_apply]
  rfl

/-- The queries' columns, head by head. -/
def refQueryHeads : FVec Ideal S4x4096x16x64 .f32 :=
  shapeCast _ (extractStridedSlice S4x4096x1024 ![0, 0, 0] (refProduct x g w) slices_S4x4096x2120_S4x4096x1024_0_0_0) shapeCasts_S4x4096x1024_S4x4096x16x64

/-- The normalised and scaled queries, head by head, by column. -/
def refQuery : FVec Ideal S4x16x64x4096 .bf16 :=
  truncf .bf16 (transpose S4x16x64x4096 [0, 2, 3, 1] (mulf (mulf (mulf (refQueryHeads x g w) (broadcastInDim S4x4096x16x64 ![0, 1, 2, 3] bcast_S4x4096x16x1_S4x4096x16x64_0_1_2_3 (Host.rsqrt (addf (Host.divf (broadcastInDim S4x4096x16x1 ![0, 1, 2] bcast_S4x4096x16_S4x4096x16x1_0_1_2 (Host.reduceAdd (mulf (refQueryHeads x g w) (refQueryHeads x g w)) (constant S_ .f32 0x00000000#32) reducesTo_S4x4096x16x64_S4x4096x16_d3 h_S_)) (broadcastInDim S4x4096x16x1 ![] bcast_S_S4x4096x16x1 (constant S_ .f32 0x42800000#32))) (broadcastInDim S4x4096x16x1 ![] bcast_S_S4x4096x16x1 (constant S_ .f32 0x358637BD#32)))))) (broadcastInDim S4x4096x16x64 ![0, 1, 2, 3] bcast_S1x1x1x64_S4x4096x16x64_0_1_2_3 (broadcastInDim S1x1x1x64 ![3] bcast_S64_S1x1x1x64_3 q))) (broadcastInDim S4x4096x16x64 ![] bcast_S_S4x4096x16x64 (constant S_ .f32 0x3E38AA3B#32))) transposes_S4x4096x16x64_S4x16x64x4096_0_2_3_1) bitsLt_bf16_f32

/-- The keys' columns, head by head. -/
def refKeyHeads : FVec Ideal S4x4096x4x64 .f32 :=
  shapeCast _ (extractStridedSlice S4x4096x256 ![0, 0, 1024] (refProduct x g w) slices_S4x4096x2120_S4x4096x256_0_0_1024) shapeCasts_S4x4096x256_S4x4096x4x64

/-- The normalised keys. -/
def refKey : FVec Ideal S4x4096x256 .f32 :=
  shapeCast _ (mulf (mulf (refKeyHeads x g w) (broadcastInDim S4x4096x4x64 ![0, 1, 2, 3] bcast_S4x4096x4x1_S4x4096x4x64_0_1_2_3 (Host.rsqrt (addf (Host.divf (broadcastInDim S4x4096x4x1 ![0, 1, 2] bcast_S4x4096x4_S4x4096x4x1_0_1_2 (Host.reduceAdd (mulf (refKeyHeads x g w) (refKeyHeads x g w)) (constant S_ .f32 0x00000000#32) reducesTo_S4x4096x4x64_S4x4096x4_d3 h_S_)) (broadcastInDim S4x4096x4x1 ![] bcast_S_S4x4096x4x1 (constant S_ .f32 0x42800000#32))) (broadcastInDim S4x4096x4x1 ![] bcast_S_S4x4096x4x1 (constant S_ .f32 0x358637BD#32)))))) (broadcastInDim S4x4096x4x64 ![0, 1, 2, 3] bcast_S1x1x1x64_S4x4096x4x64_0_1_2_3 (broadcastInDim S1x1x1x64 ![3] bcast_S64_S1x1x1x64_3 q))) shapeCasts_S4x4096x4x64_S4x4096x256

/-- The scaled index queries, head by head, by column. -/
def refIndexHeads : FVec Ideal S4x8x64x4096 .f32 :=
  transpose S4x8x64x4096 [0, 2, 3, 1] (shapeCast _ (mulf (extractStridedSlice S4x4096x512 ![0, 0, 1536] (refProduct x g w) slices_S4x4096x2120_S4x4096x512_0_0_1536) (broadcastInDim S4x4096x512 ![] bcast_S_S4x4096x512 (constant S_ .f32 0x3E000000#32))) shapeCasts_S4x4096x512_S4x4096x8x64) transposes_S4x4096x8x64_S4x8x64x4096_0_2_3_1

/-- Their three parts. -/
def refIndexQuery : FVec Ideal S4x8x192x4096 .bf16 :=
  concatenate S4x8x192x4096 2 [⟨S4x8x64x4096, truncf .bf16 (refIndexHeads x g w) bitsLt_bf16_f32⟩, ⟨S4x8x64x4096, truncf .bf16 (subf (refIndexHeads x g w) (extf .f32 (truncf .bf16 (refIndexHeads x g w) bitsLt_bf16_f32) bitsLt_bf16_f32)) bitsLt_bf16_f32⟩, ⟨S4x8x64x4096, truncf .bf16 (refIndexHeads x g w) bitsLt_bf16_f32⟩] concatenates_S4x8x64x4096_S4x8x64x4096_S4x8x64x4096_S4x8x192x4096_d2

/-- The index weights, by column. -/
def refIndexWeight : FVec Ideal S4x8x4096 .f32 :=
  transpose S4x8x4096 [0, 2, 1] (extractStridedSlice S4x4096x8 ![0, 0, 2112] (refProduct x g w) slices_S4x4096x2120_S4x4096x8_0_0_2112) transposes_S4x4096x8_S4x8x4096_0_2_1

/-- The index keys. -/
def refIndexRows : FVec Ideal S4x4096x64 .f32 :=
  extractStridedSlice S4x4096x64 ![0, 0, 2048] (refProduct x g w) slices_S4x4096x2120_S4x4096x64_0_0_2048

/-- Their three parts. -/
def refIndexKey : FVec Ideal S4x4096x192 .bf16 :=
  concatenate S4x4096x192 2 [⟨S4x4096x64, truncf .bf16 (refIndexRows x g w) bitsLt_bf16_f32⟩, ⟨S4x4096x64, truncf .bf16 (refIndexRows x g w) bitsLt_bf16_f32⟩, ⟨S4x4096x64, truncf .bf16 (subf (refIndexRows x g w) (extf .f32 (truncf .bf16 (refIndexRows x g w) bitsLt_bf16_f32) bitsLt_bf16_f32)) bitsLt_bf16_f32⟩] concatenates_S4x4096x64_S4x4096x64_S4x4096x64_S4x4096x192_d2

/-- A stack of 256 columns whose first slot is a given stack's and whose second is a table, by column. -/
def refStack (s : FVec Ideal S2x4x256x4096 .f32) (v : FVec Ideal S4x4096x256 .f32) : FVec Ideal S2x4x256x4096 .f32 :=
  concatenate S2x4x256x4096 0 [⟨S1x4x256x4096, broadcastInDim S1x4x256x4096 ![1, 2, 3] bcast_S4x256x4096_S1x4x256x4096_1_2_3 (shapeCast _ (extractStridedSlice S1x4x256x4096 ![0, 0, 0, 0] s slices_S2x4x256x4096_S1x4x256x4096_0_0_0_0) shapeCasts_S1x4x256x4096_S4x256x4096)⟩, ⟨S1x4x256x4096, broadcastInDim S1x4x256x4096 ![1, 2, 3] bcast_S4x256x4096_S1x4x256x4096_1_2_3 (transpose S4x256x4096 [0, 2, 1] v transposes_S4x4096x256_S4x256x4096_0_2_1)⟩] concatenates_S1x4x256x4096_S1x4x256x4096_S2x4x256x4096_d0

/-- The values. -/
def refValue : FVec Ideal S4x4096x256 .f32 :=
  extractStridedSlice S4x4096x256 ![0, 0, 1280] (refProduct x g w) slices_S4x4096x2120_S4x4096x256_0_0_1280

/-- The stack of index keys. -/
def refIndexStack (s : FVec Ideal S2x4x64x4096 .f32) : FVec Ideal S2x4x64x4096 .f32 :=
  concatenate S2x4x64x4096 0 [⟨S1x4x64x4096, broadcastInDim S1x4x64x4096 ![1, 2, 3] bcast_S4x64x4096_S1x4x64x4096_1_2_3 (shapeCast _ (extractStridedSlice S1x4x64x4096 ![0, 0, 0, 0] s slices_S2x4x64x4096_S1x4x64x4096_0_0_0_0) shapeCasts_S1x4x64x4096_S4x64x4096)⟩, ⟨S1x4x64x4096, broadcastInDim S1x4x64x4096 ![1, 2, 3] bcast_S4x64x4096_S1x4x64x4096_1_2_3 (transpose S4x64x4096 [0, 2, 1] (refIndexRows x g w) transposes_S4x4096x64_S4x64x4096_0_2_1)⟩] concatenates_S1x4x64x4096_S1x4x64x4096_S2x4x64x4096_d0

theorem refQuery_apply (b : Fin 4) (h : Fin 16) (d : Fin 64) (p : Fin 4096) :
    refQuery x g w q (ix4 b h d p) = query x g w q (row b p) ⟨h.val * 64 + d.val, by omega⟩ * scale := by
  pointwise [refQuery, refQueryHeads]
  simp only [refProduct_apply]
  have h1 : (64 * h.val + d.val) / 64 = h.val := by omega
  have h2 : (64 * h.val + d.val) % 64 = d.val := by omega
  unfold query headNormed headMean
  simp only [Nat.mul_comm h.val 64, h1, h2]

theorem refKey_apply (b : Fin 4) (p : Fin 4096) (e : Fin 256) : refKey x g w q (ix3 b p e) = key x g w q (row b p) e := by
  pointwise [refKey, refKeyHeads]
  simp only [refProduct_apply]
  simp only [Nat.mul_comm (e.val / 64) 64]
  rfl

theorem refIndexHeads_apply (b : Fin 4) (h : Fin 8) (d : Fin 64) (p : Fin 4096) :
    refIndexHeads x g w (ix4 b h d p) = place x g w (row b p) ⟨1536 + (64 * h.val + d.val), by omega⟩ * eighth := by
  pointwise [refIndexHeads]
  rw [refProduct_apply]
  simp only [Nat.mul_comm h.val 64]

theorem refIndexQuery_apply (b : Fin 4) (h : Fin 8) (e : Fin 192) (p : Fin 4096) :
    refIndexQuery x g w (ix4 b h e p) = threeQueries x g w (row b p) h e := by
  pointwise [refIndexQuery]
  simp only [refIndexHeads_apply]
  rfl

theorem refIndexWeight_apply (b : Fin 4) (h : Fin 8) (p : Fin 4096) :
    refIndexWeight x g w (ix3 b h p) = place x g w (row b p) ⟨2112 + h.val, by omega⟩ := by
  pointwise [refIndexWeight]
  rw [refProduct_apply]

theorem refIndexRows_apply (b : Fin 4) (p : Fin 4096) (e : Fin 64) :
    refIndexRows x g w (ix3 b p e) = place x g w (row b p) ⟨2048 + e.val, by omega⟩ := by
  pointwise [refIndexRows]
  rw [refProduct_apply]

theorem refIndexKey_apply (b : Fin 4) (p : Fin 4096) (e : Fin 192) : refIndexKey x g w (ix3 b p e) = threeKeys x g w (row b p) e := by
  pointwise [refIndexKey]
  simp only [refIndexRows_apply]
  rfl

theorem refValue_apply (b : Fin 4) (p : Fin 4096) (e : Fin 256) :
    refValue x g w (ix3 b p e) = place x g w (row b p) ⟨1280 + e.val, by omega⟩ := by
  pointwise [refValue]
  rw [refProduct_apply]

theorem refStack_apply (s : FVec Ideal S2x4x256x4096 .f32) (v : FVec Ideal S4x4096x256 .f32) (n : Fin 2) (b : Fin 4) (e : Fin 256) (p : Fin 4096) :
    refStack s v (ix4 n b e p) = if 1 ≤ n.val / 1 then v (ix3 b p e) else s (ix4 n b e p) := by
  pointwise [refStack]
  by_cases h : n.val < 1
  · obtain rfl : n = 0 := Fin.ext (by show n.val = 0; omega)
    simp
  · rw [dif_neg h, if_pos (by omega)]

theorem refIndexStack_apply (s : FVec Ideal S2x4x64x4096 .f32) (n : Fin 2) (b : Fin 4) (e : Fin 64) (p : Fin 4096) :
    refIndexStack x g w s (ix4 n b e p)
      = if 1 ≤ n.val / 1 then place x g w (row b p) ⟨2048 + e.val, by omega⟩ else s (ix4 n b e p) := by
  pointwise [refIndexStack]
  simp only [refIndexRows_apply]
  by_cases h : n.val < 1
  · obtain rfl : n = 0 := Fin.ext (by show n.val = 0; omega)
    simp
  · rw [dif_neg h, if_pos (by omega)]

end Cert.Proof.ProjC.Prompt

end
-- ==== Proof.ProjC.PromptClaim.lean ====
/- The odd layer's prompt projection: on arguments that agree, with the gain and the query and key columns of the projection
   real numbers, the kernel's eight result arrays and the reference's are equal. -/
module

public import proofs.«01_k».proof.Defs
public import proofs.«01_k».proof.Proof.Gen.Kernel6Ideal.Value
public import proofs.«01_k».proof.Proof.ProjC.PromptReference
public import proofs.«01_k».proof.Proof.ProjC.Pre

@[expose] public section

set_option maxRecDepth 16384

noncomputable section

namespace Cert.Proof.ProjC.Prompt

open Idealize.ShloMosaic Idealize.ShloMosaic.TcCoe Idealize.SL.Sem Cert.Reference6Ideal Cert.Reference6Ideal.Gen Cert.Proof.ProjAb

set_option maxHeartbeats 2000000 in
theorem algebraic : Cert.algebraic_Kernel6Ideal_Reference6Ideal_pre_finite6 := by
  intro m ρ m' ρ' hpre hagree
  refine ⟨queries m, keys m, indexQueries m, indexWeights m, indexKeys m, stackedKeys m, stackedValues m, stackedIndex m,
    (θ_run Cert.Kernel6Ideal.defs _ _).mono (fun r h c => ?_) (Cert.Kernel6Ideal.Value.run_blocks (F := Ideal) m ρ),
    (θ_run Cert.Reference6Ideal.defs _ _).mono (fun r h c => ?_) (Cert.Reference6Ideal.Value.run (F := Ideal) m' ρ')⟩
  · obtain ⟨h7, h8, h9, h10, h11, h12, h13, h14, ha⟩ := h c
    have hm : Real m c := Pre.finite6_of _ _ _ _ _ _ _ _ (hpre c)
    exact ⟨h7.trans (query_final m c hm), h8.trans (key_final m c hm), h9.trans (indexQuery_final m c),
      h10.trans (indexWeight_final m c), h11.trans (indexKey_final m c), h12.trans (stackedKeys_final m c hm),
      h13.trans (stackedValues_final m c), h14.trans (stackedIndex_final m c), ha⟩
  · obtain ⟨h0, h1, h2, h3, h4, h5, h6, h7, ha⟩ := h c
    obtain ⟨e0, e1, e2, e3, e4, e5, e6, e7⟩ := hagree c
    refine ⟨h0.trans ?_, h1.trans ?_, h2.trans ?_, h3.trans ?_, h4.trans ?_, h5.trans ?_, h6.trans ?_, h7.trans ?_, ha⟩
    all_goals
      clear h h0 h1 h2 h3 h4 h5 h6 h7 ha hpre; funext j
    · obtain ⟨b, h, d, p, rfl⟩ : ∃ (b : Fin 4) (h : Fin 16) (d : Fin 64) (p : Fin 4096), j = ix4 b h d p := ⟨j 0, j 1, j 2, j 3, eq_ix4 j⟩
      refine (refQuery_apply _ _ _ _ b h d p).trans ?_
      rw [e0, e1, e2, e3]; rfl
    · obtain ⟨b, p, e, rfl⟩ : ∃ (b : Fin 4) (p : Fin 4096) (e : Fin 256), j = ix3 b p e := ⟨j 0, j 1, j 2, eq_ix3 j⟩
      refine (refKey_apply _ _ _ _ b p e).trans ?_
      rw [e0, e1, e2, e4]; rfl
    · obtain ⟨b, h, e, p, rfl⟩ : ∃ (b : Fin 4) (h : Fin 8) (e : Fin 192) (p : Fin 4096), j = ix4 b h e p := ⟨j 0, j 1, j 2, j 3, eq_ix4 j⟩
      refine (refIndexQuery_apply _ _ _ b h e p).trans ?_
      rw [e0, e1, e2]; rfl
    · obtain ⟨b, h, p, rfl⟩ : ∃ (b : Fin 4) (h : Fin 8) (p : Fin 4096), j = ix3 b h p := ⟨j 0, j 1, j 2, eq_ix3 j⟩
      refine (refIndexWeight_apply _ _ _ b h p).trans ?_
      rw [e0, e1, e2]; rfl
    · obtain ⟨b, p, e, rfl⟩ : ∃ (b : Fin 4) (p : Fin 4096) (e : Fin 192), j = ix3 b p e := ⟨j 0, j 1, j 2, eq_ix3 j⟩
      refine (refIndexKey_apply _ _ _ b p e).trans ?_
      rw [e0, e1, e2]; rfl
    · obtain ⟨n, b, e, p, rfl⟩ : ∃ (n : Fin 2) (b : Fin 4) (e : Fin 256) (p : Fin 4096), j = ix4 n b e p := ⟨j 0, j 1, j 2, j 3, eq_ix4 j⟩
      refine (refStack_apply _ (refKey _ _ _ _) n b e p).trans ?_
      refine (if_congr Iff.rfl (refKey_apply _ _ _ _ b p e) rfl).trans ?_
      rw [e0, e1, e2, e4, e5]; rfl
    · obtain ⟨n, b, e, p, rfl⟩ : ∃ (n : Fin 2) (b : Fin 4) (e : Fin 256) (p : Fin 4096), j = ix4 n b e p := ⟨j 0, j 1, j 2, j 3, eq_ix4 j⟩
      refine (refStack_apply _ (refValue _ _ _) n b e p).trans ?_
      refine (if_congr Iff.rfl (refValue_apply _ _ _ b p e) rfl).trans ?_
      rw [e0, e1, e2, e6]; rfl
    · obtain ⟨n, b, e, p, rfl⟩ : ∃ (n : Fin 2) (b : Fin 4) (e : Fin 64) (p : Fin 4096), j = ix4 n b e p := ⟨j 0, j 1, j 2, j 3, eq_ix4 j⟩
      refine (refIndexStack_apply _ _ _ _ n b e p).trans ?_
      rw [e0, e1, e2, e7]; rfl

end Cert.Proof.ProjC.Prompt

end
-- ==== Proof.ProjC.SampleBlock.lean ====
/- What one grid point of the sample's projection leaves in its five output blocks of 512 rows. -/
module

public import proofs.«01_k».proof.Proof.Gen.Kernel9Ideal.Frame
public import proofs.«01_k».proof.Proof.ProjC.Cells

@[expose] public section

set_option maxRecDepth 16384

noncomputable section

namespace Cert.Proof.ProjC.Sample

open Idealize.ShloMosaic Idealize.ShloMosaic.TcCoe Idealize.SL.Sem Cert.Kernel9Ideal Cert.Kernel9Ideal.Gen Cert.Proof.ProjAb

variable (x0 : Vec Ideal S512x1024 .f32) (x1 : Vec Ideal S1x1024 .f32) (x2 : Vec Ideal S1024x2176 .bf16)
  (x3 : Vec Ideal S1x1024 .f32) (x4 : Vec Ideal S1x256 .f32) (x5 : Vec Ideal S1024x128 .bf16) (x6 : Vec Ideal S128x1024 .bf16)

/-- A block's row times a column of the padded projection. -/
def entry (r : Fin 512) (e : Fin 2176) : EReal := projected (fun k => x0 (ix2 r k)) (fun k => x1 (ix2 0 k)) (fun j => x2 (ix2 j e))

theorem product_apply (r : Fin 512) (e : Fin 2176) : k0_pay1 x0 x1 x2 (ix2 r e) = entry x0 x1 x2 r e := by
  pointwise [k0_pay1]
  rfl

theorem product_again (r : Fin 512) (e : Fin 2176) : k0_pay14 x0 x1 x2 x3 x4 x5 x6 (ix2 r e) = entry x0 x1 x2 r e := by
  unfold k0_pay14
  pointwise [k0_pay1]
  rfl

/-- The two matrices' entries: lanes into heads, and heads over lanes. -/
def Segments : Prop := (∀ (l : Fin 1024) (s : Fin 128), x5 (ix2 l s) = if Within l.val s.val then Ideal.ofBits .f32 0x3C800000#32 else 0)
  ∧ ∀ (s : Fin 128) (l : Fin 1024), x6 (ix2 s l) = if Within l.val s.val then 1 else 0

theorem query_apply (hs : Segments x5 x6) (r : Fin 512) (p : Fin 1024 → EReal)
    (hp : ∀ l : Fin 1024, entry x0 x1 x2 r ⟨l.val, by omega⟩ = p l) (hf : ∀ l, Finite (p l)) (q : Fin 64 → EReal)
    (hq : ∀ l : Fin 1024, x3 (ix2 0 l) = q ⟨l.val % 64, Nat.mod_lt _ (by norm_num)⟩) (e : Fin 1024) :
    out0_7 x0 x1 x2 x3 x4 x5 x6 (ix2 r e) = headNormed 16 rfl p q e := by
  frame_out
  pointwise [k0_pay9, k0_pay8, k0_pay7, k0_pay6, k0_pay5, k0_pay4, k0_pay3, k0_pay2]
  simp only [product_apply, hp, hq]
  unfold headNormed
  rw [← spread_mean (H := 16) rfl (by norm_num) p hf (fun l s => x5 (ix2 l s)) (fun s l => x6 (ix2 s l)) hs.1 hs.2 e]

theorem key_apply (hs : Segments x5 x6) (r : Fin 512) (p : Fin 256 → EReal)
    (hp : ∀ l : Fin 256, entry x0 x1 x2 r ⟨1024 + l.val, by omega⟩ = p l) (hf : ∀ l, Finite (p l)) (q : Fin 64 → EReal)
    (hq : ∀ l : Fin 256, x4 (ix2 0 l) = q ⟨l.val % 64, Nat.mod_lt _ (by norm_num)⟩) (e : Fin 256) :
    out0_8 x0 x1 x2 x3 x4 x5 x6 (ix2 r e) = headNormed 4 rfl p q e := by
  frame_out
  pointwise [k0_pay10]
  simp only [product_again, hp, hq]
  unfold headNormed
  rw [← spread_mean (H := 4) rfl (by norm_num) p hf (fun l s => x5 (ix2 ⟨l.val, by omega⟩ s)) (fun s l => x6 (ix2 s ⟨l.val, by omega⟩))
    (fun l s => hs.1 _ s) (fun s l => hs.2 s _) e]

theorem value_apply (r : Fin 512) (e : Fin 256) : out0_9 x0 x1 x2 x3 x4 x5 x6 (ix2 r e) = entry x0 x1 x2 r ⟨1280 + e.val, by omega⟩ := by
  frame_out
  pointwise [k0_pay11]
  exact product_again ..

theorem index_apply (r e : Fin 512) : out0_10 x0 x1 x2 x3 x4 x5 x6 (ix2 r e) = entry x0 x1 x2 r ⟨1536 + e.val, by omega⟩ := by
  frame_out
  pointwise [k0_pay12]
  exact product_again ..

theorem tail_apply (r : Fin 512) (e : Fin 128) : out0_11 x0 x1 x2 x3 x4 x5 x6 (ix2 r e) = entry x0 x1 x2 r ⟨2048 + e.val, by omega⟩ := by
  frame_out
  pointwise [k0_pay13]
  exact product_again ..

end Cert.Proof.ProjC.Sample

end
-- ==== Proof.ProjC.Sample.lean ====
/- The five arrays the odd layer's sample projection leaves, each as a function of the launch's arguments: the normalised
   queries and keys, the values, the index queries, and the last columns with the index keys and weights. -/
module

public import proofs.«01_k».proof.Proof.ProjC.SampleBlock

@[expose] public section

set_option maxRecDepth 16384

noncomputable section

namespace Cert.Proof.ProjC.Sample

open Idealize.ShloMosaic Idealize.ShloMosaic.TcCoe Idealize.SL.Sem Cert.Kernel9Ideal Cert.Kernel9Ideal.Gen Cert.Proof.ProjAb

variable (m : (ℓ : Loc nD τ sig) → Buf (Elt Ideal) ℓ)

/-! The launch's arguments. -/

def stream (c : Dev nD) : (⟨2, ![17408, 1024]⟩ : Shape).Idx → EReal := m ((c : Thread nD τ).loc main_arg0)

def gain (c : Dev nD) : (⟨1, ![1024]⟩ : Shape).Idx → EReal := m ((c : Thread nD τ).loc main_arg1)

def matrix (c : Dev nD) : (⟨2, ![1024, 2120]⟩ : Shape).Idx → EReal := m ((c : Thread nD τ).loc main_arg2)

def queryGain (c : Dev nD) : (⟨1, ![64]⟩ : Shape).Idx → EReal := m ((c : Thread nD τ).loc main_arg3)

def keyGain (c : Dev nD) : (⟨1, ![64]⟩ : Shape).Idx → EReal := m ((c : Thread nD τ).loc main_arg4)

/-- The gain and the query and key columns of the projection hold real numbers. -/
def Real (c : Dev nD) : Prop :=
  (∀ i, Finite (gain m c i)) ∧ ∀ (j : Fin 1024) (e : Fin 2120), e.val < 1280 → Finite (matrix m c (ix2 j e))

/-! What the host hands the launch. -/

theorem gain_read (c : Dev nD) (k : Fin 1024) : V m c main_v44 (ix2 0 k) = gain m c (ix1 k) := by
  simp only [V, hostOps0, hostOps0_1, hostOps0_2, hostOps0_3, hostOps0_4, hostOps0_5, hostOps0_6, List.flatten_cons, List.flatten_nil, List.append_nil, List.cons_append, List.nil_append]
  entry_read
  pointwise
  rfl

theorem matrix_read (c : Dev nD) (j : Fin 1024) (e : Fin 2176) :
    (V m c main_v1 (ix2 j e) : EReal) = if h : e.val < 2120 then matrix m c (ix2 j ⟨e.val, h⟩) else 0 := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise
  split
  · rfl
  · show FloatOps.sitofp (F := Ideal) .f32 0#32 = 0
    simp [FloatOps.sitofp]

theorem queryGain_read (c : Dev nD) (l : Fin 1024) :
    V m c main_v5 (ix2 0 l) = queryGain m c (ix1 ⟨l.val % 64, Nat.mod_lt _ (by norm_num)⟩) := by
  simp only [V, hostOps0, hostOps0_1, hostOps0_2, hostOps0_3, hostOps0_4, hostOps0_5, hostOps0_6, List.flatten_cons, List.flatten_nil, List.append_nil, List.cons_append, List.nil_append]
  entry_read
  pointwise
  rfl

theorem keyGain_read (c : Dev nD) (l : Fin 256) :
    V m c main_v9 (ix2 0 l) = keyGain m c (ix1 ⟨l.val % 64, Nat.mod_lt _ (by norm_num)⟩) := by
  simp only [V, hostOps0, hostOps0_1, hostOps0_2, hostOps0_3, hostOps0_4, hostOps0_5, hostOps0_6, List.flatten_cons, List.flatten_nil, List.append_nil, List.cons_append, List.nil_append]
  entry_read
  pointwise
  rfl

theorem gather_read (c : Dev nD) (l : Fin 1024) (s : Fin 128) :
    (V m c main_v41 (ix2 l s) : EReal) = if Within l.val s.val then Ideal.ofBits .f32 0x3C800000#32 else 0 := by
  refine Eq.trans ?_ (within_word l.val l.isLt s.val s.isLt _ _)
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise

theorem spread_read (c : Dev nD) (s : Fin 128) (l : Fin 1024) :
    (show EReal from V m c main_v43 (ix2 s l)) = if Within l.val s.val then (1 : EReal) else (0 : EReal) := by
  refine Eq.trans ?_ (within_word l.val l.isLt s.val s.isLt 1 0)
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise

/-! The blocks at a grid point. -/

theorem idx : ∀ t : Fin grid0.N, t.val < 2 ∧ win0_0.index t = ![32 + t.val, 0] ∧ win0_1.index t = ![0, 0]
    ∧ win0_2.index t = ![0, 0] ∧ win0_3.index t = ![0, 0] ∧ win0_4.index t = ![0, 0] ∧ win0_5.index t = ![0, 0]
    ∧ win0_6.index t = ![0, 0] := by decide +kernel

theorem idx_out : ∀ t : Fin grid0.N, win0_7.index t = ![t.val, 0] ∧ win0_8.index t = ![t.val, 0]
    ∧ win0_9.index t = ![t.val, 0] ∧ win0_10.index t = ![t.val, 0] ∧ win0_11.index t = ![t.val, 0] := by decide +kernel

theorem segments (c : Dev nD) (t : Fin cfg0.N) : Segments (iblk m c 5 t) (iblk m c 6 t) := by
  obtain ⟨ht, -, -, -, -, -, i5, i6⟩ := idx t
  refine ⟨fun l s => ?_, fun s l => ?_⟩
  · rw [← gather_read m c]
    blk_ext [iblk, i5]
  · rw [← spread_read m c]
    blk_ext [iblk, i6]

theorem block_queryGain (c : Dev nD) (t : Fin cfg0.N) (l : Fin 1024) :
    iblk m c 3 t (ix2 0 l) = queryGain m c (ix1 ⟨l.val % 64, Nat.mod_lt _ (by norm_num)⟩) := by
  obtain ⟨ht, -, -, -, i3, -⟩ := idx t
  rw [← queryGain_read m c]
  blk_ext [iblk, i3]

theorem block_keyGain (c : Dev nD) (t : Fin cfg0.N) (l : Fin 256) :
    iblk m c 4 t (ix2 0 l) = keyGain m c (ix1 ⟨l.val % 64, Nat.mod_lt _ (by norm_num)⟩) := by
  obtain ⟨ht, -, -, -, -, i4, -⟩ := idx t
  rw [← keyGain_read m c]
  blk_ext [iblk, i4]

/-- A point's block product: the projection at the row of the stream the block holds there, and 0 in the padding. -/
theorem entry_place (c : Dev nD) (t : Fin cfg0.N) (r : Fin 512) (e : Fin 2176) (a : Fin 1024) (ha : a.val = t.val * 512 + r.val) :
    entry (iblk m c 0 t) (iblk m c 1 t) (iblk m c 2 t) r e
      = if h : e.val < 2120 then place (stream m c) (gain m c) (matrix m c) ⟨16384 + a.val, by omega⟩ ⟨e.val, h⟩ else 0 := by
  obtain ⟨ht, i0, i1, i2, -⟩ := idx t
  have h0 : ∀ k : Fin 1024, iblk m c 0 t (ix2 r k) = stream m c (ix2 ⟨16384 + a.val, by omega⟩ k) := fun k => by
    refine Eq.trans ?_ (congrFun (V_main_arg0 m c) (ix2 ⟨16384 + a.val, by omega⟩ k))
    rw [show (⟨16384 + a.val, by omega⟩ : Fin 17408) = ⟨(32 + t.val) * 512 + r.val, by omega⟩ from
      Fin.ext (by show 16384 + a.val = (32 + t.val) * 512 + r.val; omega)]
    blk_ext [iblk, i0]
  have h1 : ∀ k : Fin 1024, iblk m c 1 t (ix2 0 k) = gain m c (ix1 k) := fun k => by
    rw [← gain_read m c]
    blk_ext [iblk, i1]
  have h2 : ∀ j : Fin 1024, (iblk m c 2 t (ix2 j e) : EReal) = if h : e.val < 2120 then matrix m c (ix2 j ⟨e.val, h⟩) else 0 := fun j => by
    rw [← matrix_read m c]
    blk_ext [iblk, i2]
  unfold entry
  simp only [h0, h1, h2]
  split
  · rfl
  · unfold projected
    simp

/-! The five arrays. -/

def queries (c : Dev nD) (i : (⟨2, ![1024, 1024]⟩ : Shape).Idx) : EReal :=
  query (stream m c) (gain m c) (matrix m c) (queryGain m c) ⟨16384 + (i 0).val, by have := (i 0).isLt; simp at this; omega⟩ (i 1)

def keys (c : Dev nD) (i : (⟨2, ![1024, 256]⟩ : Shape).Idx) : EReal :=
  key (stream m c) (gain m c) (matrix m c) (keyGain m c) ⟨16384 + (i 0).val, by have := (i 0).isLt; simp at this; omega⟩ (i 1)

def values (c : Dev nD) (i : (⟨2, ![1024, 256]⟩ : Shape).Idx) : EReal :=
  place (stream m c) (gain m c) (matrix m c) ⟨16384 + (i 0).val, by have := (i 0).isLt; simp at this; omega⟩
    ⟨1280 + (i 1).val, by have := (i 1).isLt; simp at this; omega⟩

def indexQueries (c : Dev nD) (i : (⟨2, ![1024, 512]⟩ : Shape).Idx) : EReal :=
  place (stream m c) (gain m c) (matrix m c) ⟨16384 + (i 0).val, by have := (i 0).isLt; simp at this; omega⟩
    ⟨1536 + (i 1).val, by have := (i 1).isLt; simp at this; omega⟩

/-- The last 72 columns, and 0 up to 128. -/
def tail (c : Dev nD) (i : (⟨2, ![1024, 128]⟩ : Shape).Idx) : EReal :=
  if h : 2048 + (i 1).val < 2120 then
    place (stream m c) (gain m c) (matrix m c) ⟨16384 + (i 0).val, by have := (i 0).isLt; simp at this; omega⟩ ⟨2048 + (i 1).val, h⟩
  else 0

theorem query_final (c : Dev nD) (hm : Real m c) : (dats m 0 c).arrAt 7 cfg0.N = queries m c := by
  refine (dats m 0 c).arrAt_eq_of_covers 7 _ (by decide +kernel) fun t hf y => ?_
  blk_simp
  rw [after0_7]
  obtain ⟨r, e, rfl⟩ : ∃ (r : Fin 512) (e : Fin 1024), y = ix2 r e := ⟨y 0, y 1, eq_ix2 y⟩
  have ht := (idx t).1
  obtain ⟨i7, -⟩ := idx_out t
  have he : (win0_7.blk t).view.emb (ix2 r e) = ix2 ⟨t.val * 512 + r.val, by omega⟩ e := by
    blk_ext [iblk, i7]
  rw [he]
  exact query_apply _ _ _ (iblk m c 3 t) _ _ _ (segments m c t) r _
    (fun l => (entry_place m c t r _ ⟨t.val * 512 + r.val, by omega⟩ rfl).trans (dif_pos (by show l.val < 2120; omega)))
    (fun l => place_finite _ _ _ hm.1 hm.2 _ _ (by show l.val < 1280; omega)) (fun d => queryGain m c (ix1 d)) (block_queryGain m c t) e

theorem key_final (c : Dev nD) (hm : Real m c) : (dats m 0 c).arrAt 8 cfg0.N = keys m c := by
  refine (dats m 0 c).arrAt_eq_of_covers 8 _ (by decide +kernel) fun t hf y => ?_
  blk_simp
  rw [after0_8]
  obtain ⟨r, e, rfl⟩ : ∃ (r : Fin 512) (e : Fin 256), y = ix2 r e := ⟨y 0, y 1, eq_ix2 y⟩
  have ht := (idx t).1
  obtain ⟨-, i8, -⟩ := idx_out t
  have he : (win0_8.blk t).view.emb (ix2 r e) = ix2 ⟨t.val * 512 + r.val, by omega⟩ e := by
    blk_ext [iblk, i8]
  rw [he]
  exact key_apply _ _ _ _ (iblk m c 4 t) _ _ (segments m c t) r _
    (fun l => (entry_place m c t r _ ⟨t.val * 512 + r.val, by omega⟩ rfl).trans (dif_pos (by show 1024 + l.val < 2120; omega)))
    (fun l => place_finite _ _ _ hm.1 hm.2 _ _ (by show 1024 + l.val < 1280; omega)) (fun d => keyGain m c (ix1 d)) (block_keyGain m c t) e

theorem value_final (c : Dev nD) : (dats m 0 c).arrAt 9 cfg0.N = values m c := by
  refine (dats m 0 c).arrAt_eq_of_covers 9 _ (by decide +kernel) fun t hf y => ?_
  blk_simp
  rw [after0_9]
  obtain ⟨r, e, rfl⟩ : ∃ (r : Fin 512) (e : Fin 256), y = ix2 r e := ⟨y 0, y 1, eq_ix2 y⟩
  have ht := (idx t).1
  obtain ⟨-, -, i9, -⟩ := idx_out t
  have he : (win0_9.blk t).view.emb (ix2 r e) = ix2 ⟨t.val * 512 + r.val, by omega⟩ e := by
    blk_ext [iblk, i9]
  rw [he]
  exact (value_apply _ _ _ _ _ _ _ r e).trans ((entry_place m c t r _ ⟨t.val * 512 + r.val, by omega⟩ rfl).trans
    (dif_pos (by show 1280 + e.val < 2120; omega)))

theorem index_final (c : Dev nD) : (dats m 0 c).arrAt 10 cfg0.N = indexQueries m c := by
  refine (dats m 0 c).arrAt_eq_of_covers 10 _ (by decide +kernel) fun t hf y => ?_
  blk_simp
  rw [after0_10]
  obtain ⟨r, e, rfl⟩ : ∃ r e : Fin 512, y = ix2 r e := ⟨y 0, y 1, eq_ix2 y⟩
  have ht := (idx t).1
  obtain ⟨-, -, -, i10, -⟩ := idx_out t
  have he : (win0_10.blk t).view.emb (ix2 r e) = ix2 ⟨t.val * 512 + r.val, by omega⟩ e := by
    blk_ext [iblk, i10]
  rw [he]
  exact (index_apply _ _ _ _ _ _ _ r e).trans ((entry_place m c t r _ ⟨t.val * 512 + r.val, by omega⟩ rfl).trans
    (dif_pos (by show 1536 + e.val < 2120; omega)))

theorem tail_final (c : Dev nD) : (dats m 0 c).arrAt 11 cfg0.N = tail m c := by
  refine (dats m 0 c).arrAt_eq_of_covers 11 _ (by decide +kernel) fun t hf y => ?_
  blk_simp
  rw [after0_11]
  obtain ⟨r, e, rfl⟩ : ∃ (r : Fin 512) (e : Fin 128), y = ix2 r e := ⟨y 0, y 1, eq_ix2 y⟩
  have ht := (idx t).1
  obtain ⟨-, -, -, -, i11⟩ := idx_out t
  have he : (win0_11.blk t).view.emb (ix2 r e) = ix2 ⟨t.val * 512 + r.val, by omega⟩ e := by
    blk_ext [iblk, i11]
  rw [he]
  exact (tail_apply _ _ _ _ _ _ _ r e).trans (entry_place m c t r _ ⟨t.val * 512 + r.val, by omega⟩ rfl)

end Cert.Proof.ProjC.Sample

end
-- ==== Proof.ProjC.SampleReference.lean ====
/- The reference of the odd layer's sample projection, array by array. -/
module

public import proofs.«01_k».proof.Proof.Gen.Reference9Ideal.Run
public import proofs.«01_k».proof.Proof.ProjC.Cells

@[expose] public section

set_option maxRecDepth 16384

noncomputable section

namespace Cert.Proof.ProjC.Sample

open Idealize.ShloMosaic Idealize.ShloMosaic.TcCoe Idealize.SL.Sem Cert.Reference9Ideal Cert.Reference9Ideal.Gen

variable (x : FVec Ideal S17408x1024 .f32) (g : FVec Ideal S1024 .f32) (w : FVec Ideal S1024x2120 .f32) (q : FVec Ideal S64 .f32)

/-- The sample's rows. -/
def refRows : FVec Ideal S1024x1024 .f32 := extractStridedSlice S1024x1024 ![16384, 0] x slices_S17408x1024_S1024x1024_16384_0

/-- The reference's projection of the normalised rows. -/
def refProduct : FVec Ideal S1x1024x2120 .f32 :=
  Host.dotGeneral dot_S1x1024x1024_S1024x2120_S1x1024x2120_2_0_01_1_n_n none (broadcastInDim S1x1024x1024 ![1, 2] bcast_S1024x1024_S1x1024x1024_1_2 (mulf (mulf (refRows x) (broadcastInDim S1024x1024 ![0, 1] bcast_S1024x1_S1024x1024_0_1 (Host.rsqrt (addf (Host.divf (broadcastInDim S1024x1 ![0] bcast_S1024_S1024x1_0 (Host.reduceAdd (mulf (refRows x) (refRows x)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 g)))) w

/-- The queries' columns, head by head. -/
def refQueryHeads : FVec Ideal S1x1024x16x64 .f32 :=
  shapeCast _ (extractStridedSlice S1x1024x1024 ![0, 0, 0] (refProduct x g w) slices_S1x1024x2120_S1x1024x1024_0_0_0) shapeCasts_S1x1024x1024_S1x1024x16x64

def refQuery : FVec Ideal S1024x1024 .f32 :=
  shapeCast _ (mulf (mulf (refQueryHeads x g w) (broadcastInDim S1x1024x16x64 ![0, 1, 2, 3] bcast_S1x1024x16x1_S1x1024x16x64_0_1_2_3 (Host.rsqrt (addf (Host.divf (broadcastInDim S1x1024x16x1 ![0, 1, 2] bcast_S1x1024x16_S1x1024x16x1_0_1_2 (Host.reduceAdd (mulf (refQueryHeads x g w) (refQueryHeads x g w)) (constant S_ .f32 0x00000000#32) reducesTo_S1x1024x16x64_S1x1024x16_d3 h_S_)) (broadcastInDim S1x1024x16x1 ![] bcast_S_S1x1024x16x1 (constant S_ .f32 0x42800000#32))) (broadcastInDim S1x1024x16x1 ![] bcast_S_S1x1024x16x1 (constant S_ .f32 0x358637BD#32)))))) (broadcastInDim S1x1024x16x64 ![0, 1, 2, 3] bcast_S1x1x1x64_S1x1024x16x64_0_1_2_3 (broadcastInDim S1x1x1x64 ![3] bcast_S64_S1x1x1x64_3 q))) shapeCasts_S1x1024x16x64_S1024x1024

/-- The keys' columns, head by head. -/
def refKeyHeads : FVec Ideal S1x1024x4x64 .f32 :=
  shapeCast _ (extractStridedSlice S1x1024x256 ![0, 0, 1024] (refProduct x g w) slices_S1x1024x2120_S1x1024x256_0_0_1024) shapeCasts_S1x1024x256_S1x1024x4x64

def refKey : FVec Ideal S1024x256 .f32 :=
  shapeCast _ (shapeCast S1x1024x256 (mulf (mulf (refKeyHeads x g w) (broadcastInDim S1x1024x4x64 ![0, 1, 2, 3] bcast_S1x1024x4x1_S1x1024x4x64_0_1_2_3 (Host.rsqrt (addf (Host.divf (broadcastInDim S1x1024x4x1 ![0, 1, 2] bcast_S1x1024x4_S1x1024x4x1_0_1_2 (Host.reduceAdd (mulf (refKeyHeads x g w) (refKeyHeads x g w)) (constant S_ .f32 0x00000000#32) reducesTo_S1x1024x4x64_S1x1024x4_d3 h_S_)) (broadcastInDim S1x1024x4x1 ![] bcast_S_S1x1024x4x1 (constant S_ .f32 0x42800000#32))) (broadcastInDim S1x1024x4x1 ![] bcast_S_S1x1024x4x1 (constant S_ .f32 0x358637BD#32)))))) (broadcastInDim S1x1024x4x64 ![0, 1, 2, 3] bcast_S1x1x1x64_S1x1024x4x64_0_1_2_3 (broadcastInDim S1x1x1x64 ![3] bcast_S64_S1x1x1x64_3 q))) shapeCasts_S1x1024x4x64_S1x1024x256) shapeCasts_S1x1024x256_S1024x256

def refValue : FVec Ideal S1024x256 .f32 :=
  shapeCast _ (extractStridedSlice S1x1024x256 ![0, 0, 1280] (refProduct x g w) slices_S1x1024x2120_S1x1024x256_0_0_1280) shapeCasts_S1x1024x256_S1024x256

/-- The index queries. -/
def refIndex : FVec Ideal S1024x512 .f32 :=
  shapeCast _ (extractStridedSlice S1x1024x512 ![0, 0, 1536] (refProduct x g w) slices_S1x1024x2120_S1x1024x512_0_0_1536) shapeCasts_S1x1024x512_S1024x512

/-- The index keys, the index weights and padding. -/
def refTail : FVec Ideal S1024x128 .f32 :=
  concatenate S1024x128 1 [⟨S1024x64, shapeCast _ (extractStridedSlice S1x1024x64 ![0, 0, 2048] (refProduct x g w) slices_S1x1024x2120_S1x1024x64_0_0_2048) shapeCasts_S1x1024x64_S1024x64⟩, ⟨S1024x8, shapeCast _ (extractStridedSlice S1x1024x8 ![0, 0, 2112] (refProduct x g w) slices_S1x1024x2120_S1x1024x8_0_0_2112) shapeCasts_S1x1024x8_S1024x8⟩, ⟨S1024x56, broadcastInDim S1024x56 ![] bcast_S_S1024x56 (constant S_ .f32 0x00000000#32)⟩] concatenates_S1024x64_S1024x8_S1024x56_S1024x128_d1

theorem refProduct_apply (a : Fin 1024) (e : Fin 2120) : refProduct x g w (ix3 0 a e) = place x g w ⟨16384 + a.val, by omega⟩ e := by
  pointwise [refProduct, refRows]
  rfl

theorem refQuery_apply (a e : Fin 1024) : refQuery x g w q (ix2 a e) = query x g w q ⟨16384 + a.val, by omega⟩ e := by
  pointwise [refQuery, refQueryHeads]
  simp only [refProduct_apply]
  simp only [Nat.mul_comm (e.val / 64) 64]
  rfl

theorem refKey_apply (a : Fin 1024) (e : Fin 256) : refKey x g w q (ix2 a e) = key x g w q ⟨16384 + a.val, by omega⟩ e := by
  pointwise [refKey, refKeyHeads]
  simp only [refProduct_apply]
  simp only [Nat.mul_comm (e.val / 64) 64]
  rfl

theorem refValue_apply (a : Fin 1024) (e : Fin 256) :
    refValue x g w (ix2 a e) = place x g w ⟨16384 + a.val, by omega⟩ ⟨1280 + e.val, by omega⟩ := by
  pointwise [refValue]
  rw [refProduct_apply]

theorem refIndex_apply (a : Fin 1024) (e : Fin 512) :
    refIndex x g w (ix2 a e) = place x g w ⟨16384 + a.val, by omega⟩ ⟨1536 + e.val, by omega⟩ := by
  pointwise [refIndex]
  rw [refProduct_apply]

theorem refTail_apply (a : Fin 1024) (e : Fin 128) :
    refTail x g w (ix2 a e) = if h : 2048 + e.val < 2120 then place x g w ⟨16384 + a.val, by omega⟩ ⟨2048 + e.val, h⟩ else 0 := by
  pointwise [refTail]
  simp only [refProduct_apply]
  by_cases h1 : e.val < 64
  · rw [dif_pos h1, dif_pos (by omega)]
  · rw [dif_neg h1]
    by_cases h2 : e.val - 64 < 8
    · rw [dif_pos h2, dif_pos (by omega)]
      exact congrArg (place x g w _) (Fin.ext (by show 2112 + (e.val - 64) = 2048 + e.val; omega))
    · rw [dif_neg h2, dif_neg (by omega)]

end Cert.Proof.ProjC.Sample

end
-- ==== Proof.ProjC.SampleClaim.lean ====
/- The odd layer's sample projection: on arguments that agree, with the gain and the query and key columns of the projection
   real numbers, the kernel's five result arrays and the reference's are equal. -/
module

public import proofs.«01_k».proof.Defs
public import proofs.«01_k».proof.Proof.Gen.Kernel9Ideal.Value
public import proofs.«01_k».proof.Proof.ProjC.Sample
public import proofs.«01_k».proof.Proof.ProjC.SampleReference
public import proofs.«01_k».proof.Proof.ProjC.Pre

@[expose] public section

set_option maxRecDepth 16384

noncomputable section

namespace Cert.Proof.ProjC.Sample

open Idealize.ShloMosaic Idealize.ShloMosaic.TcCoe Idealize.SL.Sem Cert.Reference9Ideal Cert.Reference9Ideal.Gen

theorem algebraic : Cert.algebraic_Kernel9Ideal_Reference9Ideal_pre_finite9 := by
  intro m ρ m' ρ' hpre hagree
  refine ⟨queries m, keys m, values m, indexQueries m, tail m,
    (θ_run Cert.Kernel9Ideal.defs _ _).mono (fun r h c => ?_) (Cert.Kernel9Ideal.Value.run_blocks (F := Ideal) m ρ),
    (θ_run Cert.Reference9Ideal.defs _ _).mono (fun r h c => ?_) (Cert.Reference9Ideal.Value.run (F := Ideal) m' ρ')⟩
  · obtain ⟨h7, h8, h9, h10, h11, ha⟩ := h c
    have hm : Real m c := Pre.finite9_of _ _ _ _ _ (hpre c)
    exact ⟨h7.trans (query_final m c hm), h8.trans (key_final m c hm), h9.trans (value_final m c), h10.trans (index_final m c),
      h11.trans (tail_final m c), ha⟩
  · obtain ⟨h0, h1, h2, h3, h4, ha⟩ := h c
    obtain ⟨e0, e1, e2, e3, e4⟩ := hagree c
    refine ⟨h0.trans ?_, h1.trans ?_, h2.trans ?_, h3.trans ?_, h4.trans ?_, ha⟩
    all_goals
      clear h h0 h1 h2 h3 h4 ha hpre; funext j
    · obtain ⟨a, e, rfl⟩ : ∃ a e : Fin 1024, j = ix2 a e := ⟨j 0, j 1, eq_ix2 j⟩
      refine (refQuery_apply _ _ _ _ a e).trans ?_
      rw [e0, e1, e2, e3]; rfl
    · obtain ⟨a, e, rfl⟩ : ∃ (a : Fin 1024) (e : Fin 256), j = ix2 a e := ⟨j 0, j 1, eq_ix2 j⟩
      refine (refKey_apply _ _ _ _ a e).trans ?_
      rw [e0, e1, e2, e4]; rfl
    · obtain ⟨a, e, rfl⟩ : ∃ (a : Fin 1024) (e : Fin 256), j = ix2 a e := ⟨j 0, j 1, eq_ix2 j⟩
      refine (refValue_apply _ _ _ a e).trans ?_
      rw [e0, e1, e2]; rfl
    · obtain ⟨a, e, rfl⟩ : ∃ (a : Fin 1024) (e : Fin 512), j = ix2 a e := ⟨j 0, j 1, eq_ix2 j⟩
      refine (refIndex_apply _ _ _ a e).trans ?_
      rw [e0, e1, e2]; rfl
    · obtain ⟨a, e, rfl⟩ : ∃ (a : Fin 1024) (e : Fin 128), j = ix2 a e := ⟨j 0, j 1, eq_ix2 j⟩
      refine (refTail_apply _ _ _ a e).trans ?_
      rw [e0, e1, e2]; rfl

end Cert.Proof.ProjC.Sample

end
-- ==== Proof.OutOdd.Kernel.lean ====
/- The residual stream after an odd layer's output projection: each row plus the attention's row times the matrix, the
   prompt's rows written by the first call into a new array, the sample's by the second into a copy of it. -/
module

public import proofs.«01_k».proof.Proof.Gen.Kernel7Ideal.Frame
public import Idealize.ShloMosaic.Lib.Pointwise
public import Idealize.ShloMosaic.Lib.Pipeline.ValueKit

@[expose] public section

set_option maxRecDepth 16384

noncomputable section

namespace Cert.Proof.OutOdd

open Idealize.ShloMosaic Idealize.ShloMosaic.TcCoe Idealize.SL.Sem Cert.Kernel7Ideal Cert.Kernel7Ideal.Gen

/-- A number plus a row times a column of the matrix. -/
def added (x : EReal) (s w : Fin 1024 → EReal) : EReal := x + ∑ k : Fin 1024, s k * w k

section Block

variable (x0 x1 : Vec Ideal S512x1024 .f32) (x2 : Vec Ideal S1024x1024 .bf16)

theorem first_apply (r : Fin 512) (l : Fin 1024) :
    out0_3 x0 x1 x2 (ix2 r l) = added (x0 (ix2 r l)) (fun k => x1 (ix2 r k)) (fun k => x2 (ix2 k l)) := by
  frame_out
  pointwise [k0_pay1]
  rfl

theorem second_apply (c : Dev nD) (i : grid1.Coords) (a1 a2 : Memref sig .tc .vmem S512x1024 .f32) (h1 : a1.IsWhole)
    (h2 : a2.IsWhole) (a3 : Memref sig .tc .vmem S1024x1024 .bf16) (h3 : a3.IsWhole) (a5 : Memref sig .tc .vmem S512x1024 .f32)
    (h5 : a5.IsWhole) (r : Fin 512) (l : Fin 1024) :
    out1_A_3 c i a1 h1 a2 h2 a3 h3 a5 h5 x0 x1 x2 (ix2 r l)
      = added (x0 (ix2 r l)) (fun k => x1 (ix2 r k)) (fun k => x2 (ix2 k l)) := by
  frame_out
  pointwise [k1_pay1]
  rfl

end Block

/-- One number of the stream after the projection: row `r` of `s`, added to row `a` of the stream. -/
def stream {n : ℕ} (x : (⟨2, ![17408, 1024]⟩ : Shape).Idx → EReal) (s : (⟨2, ![n, 1024]⟩ : Shape).Idx → EReal)
    (w : (⟨2, ![1024, 1024]⟩ : Shape).Idx → EReal) (a : Fin 17408) (r : Fin n) (l : Fin 1024) : EReal :=
  added (x (ix2 a l)) (fun k => s (ix2 r k)) (fun k => w (ix2 k l))

variable (m : (ℓ : Loc nD τ sig) → Buf (Elt Ideal) ℓ) (ρ : Dev nD → PrngReg)

/-- The stream after the projection, from the launch's arguments: the prompt's rows, then the sample's. -/
def result (c : Dev nD) (i : (⟨2, ![17408, 1024]⟩ : Shape).Idx) : EReal :=
  if h : (i 0).val < 16384 then
    stream (m ((c : Thread nD τ).loc main_arg0)) (m ((c : Thread nD τ).loc main_arg1)) (m ((c : Thread nD τ).loc main_arg3))
      (i 0) ⟨(i 0).val, h⟩ (i 1)
  else
    stream (m ((c : Thread nD τ).loc main_arg0)) (m ((c : Thread nD τ).loc main_arg2)) (m ((c : Thread nD τ).loc main_arg3))
      (i 0) (⟨(i 0).val - 16384, by have := (i 0).isLt; simp at this; omega⟩ : Fin 1024) (i 1)

theorem result_prompt (c : Dev nD) (b : ℕ) (h : b < 16384) (l : Fin 1024) :
    result m c (ix2 ⟨b, by omega⟩ l) = stream (m ((c : Thread nD τ).loc main_arg0)) (m ((c : Thread nD τ).loc main_arg1))
      (m ((c : Thread nD τ).loc main_arg3)) ⟨b, by omega⟩ (⟨b, h⟩ : Fin 16384) l := by
  unfold result
  exact dif_pos h

theorem result_sample (c : Dev nD) (b d : ℕ) (hb : b = 16384 + d) (h : d < 1024) (l : Fin 1024) :
    result m c (ix2 ⟨b, by omega⟩ l) = stream (m ((c : Thread nD τ).loc main_arg0)) (m ((c : Thread nD τ).loc main_arg2))
      (m ((c : Thread nD τ).loc main_arg3)) ⟨b, by omega⟩ (⟨d, h⟩ : Fin 1024) l := by
  subst hb
  have hd : (⟨16384 + d - 16384, by omega⟩ : Fin 1024) = ⟨d, h⟩ := Fin.ext (Nat.add_sub_cancel_left _ _)
  rw [← hd]
  unfold result
  exact dif_neg (by show ¬ 16384 + d < 16384; omega)

theorem idx0 : ∀ t : Fin grid0.N, t.val < 32 ∧ win0_0.index t = ![t.val, 0] ∧ win0_1.index t = ![t.val, 0]
    ∧ win0_2.index t = ![0, 0] ∧ win0_3.index t = ![t.val, 0] := by decide +kernel

theorem idx1 : ∀ t : Fin grid1.N, t.val < 2 ∧ win1_0.index t = ![32 + t.val, 0] ∧ win1_1.index t = ![t.val, 0]
    ∧ win1_2.index t = ![0, 0] ∧ win1_3.index t = ![32 + t.val, 0] := by decide +kernel

/-- The matrix both calls read is the last argument. -/
theorem matrix_first (c : Dev nD) : V1 m ρ c main_v0 = m ((c : Thread nD τ).loc main_arg3) := by
  show StableHlo.after hostOps0 (W0 m ρ c) main_v0 = _
  after_results_simp <;> rfl

theorem matrix_second (c : Dev nD) : V3 m ρ c main_v0 = m ((c : Thread nD τ).loc main_arg3) :=
  (W3_of m ρ c main_v0 (by decide)).trans ((W2_of m ρ c main_v0 (by decide)).trans (matrix_first m ρ c))

/-- The second call starts from the first call's array. -/
theorem carried (c : Dev nD) : V3 m ρ c main_v2 = (dat0 (V1 m ρ) c).arrAt 3 cfg0.N := by
  refine Eq.trans ?_ (W2_arr m ρ c 3)
  show StableHlo.after hostOps1 (W2 m ρ c) main_v2 = _
  after_results_simp <;> rfl

theorem first (c : Dev nD) (a : Fin 17408) (l : Fin 1024) (ha : a.val < 16384) :
    (dat0 (V1 m ρ) c).arrAt 3 cfg0.N (ix2 a l) = result m c (ix2 a l) := by
  have h := (dat0 (V1 m ρ) c).arrAt_eq_of_coversWhere 3 (result m c) (fun β => β (0 : Fin _) < 32)
    (P := fun i => (i 0 : ℕ) / 512 < 32) (by decide +kernel) (fun t hf y => ?_) (fun j => Iff.rfl)
  · rw [h]
    exact if_pos (by show a.val / 512 < 32; omega)
  blk_simp
  rw [after0_3]
  obtain ⟨r, l, rfl⟩ : ∃ (r : Fin 512) (l : Fin 1024), y = ix2 r l := ⟨y 0, y 1, eq_ix2 y⟩
  obtain ⟨ht, i0, i1, i2, i3⟩ := idx0 t
  have h0 : iblk0 (V1 m ρ) c 0 t (ix2 r l) = m ((c : Thread nD τ).loc main_arg0) (ix2 ⟨t.val * 512 + r.val, by omega⟩ l) := by
    rw [← W1_args m ρ c main_arg0 (by decide)]
    blk_ext [iblk0, i0]
  have h1 : ∀ k : Fin 1024, iblk0 (V1 m ρ) c 1 t (ix2 r k) = m ((c : Thread nD τ).loc main_arg1) (ix2 ⟨t.val * 512 + r.val, by omega⟩ k) := fun k => by
    rw [← W1_args m ρ c main_arg1 (by decide)]
    blk_ext [iblk0, i1]
  have h2 : ∀ k : Fin 1024, iblk0 (V1 m ρ) c 2 t (ix2 k l) = m ((c : Thread nD τ).loc main_arg3) (ix2 k l) := fun k => by
    rw [← matrix_first m ρ c]
    blk_ext [iblk0, i2]
  have he : (win0_3.blk t).view.emb (ix2 r l) = ix2 ⟨t.val * 512 + r.val, by omega⟩ l := by
    blk_ext [iblk0, i3]
  rw [he]
  refine (first_apply _ _ _ r l).trans ?_
  simp only [h0, h1, h2]
  exact (result_prompt m c (t.val * 512 + r.val) (by omega) l).symm

theorem final (c : Dev nD) : (dat1 (V3 m ρ) c).arrAt 3 cfg1.N = result m c := by
  have h := (dat1 (V3 m ρ) c).arrAt_eq_of_coversWhere 3 (result m c) (fun β => 32 ≤ β (0 : Fin _))
    (P := fun i => 32 ≤ (i 0 : ℕ) / 512) (by decide +kernel) (fun t hf y => ?_) (fun j => Iff.rfl)
  · refine h.trans (funext fun i => ?_)
    obtain ⟨a, l, rfl⟩ : ∃ (a : Fin 17408) (l : Fin 1024), i = ix2 a l := ⟨i 0, i 1, eq_ix2 i⟩
    by_cases ha : a.val < 16384
    · refine (if_neg (by show ¬ 32 ≤ a.val / 512; omega)).trans ?_
      refine Eq.trans ?_ (first m ρ c a l ha)
      exact congrFun (carried m ρ c) (ix2 a l)
    · exact if_pos (by show 32 ≤ a.val / 512; omega)
  blk_simp
  rw [after1_3]
  obtain ⟨r, l, rfl⟩ : ∃ (r : Fin 512) (l : Fin 1024), y = ix2 r l := ⟨y 0, y 1, eq_ix2 y⟩
  obtain ⟨ht, i0, i1, i2, i3⟩ := idx1 t
  have h0 : iblk1 (V3 m ρ) c 0 t (ix2 r l) = m ((c : Thread nD τ).loc main_arg0) (ix2 ⟨(32 + t.val) * 512 + r.val, by omega⟩ l) := by
    rw [← W3_args m ρ c main_arg0 (by decide)]
    blk_ext [iblk1, i0]
  have h1 : ∀ k : Fin 1024, iblk1 (V3 m ρ) c 1 t (ix2 r k) = m ((c : Thread nD τ).loc main_arg2) (ix2 ⟨t.val * 512 + r.val, by omega⟩ k) := fun k => by
    rw [← W3_args m ρ c main_arg2 (by decide)]
    blk_ext [iblk1, i1]
  have h2 : ∀ k : Fin 1024, iblk1 (V3 m ρ) c 2 t (ix2 k l) = m ((c : Thread nD τ).loc main_arg3) (ix2 k l) := fun k => by
    rw [← matrix_second m ρ c]
    blk_ext [iblk1, i2]
  have he : (win1_3.blk t).view.emb (ix2 r l) = ix2 ⟨(32 + t.val) * 512 + r.val, by omega⟩ l := by
    blk_ext [iblk1, i3]
  rw [he]
  refine (second_apply _ _ _ _ _ _ _ _ _ _ _ _ _ r l).trans ?_
  simp only [h0, h1, h2]
  exact (result_sample m c ((32 + t.val) * 512 + r.val) (t.val * 512 + r.val) (by omega) (by omega) l).symm

end Cert.Proof.OutOdd

end
-- ==== Proof.OutOdd.Run.lean ====
/- The run of an odd layer's two output projections, one after the other: it ends with the result's buffer at the contents
   the last boundary names, and with every argument as launched. -/
module

public import proofs.«01_k».proof.Proof.Gen.Kernel7Ideal.Frame

@[expose] public section

set_option maxRecDepth 16384

noncomputable section

namespace Cert.Proof.OutOdd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal Cert.Kernel7Ideal.Gen

variable {F : FTy → Type} [FloatOps F]
variable (m : (ℓ : Loc nD τ sig) → Buf (Elt F) ℓ) (ρ : Dev nD → PrngReg)

/-- What the launch hands the two pipelines: their cells and tokens. -/
abbrev handed : UR sig nD τ := initOf (Pipeline.cells cfgs cellOf_inj) (Pipeline.launchToks cfgs cellOf_inj)

set_option backward.isDefEq.respectTransparency.types false in
theorem run : θ_run defs (onTc (τ := τ) (main (F := F))) ⟨m, fun _ => 0, ρ⟩ fun r =>
    ∀ c : Dev nD, ∀ b ∈ Pipeline.ucRefs τ sig, r.2.mem (c, b) = W4 m ρ c b := by
  refine Pipeline.θ_run_regions_kit_sems (pcfgs (F := F)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := handed) (hu₀ := ?own)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩) (hinit := Pipeline.initEach L lv fun c => ?start)
    (QY := fun c s => ∀ b ∈ Pipeline.ucRefs τ sig, s.mem (c, b) = W4 m ρ c b) (hfin := fun c s => ?finish) (hQ := fun s h _ => h)
  case own =>
    have own_ : (ownU handed : sProp (MT nD τ sig Unit (Elt F) ℕ (UR sig nD τ) ℕ)) ⊢ BI.own (emb₁ handed) := .rfl
    have none_ : (BI.emp : sProp (MT nD τ sig Unit (Elt F) ℕ (UR sig nD τ) ℕ)) ⊢ bigSep Finset.univ (fun _ : Dev nD => BI.emp) := by
      rw [BI.bigSep_emp_const]
    iintro H
    imodintro
    isplitl [H]
    · iapply own_
      iexact H
    · iapply none_
      iempintro
  case start =>
    have e := Pipeline.unscopedBufs_held (Ix := Unit) (Name := ℕ) (U := UR sig nD τ) (Lvl := ℕ) c (W0 m ρ c)
    rw [show unscopedBufs c (fun b => m ((c : Thread nD τ).loc b)) = _ from e]
    iintro ⟨⟨Hb, -, Ho, -, Hr, -⟩, -⟩
    imodintro
    isplitl [Hb]
    · iexact Hb
    isplitl [Hr]
    · iexists _; iexact Hr
    · iexists ∅; iexact Ho
  case finish =>
    iintro ⟨⟨Hb, -⟩, Hs⟩
    unfold StableHlo.held
    imodintro
    iapply (pointsTo_read_all (Pipeline.ucRefs τ sig) (fun b => (c, b)) (W4 m ρ c) s)
    isplitl [Hb]
    · iexact Hb
    · iexact Hs

/-- The result's buffer and the arguments, read from the last boundary. -/
theorem run_result : θ_run defs (onTc (τ := τ) (main (F := F))) ⟨m, fun _ => 0, ρ⟩ fun r => ∀ c : Dev nD,
    r.2.mem ((c : Thread nD τ).loc main_v2) = (dat1 (V3 m ρ) c).arrAt 3 cfg1.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ?_) (run m ρ)
  have at_ (b : Ref sig .tc) (hb : ¬ (Proc.devRef .tc b : DevRef τ sig).isScoped) := h c _ (mem_uc b hb)
  exact ⟨(at_ main_v2 (by decide)).trans (W4_arr m ρ c 3), (at_ main_arg0 (by decide)).trans (W4_main_arg0 m ρ c),
    (at_ main_arg1 (by decide)).trans (W4_main_arg1 m ρ c), (at_ main_arg2 (by decide)).trans (W4_main_arg2 m ρ c),
    (at_ main_arg3 (by decide)).trans (W4_main_arg3 m ρ c)⟩

end Cert.Proof.OutOdd

end
-- ==== Proof.OutOdd.Claim.lean ====
/- An odd layer's output projection: on arguments that agree, the stream the two calls leave and the reference's are equal. -/
module

public import proofs.«01_k».proof.Defs
public import proofs.«01_k».proof.Proof.Gen.Reference7Ideal.Run
public import proofs.«01_k».proof.Proof.OutOdd.Kernel
public import proofs.«01_k».proof.Proof.OutOdd.Run

@[expose] public section

set_option maxRecDepth 16384

noncomputable section

namespace Cert.Proof.OutOdd

open Idealize.ShloMosaic Idealize.ShloMosaic.TcCoe Idealize.SL.Sem Cert.Reference7Ideal Cert.Reference7Ideal.Gen

variable (x : FVec Ideal S17408x1024 .f32) (p : FVec Ideal S16384x1024 .f32) (q w : FVec Ideal S1024x1024 .f32)

/-- The stream plus the rows through the matrix: the prompt's, then the sample's. -/
def refStream : FVec Ideal S17408x1024 .f32 :=
  addf x (concatenate S17408x1024 0 [⟨S16384x1024, Host.dotGeneral dot_S16384x1024_S1024x1024_S16384x1024_1_0_0_1_n_n none p w⟩, ⟨S1024x1024, Host.dotGeneral dot_S1024x1024_S1024x1024_S1024x1024_1_0_0_1_n_n none q w⟩] concatenates_S16384x1024_S1024x1024_S17408x1024_d0)

theorem refStream_apply (a : Fin 17408) (l : Fin 1024) : refStream x p q w (ix2 a l)
    = if h : a.val < 16384 then stream x p w a (⟨a.val, h⟩ : Fin 16384) l
      else stream x q w a (⟨a.val - 16384, by omega⟩ : Fin 1024) l := by
  pointwise [refStream]
  by_cases h : a.val < 16384
  · rw [dif_pos h, dif_pos h]; rfl
  · rw [dif_neg h, dif_neg h]; rfl

theorem algebraic : Cert.algebraic_Kernel7Ideal_Reference7Ideal := by
  intro m ρ m' ρ' _ hagree
  refine ⟨result m,
    (θ_run Cert.Kernel7Ideal.defs _ _).mono (fun r h c => ?_) (run_result (F := Ideal) m ρ),
    (θ_run Cert.Reference7Ideal.defs _ _).mono (fun r h c => ?_) (Cert.Reference7Ideal.Value.run (F := Ideal) m' ρ')⟩
  · obtain ⟨h2, ha⟩ := h c
    exact ⟨h2.trans (final m ρ c), ha⟩
  · obtain ⟨h3, ha⟩ := h c
    obtain ⟨e0, e1, e2, e3⟩ := hagree c
    refine ⟨h3.trans ?_, ha⟩
    clear h h3 ha
    funext j
    obtain ⟨a, l, rfl⟩ : ∃ (a : Fin 17408) (l : Fin 1024), j = ix2 a l := ⟨j 0, j 1, eq_ix2 j⟩
    refine (refStream_apply _ _ _ _ a l).trans ?_
    rw [e0, e1, e2, e3]
    rfl

end Cert.Proof.OutOdd

end
-- ==== Proof.Pool.Math.lean ====
/- The pooling of the prompt, plainly: every group of 128 columns is averaged over a trailing window of two, four, eight or
   sixteen places, the place itself is taken off, and the rest goes through the group's matrix and the column's scale. -/
module

public import Idealize.ShloMosaic.Lib.Pipeline.ValueKit

@[expose] public section

noncomputable section

namespace Cert.Proof.Pool

open Idealize.ShloMosaic Idealize.ShloMosaic.TcCoe Idealize.SL.Sem

/-- How many places a window of `w` holds that ends at place `p` of a sequence: there are none before the first. -/
def count (w : BitVec 32) (p : ℕ) : EReal := Scalar.sitofp (F := Ideal) .f32 (IntOp.minsi (BitVec.ofNat 32 p + 1#32) w)

/-- The row `k` places before place `p` of sequence `b`, or nothing where there is no such place. -/
def back (u : (⟨2, ![16384, 512]⟩ : Shape).Idx → EReal) (b : Fin 4) (p : Fin 4096) (k : ℕ) (e : Fin 512) : EReal :=
  if k ≤ p.val then u (ix2 ⟨4096 * b.val + (p.val - k), by omega⟩ e) else 0

/-- A column of group `g`. -/
def col (g : Fin 4) (d : Fin 128) : Fin 512 := ⟨128 * g.val + d.val, by omega⟩

/-- The mean over the last `w` places less the place itself. -/
def spread (u : (⟨2, ![16384, 512]⟩ : Shape).Idx → EReal) (w : ℕ) (b : Fin 4) (p : Fin 4096) (e : Fin 512) : EReal :=
  Ideal.div (∑ k ∈ Finset.range w, back u b p k e) (count (BitVec.ofNat 32 w) p.val) - back u b p 0 e

/-- Column `e` of group `g` of the pooled row at place `p` of sequence `b`. -/
def cell (u : (⟨2, ![16384, 512]⟩ : Shape).Idx → EReal) (m : (⟨3, ![4, 128, 128]⟩ : Shape).Idx → EReal)
    (s : (⟨1, ![512]⟩ : Shape).Idx → EReal) (w : ℕ) (g : Fin 4) (b : Fin 4) (p : Fin 4096) (e : Fin 128) : EReal :=
  (∑ d : Fin 128, spread u w b p (col g d) * m (ix3 g d e)) * s (ix1 (col g e))

/-- The pooled rows. The windows are two, four, eight and sixteen places. -/
def pooled (u : (⟨2, ![16384, 512]⟩ : Shape).Idx → EReal) (m : (⟨3, ![4, 128, 128]⟩ : Shape).Idx → EReal)
    (s : (⟨1, ![512]⟩ : Shape).Idx → EReal) (i : (⟨2, ![16384, 512]⟩ : Shape).Idx) : EReal :=
  have h0 : (i 0).val < 16384 := (i 0).isLt
  have h1 : (i 1).val < 512 := (i 1).isLt
  cell u m s (2 ^ ((i 1).val / 128 + 1)) ⟨(i 1).val / 128, by omega⟩ ⟨(i 0).val / 4096, by omega⟩
    ⟨(i 0).val % 4096, by omega⟩ ⟨(i 1).val % 128, by omega⟩

theorem pooled_at (u : (⟨2, ![16384, 512]⟩ : Shape).Idx → EReal) (m : (⟨3, ![4, 128, 128]⟩ : Shape).Idx → EReal)
    (s : (⟨1, ![512]⟩ : Shape).Idx → EReal) (w : ℕ) (g : Fin 4) (hw : w = 2 ^ (g.val + 1)) (b : Fin 4) (p : Fin 4096) (e : Fin 128)
    (a : Fin 16384) (c : Fin 512)
    (ha : a.val = 4096 * b.val + p.val) (hc : c.val = 128 * g.val + e.val) :
    pooled u m s (ix2 a c) = cell u m s w g b p e := by
  show cell u m s (2 ^ (c.val / 128 + 1)) ⟨c.val / 128, _⟩ ⟨a.val / 4096, _⟩ ⟨a.val % 4096, _⟩ ⟨c.val % 128, _⟩ = _
  have h1 : c.val / 128 = g.val := by omega
  have h2 : a.val / 4096 = b.val := by omega
  have h3 : a.val % 4096 = p.val := by omega
  have h4 : c.val % 128 = e.val := by omega
  simp only [hw, h1, h2, h3, h4]

end Cert.Proof.Pool

end
-- ==== Proof.Pool.Block.lean ====
/- What one grid point of the prompt's pooling leaves in its output block of 512 rows: for each of the four groups of 128
   columns, the mean over a trailing window less the row itself, times the group's matrix, times the column's scale. -/
module

public import proofs.«01_k».proof.Proof.Gen.Kernel10Ideal.Frame
public import proofs.«01_k».proof.Proof.Pool.Math

@[expose] public section

set_option maxRecDepth 16384

noncomputable section

namespace Cert.Proof.Pool

open Idealize.ShloMosaic Idealize.ShloMosaic.TcCoe Idealize.SL.Sem Cert.Kernel10Ideal Cert.Kernel10Ideal.Gen

/-- A column of 528 rows, by row number. -/
def column (x : FVec Ideal S528x128 .f32) (e : Fin 128) (a : ℕ) : EReal := if h : a < 528 then x (ix2 ⟨a, h⟩ e) else 0

theorem roll_apply (x : FVec Ideal S528x128 .f32) (n : ℕ) (hn : n < 528) (a : Fin 528) (e : Fin 128) (h : n ≤ a.val) :
    dynamicRotate 0 (BitVec.ofNat 32 n) none x rotates_S528x128_d0 (ix2 a e) = x (ix2 ⟨a.val - n, by omega⟩ e) := by
  pointwise
  congr 2
  refine Fin.ext ?_
  simp
  omega

/-- `s` sums, at every row from the `w`th on, the last `w` rows of `x`. -/
def Sums (x s : FVec Ideal S528x128 .f32) (w : ℕ) : Prop :=
  ∀ (a : Fin 528) (e : Fin 128), w ≤ a.val + 1 → s (ix2 a e) = ∑ k ∈ Finset.range w, column x e (a.val - k)

theorem Sums.self (x : FVec Ideal S528x128 .f32) : Sums x x 1 := by
  intro a e _
  simp [column]

/-- Adding the sums of `w` rows earlier doubles the window. -/
theorem Sums.double {x s : FVec Ideal S528x128 .f32} {w : ℕ} (hw : w < 528) (h : Sums x s w) :
    Sums x (addf s (dynamicRotate 0 (BitVec.ofNat 32 w) none s rotates_S528x128_d0)) (w + w) := by
  intro a e ha
  show s (ix2 a e) + _ = _
  rw [roll_apply s w hw a e (by omega), h a e (by omega), h ⟨a.val - w, by omega⟩ e (by show w ≤ a.val - w + 1; omega),
    Finset.sum_range_add]
  simp only [Nat.sub_sub]

/-- A running sum of `x`, doubled. -/
def doubled (s : FVec Ideal S528x128 .f32) (w : BitVec 32) : FVec Ideal S528x128 .f32 :=
  addf s (dynamicRotate 0 w none s rotates_S528x128_d0)

/-- What a group does with its 128 columns `x` and their sums `s` over the window: the mean less the row, times the group's
    matrix, times the scale. -/
def group (x s : FVec Ideal S528x128 .f32) (n : IVec S512x128 32) (w : BitVec 32) (u : Vec Ideal S1x128x128 .bf16)
    (v : Vec Ideal S1x128 .f32) : FVec Ideal S512x128 .f32 :=
  mulf
    (matmul dot_S512x128_S128x128_S512x128_1_0_0_1_n_n none
      (truncf .bf16
        (subf
          (divf (extractStridedSlice S512x128 ![16, 0] s slices_S528x128_o16_0_S512x128)
            (sitofp .f32 (minsi n (broadcast S512x128 w))))
          (extractStridedSlice S512x128 ![16, 0] x slices_S528x128_o16_0_S512x128))
        bitsLt_bf16_f32)
      (φ₂ := .bf16) (shapeCast S128x128 u shapeCasts_S1x128x128_S128x128) (constant S512x128 .f32 0x00000000#32))
    (broadcastTo S512x128 (shapeCast S1x128 v shapeCasts_S1x128_S1x128) broadcasts_S1x128_S512x128)

theorem group_apply {x s : FVec Ideal S528x128 .f32} {q : ℕ} (h : Sums x s q) (hq : q ≤ 17) (n : IVec S512x128 32)
    (w : BitVec 32) (u : Vec Ideal S1x128x128 .bf16) (v : Vec Ideal S1x128 .f32) (r : Fin 512) (e : Fin 128) :
    group x s n w u v (ix2 r e)
      = (∑ d : Fin 128, (Ideal.div (∑ k ∈ Finset.range q, column x d (16 + r.val - k))
          (Scalar.sitofp (F := Ideal) .f32 (IntOp.minsi (n (ix2 r d)) w)) - column x d (16 + r.val)) * u (ix3 0 d e))
        * v (ix2 0 e) := by
  pointwise [group]
  refine congrArg (· * v (ix2 0 e)) (Finset.sum_congr rfl fun d _ => ?_)
  rw [h ⟨16 + r.val, by omega⟩ d (by show q ≤ 16 + r.val + 1; omega)]
  rw [show column x d (16 + r.val) = x (ix2 ⟨16 + r.val, by omega⟩ d) from dif_pos (by omega)]
  rfl

variable (i : grid0.Coords) (x0 : Vec Ideal S512x512 .f32) (x1 : Vec Ideal S16x512 .f32)

theorem place_apply (r : Fin 512) (d : Fin 128) : k0_pay3 i (ix2 r d) = BitVec.ofNat 32 ((i 1).val * 512 + r.val) + 1#32 := by
  pointwise [k0_pay3]
  show BitVec.ofNat 32 r.val + (BitVec.ofNat 32 (i 1).val * BitVec.ofNat 32 512 + 1#32) = _
  rw [← BitVec.ofNat_mul, ← BitVec.add_assoc, ← BitVec.ofNat_add, Nat.add_comm]

theorem ext_old (a : Fin 528) (e : Fin 512) (h : a.val < 16) (hi : 0 < (i 1).val) :
    k0_pay2 i x1 x0 (ix2 a e) = x1 (ix2 ⟨a.val, h⟩ e) := by
  have hl : (i 1).val < 8 := (i 1).isLt
  pointwise [k0_pay2]
  rw [dif_pos h]
  unfold Scalar.select
  exact if_pos ((WordCmp.cmpi_sgt_ofNat_eq_one_iff (by norm_num; omega) (by norm_num)).mpr hi)

theorem ext_none (a : Fin 528) (e : Fin 512) (h : a.val < 16) (hi : (i 1).val = 0) :
    k0_pay2 i x1 x0 (ix2 a e) = 0 := by
  pointwise [k0_pay2]
  rw [dif_pos h, hi]
  rfl

theorem ext_new (a : Fin 528) (e : Fin 512) (h : ¬ a.val < 16) :
    k0_pay2 i x1 x0 (ix2 a e) = x0 (ix2 ⟨a.val - 16, by omega⟩ e) := by
  pointwise [k0_pay2]
  rw [dif_neg h]

/-- The four groups' 128 columns. -/
def cols0 (y : FVec Ideal S528x512 .f32) : FVec Ideal S528x128 .f32 :=
  extractStridedSlice S528x128 ![0, 0] y slices_S528x512_o0_0_S528x128

def cols1 (y : FVec Ideal S528x512 .f32) : FVec Ideal S528x128 .f32 :=
  extractStridedSlice S528x128 ![0, 128] y slices_S528x512_o0_128_S528x128

def cols2 (y : FVec Ideal S528x512 .f32) : FVec Ideal S528x128 .f32 :=
  extractStridedSlice S528x128 ![0, 256] y slices_S528x512_o0_256_S528x128

def cols3 (y : FVec Ideal S528x512 .f32) : FVec Ideal S528x128 .f32 :=
  extractStridedSlice S528x128 ![0, 384] y slices_S528x512_o0_384_S528x128

/-- The sums over two, four, eight and sixteen rows. -/
def sum2 (x : FVec Ideal S528x128 .f32) : FVec Ideal S528x128 .f32 := doubled x 1#32

def sum4 (x : FVec Ideal S528x128 .f32) : FVec Ideal S528x128 .f32 := doubled (sum2 x) 2#32

def sum8 (x : FVec Ideal S528x128 .f32) : FVec Ideal S528x128 .f32 := doubled (sum4 x) 4#32

def sum16 (x : FVec Ideal S528x128 .f32) : FVec Ideal S528x128 .f32 := doubled (sum8 x) 8#32

theorem sums2 (x : FVec Ideal S528x128 .f32) : Sums x (sum2 x) 2 := (Sums.self x).double (by norm_num)

theorem sums4 (x : FVec Ideal S528x128 .f32) : Sums x (sum4 x) 4 := (sums2 x).double (by norm_num)

theorem sums8 (x : FVec Ideal S528x128 .f32) : Sums x (sum8 x) 8 := (sums4 x).double (by norm_num)

theorem sums16 (x : FVec Ideal S528x128 .f32) : Sums x (sum16 x) 16 := (sums8 x).double (by norm_num)

/-- The block's output is the four groups side by side. -/
theorem out_groups (x2 : Vec Ideal S4x128x128 .bf16) (x3 : Vec Ideal S1x512 .f32) :
    out0_4 (F := Ideal) i x0 x1 x2 x3
      = concatenate S512x512 1
          [⟨S512x128, group (cols0 (k0_pay2 i x1 x0)) (sum2 (cols0 (k0_pay2 i x1 x0))) (k0_pay3 i) 2#32
              (View.ld x2 r0_2) (View.ld x3 r0_3)⟩,
           ⟨S512x128, group (cols1 (k0_pay2 i x1 x0)) (sum4 (cols1 (k0_pay2 i x1 x0))) (k0_pay3 i) 4#32
              (View.ld x2 r0_4) (View.ld x3 r0_5)⟩,
           ⟨S512x128, group (cols2 (k0_pay2 i x1 x0)) (sum8 (cols2 (k0_pay2 i x1 x0))) (k0_pay3 i) 8#32
              (View.ld x2 r0_6) (View.ld x3 r0_7)⟩,
           ⟨S512x128, group (cols3 (k0_pay2 i x1 x0)) (sum16 (cols3 (k0_pay2 i x1 x0))) (k0_pay3 i) 16#32
              (View.ld x2 r0_8) (View.ld x3 r0_9)⟩]
          concatenates_S512x128_S512x128_S512x128_S512x128_S512x512_d1 := by
  unfold_out out0_4
  rw [View.ld_unit_lit inb_S16x512_S16x512_0_0 x1 (by decide), View.ld_unit_lit inb_S512x512_S512x512_0_0 x0 (by decide)]
  refine (View.canon_cons_unit_lit inb_S512x512_S512x512_0_0 _ [] (by decide)).trans ?_
  rfl

theorem cols0_apply (y : FVec Ideal S528x512 .f32) (a : Fin 528) (d : Fin 128) : cols0 y (ix2 a d) = y (ix2 a (col 0 d)) := by
  pointwise [cols0]
  exact congrArg (fun c => y (ix2 a c)) (Fin.ext (by show d.val = 128 * 0 + d.val; omega))

theorem cols1_apply (y : FVec Ideal S528x512 .f32) (a : Fin 528) (d : Fin 128) : cols1 y (ix2 a d) = y (ix2 a (col 1 d)) := by
  pointwise [cols1]
  rfl

theorem cols2_apply (y : FVec Ideal S528x512 .f32) (a : Fin 528) (d : Fin 128) : cols2 y (ix2 a d) = y (ix2 a (col 2 d)) := by
  pointwise [cols2]
  rfl

theorem cols3_apply (y : FVec Ideal S528x512 .f32) (a : Fin 528) (d : Fin 128) : cols3 y (ix2 a d) = y (ix2 a (col 3 d)) := by
  pointwise [cols3]
  rfl

/-- What the point's blocks hold: its 512 rows of the array, and, but for a sequence's first point, the 16 rows before. -/
structure Holds (u : (⟨2, ![16384, 512]⟩ : Shape).Idx → EReal) (b : Fin 4) : Prop where
  new : ∀ (r : Fin 512) (e : Fin 512) (a : Fin 16384), a.val = 4096 * b.val + (i 1).val * 512 + r.val → x0 (ix2 r e) = u (ix2 a e)
  old : 0 < (i 1).val → ∀ (r : Fin 16) (e : Fin 512) (a : Fin 16384), a.val + 16 = 4096 * b.val + (i 1).val * 512 + r.val →
    x1 (ix2 r e) = u (ix2 a e)

variable {i x0 x1} {u : (⟨2, ![16384, 512]⟩ : Shape).Idx → EReal} {b : Fin 4}

/-- The rows before a row of the block, found in the block or in the sixteen rows before it. -/
theorem Holds.back (h : Holds i x0 x1 u b) (r : Fin 512) (p : Fin 4096) (hp : p.val = (i 1).val * 512 + r.val) (k : ℕ)
    (hk : k ≤ 16) (e : Fin 512) : k0_pay2 i x1 x0 (ix2 ⟨16 + r.val - k, by omega⟩ e) = back u b p k e := by
  have hl : (i 1).val < 8 := (i 1).isLt
  unfold Pool.back
  by_cases hr : k ≤ r.val
  · rw [if_pos (by omega), ext_new i x0 x1 _ _ (by show ¬ 16 + r.val - k < 16; omega)]
    exact h.new _ _ _ (by show 4096 * b.val + (p.val - k) = 4096 * b.val + (i 1).val * 512 + (16 + r.val - k - 16); omega)
  · by_cases hi : (i 1).val = 0
    · rw [if_neg (by rw [hp, hi]; omega), ext_none i x0 x1 _ _ (by show 16 + r.val - k < 16; omega) hi]
    · rw [if_pos (by omega), ext_old i x0 x1 _ _ (by show 16 + r.val - k < 16; omega) (by omega)]
      exact h.old (by omega) _ _ _ (by show 4096 * b.val + (p.val - k) + 16 = 4096 * b.val + (i 1).val * 512 + (16 + r.val - k); omega)

/-- A group's output at a row and a column. -/
theorem Holds.cell (h : Holds i x0 x1 u b) (r : Fin 512) (p : Fin 4096) (hp : p.val = (i 1).val * 512 + r.val) (g : Fin 4)
    (x s : FVec Ideal S528x128 .f32) (hx : ∀ a d, x (ix2 a d) = k0_pay2 i x1 x0 (ix2 a (col g d))) (w : ℕ) (hs : Sums x s w)
    (hw : w ≤ 16) (M : Vec Ideal S1x128x128 .bf16) (S : Vec Ideal S1x128 .f32)
    (m : (⟨3, ![4, 128, 128]⟩ : Shape).Idx → EReal) (t : (⟨1, ![512]⟩ : Shape).Idx → EReal)
    (hM : ∀ d e, M (ix3 0 d e) = m (ix3 g d e)) (hS : ∀ e, S (ix2 0 e) = t (ix1 (col g e))) (e : Fin 128) :
    group x s (k0_pay3 i) (BitVec.ofNat 32 w) M S (ix2 r e) = cell u m t w g b p e := by
  have hc : ∀ (k : ℕ) (d : Fin 128), k ≤ 16 → column x d (16 + r.val - k) = Pool.back u b p k (col g d) := fun k d hk =>
    (dif_pos (by omega)).trans ((hx _ _).trans (h.back r p hp k hk _))
  rw [group_apply hs (by omega)]
  unfold Pool.cell spread count
  rw [hS]
  refine congrArg (· * _) (Finset.sum_congr rfl fun d _ => ?_)
  rw [hM, place_apply, ← hp, ← hc 0 d (by omega)]
  refine congrArg (· * _) (congrArg (· - _) (congrArg (Ideal.div · _) (Finset.sum_congr rfl fun k hk => hc k d ?_)))
  have := Finset.mem_range.mp hk
  omega

/-- The matrices and the scales the four groups read. -/
theorem matrix0 (x2 : Vec Ideal S4x128x128 .bf16) (d e : Fin 128) : View.ld x2 r0_2 (ix3 0 d e) = x2 (ix3 0 d e) := by
  pointwise [r0_2]

theorem scale0 (x3 : Vec Ideal S1x512 .f32) (e : Fin 128) : View.ld x3 r0_3 (ix2 0 e) = x3 (ix2 0 (col 0 e)) := by
  pointwise [r0_3]
  exact congrArg (fun c => x3 (ix2 0 c)) (Fin.ext (by show _ = 128 * 0 + e.val; simp))

theorem matrix1 (x2 : Vec Ideal S4x128x128 .bf16) (d e : Fin 128) : View.ld x2 r0_4 (ix3 0 d e) = x2 (ix3 1 d e) := by
  pointwise [r0_4]

theorem scale1 (x3 : Vec Ideal S1x512 .f32) (e : Fin 128) : View.ld x3 r0_5 (ix2 0 e) = x3 (ix2 0 (col 1 e)) := by
  pointwise [r0_5]
  exact congrArg (fun c => x3 (ix2 0 c)) (Fin.ext (by show _ = 128 * 1 + e.val; simp))

theorem matrix2 (x2 : Vec Ideal S4x128x128 .bf16) (d e : Fin 128) : View.ld x2 r0_6 (ix3 0 d e) = x2 (ix3 2 d e) := by
  pointwise [r0_6]

theorem scale2 (x3 : Vec Ideal S1x512 .f32) (e : Fin 128) : View.ld x3 r0_7 (ix2 0 e) = x3 (ix2 0 (col 2 e)) := by
  pointwise [r0_7]
  exact congrArg (fun c => x3 (ix2 0 c)) (Fin.ext (by show _ = 128 * 2 + e.val; simp))

theorem matrix3 (x2 : Vec Ideal S4x128x128 .bf16) (d e : Fin 128) : View.ld x2 r0_8 (ix3 0 d e) = x2 (ix3 3 d e) := by
  pointwise [r0_8]

theorem scale3 (x3 : Vec Ideal S1x512 .f32) (e : Fin 128) : View.ld x3 r0_9 (ix2 0 e) = x3 (ix2 0 (col 3 e)) := by
  pointwise [r0_9]
  exact congrArg (fun c => x3 (ix2 0 c)) (Fin.ext (by show _ = 128 * 3 + e.val; simp))

/-- What the point leaves at a row and a column of its output block. -/
theorem Holds.out (h : Holds i x0 x1 u b) (x2 : Vec Ideal S4x128x128 .bf16) (x3 : Vec Ideal S1x512 .f32)
    (m : (⟨3, ![4, 128, 128]⟩ : Shape).Idx → EReal) (t : (⟨1, ![512]⟩ : Shape).Idx → EReal)
    (hm : ∀ g d e, x2 (ix3 g d e) = m (ix3 g d e)) (ht : ∀ e, x3 (ix2 0 e) = t (ix1 e))
    (r : Fin 512) (e : Fin 512) (a : Fin 16384) (ha : a.val = 4096 * b.val + (i 1).val * 512 + r.val) :
    out0_4 (F := Ideal) i x0 x1 x2 x3 (ix2 r e) = pooled u m t (ix2 a e) := by
  have hl : (i 1).val < 8 := (i 1).isLt
  obtain ⟨p, hp⟩ : ∃ p : Fin 4096, p.val = (i 1).val * 512 + r.val := ⟨⟨(i 1).val * 512 + r.val, by omega⟩, rfl⟩
  have hap : a.val = 4096 * b.val + p.val := by omega
  have g0 := h.cell r p hp 0 _ _ (cols0_apply _) 2 (sums2 _) (by norm_num) _ _ m t
    (fun d e => (matrix0 x2 d e).trans (hm _ d e)) (fun e => (scale0 x3 e).trans (ht _))
  have g1 := h.cell r p hp 1 _ _ (cols1_apply _) 4 (sums4 _) (by norm_num) _ _ m t
    (fun d e => (matrix1 x2 d e).trans (hm _ d e)) (fun e => (scale1 x3 e).trans (ht _))
  have g2 := h.cell r p hp 2 _ _ (cols2_apply _) 8 (sums8 _) (by norm_num) _ _ m t
    (fun d e => (matrix2 x2 d e).trans (hm _ d e)) (fun e => (scale2 x3 e).trans (ht _))
  have g3 := h.cell r p hp 3 _ _ (cols3_apply _) 16 (sums16 _) (by norm_num) _ _ m t
    (fun d e => (matrix3 x2 d e).trans (hm _ d e)) (fun e => (scale3 x3 e).trans (ht _))
  rw [out_groups]
  pointwise
  by_cases h0 : e.val < 128
  · rw [dif_pos h0]
    exact (g0 _).trans (pooled_at u m t 2 0 (by decide) b p ⟨e.val, h0⟩ a e hap (by simp)).symm
  rw [dif_neg h0]
  by_cases h1 : e.val - 128 < 128
  · rw [dif_pos h1]
    exact (g1 _).trans (pooled_at u m t 4 1 (by decide) b p ⟨e.val - 128, h1⟩ a e hap
      (by show e.val = 128 * 1 + (e.val - 128); omega)).symm
  rw [dif_neg h1]
  by_cases h2 : e.val - 128 - 128 < 128
  · rw [dif_pos h2]
    exact (g2 _).trans (pooled_at u m t 8 2 (by decide) b p ⟨e.val - 128 - 128, h2⟩ a e hap
      (by show e.val = 128 * 2 + (e.val - 128 - 128); omega)).symm
  rw [dif_neg h2]
  exact (g3 _).trans (pooled_at u m t 16 3 (by decide) b p ⟨e.val - 128 - 128 - 128, by omega⟩ a e hap
    (by show e.val = 128 * 3 + (e.val - 128 - 128 - 128); omega)).symm

end Cert.Proof.Pool

end
-- ==== Proof.Pool.Kernel.lean ====
/- The array the prompt's pooling leaves, as a function of the launch's arguments. -/
module

public import proofs.«01_k».proof.Proof.Pool.Block

@[expose] public section

set_option maxRecDepth 16384

noncomputable section

namespace Cert.Proof.Pool

open Idealize.ShloMosaic Idealize.ShloMosaic.TcCoe Idealize.SL.Sem Cert.Kernel10Ideal Cert.Kernel10Ideal.Gen

variable (m : (ℓ : Loc nD τ sig) → Buf (Elt Ideal) ℓ)

/-- The pooled rows, from the launch's arguments. -/
def result (c : Dev nD) (i : (⟨2, ![16384, 512]⟩ : Shape).Idx) : EReal :=
  pooled (m ((c : Thread nD τ).loc main_arg0)) (m ((c : Thread nD τ).loc main_arg1)) (m ((c : Thread nD τ).loc main_arg2)) i

/-- Each point's sequence and tile of places, and the blocks the windows hold there. -/
theorem idx : ∀ t : Fin grid0.N, ((grid0.coords t) 0).val < 4 ∧ ((grid0.coords t) 1).val < 8
    ∧ win0_0.index t = ![8 * ((grid0.coords t) 0).val + ((grid0.coords t) 1).val, 0]
    ∧ win0_1.index t = ![(8 * ((grid0.coords t) 0).val + ((grid0.coords t) 1).val) * 32 - 1, 0]
    ∧ win0_2.index t = ![0, 0, 0] ∧ win0_3.index t = ![0, 0]
    ∧ win0_4.index t = ![8 * ((grid0.coords t) 0).val + ((grid0.coords t) 1).val, 0] := by decide +kernel

theorem matrix_read (c : Dev nD) : V m c main_v0 = m ((c : Thread nD τ).loc main_arg1) := by
  entry_read
  rfl

theorem scale_read (c : Dev nD) (e : Fin 512) : V m c main_v1 (ix2 0 e) = m ((c : Thread nD τ).loc main_arg2) (ix1 e) := by
  entry_read
  pointwise

/-- What a point's input blocks hold. -/
theorem holds (c : Dev nD) (t : Fin cfg0.N) (hb : ((grid0.coords t) 0).val < 4) :
    Holds (grid0.coords t) (iblk m c 0 t) (iblk m c 1 t) (m ((c : Thread nD τ).loc main_arg0)) ⟨((grid0.coords t) 0).val, hb⟩ := by
  obtain ⟨-, hp, i0, i1, -⟩ := idx t
  constructor
  · intro r e a ha
    replace ha : a.val = 4096 * ((grid0.coords t) 0).val + ((grid0.coords t) 1).val * 512 + r.val := ha
    rw [← V_main_arg0 m c, show a = ⟨(8 * ((grid0.coords t) 0).val + ((grid0.coords t) 1).val) * 512 + r.val, by omega⟩ from Fin.ext (by show a.val = (8 * ((grid0.coords t) 0).val + ((grid0.coords t) 1).val) * 512 + r.val; omega)]
    blk_ext [iblk, i0]
  · intro hi r e a ha
    replace ha : a.val + 16 = 4096 * ((grid0.coords t) 0).val + ((grid0.coords t) 1).val * 512 + r.val := ha
    replace hi : 0 < ((grid0.coords t) 1).val := hi
    rw [← V_main_arg0 m c, show a = ⟨((8 * ((grid0.coords t) 0).val + ((grid0.coords t) 1).val) * 32 - 1) * 16 + r.val, by omega⟩ from Fin.ext (by show a.val = ((8 * ((grid0.coords t) 0).val + ((grid0.coords t) 1).val) * 32 - 1) * 16 + r.val; omega)]
    blk_ext [iblk, i1]

theorem final (c : Dev nD) : (dats m 0 c).arrAt 4 cfg0.N = result m c := by
  refine (dats m 0 c).arrAt_eq_of_covers 4 _ (by decide +kernel) fun t hf y => ?_
  blk_simp
  rw [after0_4]
  obtain ⟨r, e, rfl⟩ : ∃ r e : Fin 512, y = ix2 r e := ⟨y 0, y 1, eq_ix2 y⟩
  obtain ⟨hb, hp, -, -, i2, i3, i4⟩ := idx t
  have he : (win0_4.blk t).view.emb (ix2 r e)
      = ix2 ⟨(8 * ((grid0.coords t) 0).val + ((grid0.coords t) 1).val) * 512 + r.val, by omega⟩ e := by
    blk_ext [iblk, i4]
  rw [he]
  refine (holds m c t hb).out _ _ _ _ (fun g d k => ?_) (fun k => ?_) r e _ ?_
  · rw [← matrix_read m c]
    blk_ext [iblk, i2]
  · rw [← scale_read m c]
    blk_ext [iblk, i3]
  · show (8 * ((grid0.coords t) 0).val + ((grid0.coords t) 1).val) * 512 + r.val = 4096 * ((grid0.coords t) 0).val + ((grid0.coords t) 1).val * 512 + r.val
    omega

end Cert.Proof.Pool

end
-- ==== Proof.Pool.Reference.lean ====
/- The reference's pooling, step by step: the rows by sequence and place, a window's sum added up place by place over the rows
   led by fifteen rows of nothing, the mean less the place itself, the groups' matrices and the scale. -/
module

public import proofs.«01_k».proof.Proof.Gen.Reference10Ideal.Run
public import proofs.«01_k».proof.Proof.Pool.Math

@[expose] public section

set_option maxRecDepth 16384

noncomputable section

namespace Cert.Proof.Pool

open Idealize.ShloMosaic Idealize.ShloMosaic.TcCoe Idealize.SL.Sem Cert.Reference10Ideal Cert.Reference10Ideal.Gen

variable (u : FVec Ideal S16384x512 .f32) (w : FVec Ideal S4x128x128 .f32) (s : FVec Ideal S512 .f32)

/-- The rows, by sequence and place. -/
def refRows : FVec Ideal S4x4096x512 .f32 := shapeCast _ u shapeCasts_S16384x512_S4x4096x512

/-- Each sequence's rows after fifteen rows of nothing. -/
def refExt : FVec Ideal S4x4111x512 .f32 :=
  concatenate S4x4111x512 1 [⟨S4x15x512, broadcastInDim S4x15x512 ![] bcast_S_S4x15x512 (constant S_ .f32 0x00000000#32)⟩,
    ⟨S4x4096x512, refRows u⟩] concatenates_S4x15x512_S4x4096x512_S4x4111x512_d1

theorem refRows_apply (b : Fin 4) (p : Fin 4096) (e : Fin 512) : refRows u (ix3 b p e) = back u b p 0 e := by
  pointwise [refRows]
  unfold back
  rw [if_pos (by omega)]
  exact congrArg (fun r => u (ix2 r e)) (Fin.ext (by show b.val * 4096 + p.val = 4096 * b.val + (p.val - 0); omega))

theorem refExt_apply (b : Fin 4) (p : Fin 4096) (k : ℕ) (a : Fin 4111) (e : Fin 512) (ha : a.val + k = 15 + p.val) :
    refExt u (ix3 b a e) = back u b p k e := by
  pointwise [refExt]
  unfold back
  by_cases h : a.val < 15
  · rw [dif_pos h, if_neg (by omega)]
  · rw [dif_neg h]
    refine ((refRows_apply u b ⟨a.val - 15, by omega⟩ e).trans (if_pos (Nat.zero_le _))).trans
      (Eq.trans ?_ (if_pos (show k ≤ p.val by omega)).symm)
    exact congrArg (fun r => u (ix2 r e)) (Fin.ext (by show 4096 * b.val + (a.val - 15 - 0) = 4096 * b.val + (p.val - k); omega))

theorem slices_old (c k : ℕ) (hc : c ≤ 384) : S4x4111x512.Slices ![0, 14 - k, c] S4x4096x128 := by
  refine ⟨rfl, fun a => ?_⟩
  fin_cases a
  · exact le_rfl
  · show 14 - k + 4096 ≤ 4111
    omega
  · show c + 128 ≤ 512
    omega

/-- The sum over a place and the `n` before it, in the 128 columns from `c` on. -/
def refSum (c : ℕ) (hc : c ≤ 384) (h : S4x4096x512.Slices ![0, 0, c] S4x4096x128) : ℕ → FVec Ideal S4x4096x128 .f32
  | 0 => extractStridedSlice S4x4096x128 ![0, 0, c] (refRows u) h
  | n + 1 => addf (refSum c hc h n) (extractStridedSlice S4x4096x128 ![0, 14 - n, c] (refExt u) (slices_old c n hc))

theorem refSum_apply (c : ℕ) (hc : c ≤ 384) (h : S4x4096x512.Slices ![0, 0, c] S4x4096x128) (n : ℕ) (hn : n ≤ 15) (b : Fin 4)
    (p : Fin 4096) (d : Fin 128) :
    refSum u c hc h n (ix3 b p d) = ∑ k ∈ Finset.range (n + 1), back u b p k ⟨c + d.val, by omega⟩ := by
  induction n with
  | zero =>
    rw [Finset.sum_range_one]
    unfold refSum
    pointwise
    exact refRows_apply u b p _
  | succ n ih =>
    rw [Finset.sum_range_succ, ← ih (by omega)]
    show _ + _ = _
    congr 1
    pointwise
    exact refExt_apply u b p _ _ _ (by show 14 - n + p.val + (n + 1) = 15 + p.val; omega)

/-- How many places the window holds. -/
def refCount (q : BitVec 32) : FVec Ideal S4x4096x128 .f32 :=
  broadcastInDim S4x4096x128 ![0, 1, 2] bcast_S1x4096x1_S4x4096x128_0_1_2 (broadcastInDim S1x4096x1 ![1] bcast_S4096_S1x4096x1_1
    (sitofp .f32 (minsi (addi (iotaInDim S4096 32 0) (broadcastInDim S4096 ![] bcast_S_S4096 (constantI S_ 32 1#32)))
      (broadcastInDim S4096 ![] bcast_S_S4096 (constantI S_ 32 q)))))

theorem refCount_apply (q : BitVec 32) (b : Fin 4) (p : Fin 4096) (d : Fin 128) : refCount q (ix3 b p d) = count q p.val := by
  pointwise [refCount]
  rfl

/-- A group's mean over the window less the place itself. -/
def refSpread (c : ℕ) (hc : c ≤ 384) (h : S4x4096x512.Slices ![0, 0, c] S4x4096x128) (n : ℕ) (q : BitVec 32) :
    FVec Ideal S4x4096x1x128 .f32 :=
  broadcastInDim S4x4096x1x128 ![0, 1, 3] bcast_S4x4096x128_S4x4096x1x128_0_1_3
    (subf (Host.divf (refSum u c hc h n) (refCount q)) (extractStridedSlice S4x4096x128 ![0, 0, c] (refRows u) h))

theorem refSpread_apply (c : ℕ) (hc : c ≤ 384) (h : S4x4096x512.Slices ![0, 0, c] S4x4096x128) (n : ℕ) (hn : n ≤ 15)
    (b : Fin 4) (p : Fin 4096) (d : Fin 128) :
    refSpread u c hc h n (BitVec.ofNat 32 (n + 1)) (ix4 b p 0 d) = spread u (n + 1) b p ⟨c + d.val, by omega⟩ := by
  pointwise [refSpread]
  rw [refSum_apply u c hc h n hn, refCount_apply, refRows_apply]
  rfl

/-- The four groups. -/
def refGroups : FVec Ideal S4x4096x4x128 .f32 :=
  concatenate S4x4096x4x128 2
    [⟨S4x4096x1x128, refSpread u 0 (by omega) slices_S4x4096x512_S4x4096x128_0_0_0 1 2#32⟩,
     ⟨S4x4096x1x128, refSpread u 128 (by omega) slices_S4x4096x512_S4x4096x128_0_0_128 3 4#32⟩,
     ⟨S4x4096x1x128, refSpread u 256 (by omega) slices_S4x4096x512_S4x4096x128_0_0_256 7 8#32⟩,
     ⟨S4x4096x1x128, refSpread u 384 (by omega) slices_S4x4096x512_S4x4096x128_0_0_384 15 16#32⟩]
    concatenates_S4x4096x1x128_S4x4096x1x128_S4x4096x1x128_S4x4096x1x128_S4x4096x4x128_d2

theorem refGroups_apply (b : Fin 4) (p : Fin 4096) (g : Fin 4) (d : Fin 128) :
    refGroups u (ix4 b p g d) = spread u (2 ^ (g.val + 1)) b p (col g d) := by
  have hg : g = 0 ∨ g = 1 ∨ g = 2 ∨ g = 3 := by omega
  pointwise [refGroups]
  rcases hg with rfl | rfl | rfl | rfl
  · rw [dif_pos (by decide)]
    refine (refSpread_apply u 0 (by omega) _ 1 (by omega) b p d).trans ?_
    rfl
  · rw [dif_neg (by decide), dif_pos (by decide)]
    exact refSpread_apply u 128 (by omega) _ 3 (by omega) b p d
  · rw [dif_neg (by decide), dif_neg (by decide), dif_pos (by decide)]
    exact refSpread_apply u 256 (by omega) _ 7 (by omega) b p d
  · rw [dif_neg (by decide), dif_neg (by decide), dif_neg (by decide)]
    exact refSpread_apply u 384 (by omega) _ 15 (by omega) b p d

/-- The reference's result. -/
def refResult : FVec Ideal S16384x512 .f32 :=
  mulf (shapeCast _ (transpose S4x4096x4x128 [2, 3, 0, 1] (Host.dotGeneral dot_S4x128x128_S4x4096x4x128_S4x128x4x4096_1_3_2_01_0_2 none w (refGroups u)) transposes_S4x128x4x4096_S4x4096x4x128_2_3_0_1) shapeCasts_S4x4096x4x128_S16384x512)
    (broadcastInDim S16384x512 ![0, 1] bcast_S1x512_S16384x512_0_1 (broadcastInDim S1x512 ![1] bcast_S512_S1x512_1 s))

theorem refResult_apply (a : Fin 16384) (e : Fin 512) : refResult u w s (ix2 a e) = pooled u w s (ix2 a e) := by
  pointwise [refResult]
  rw [pooled_at u w s (2 ^ (e.val / 128 + 1)) ⟨e.val / 128, by omega⟩ rfl ⟨a.val / 4096, by omega⟩ ⟨a.val % 4096, by omega⟩
    ⟨e.val % 128, by omega⟩ a e (by show a.val = 4096 * (a.val / 4096) + a.val % 4096; omega)
    (by show e.val = 128 * (e.val / 128) + e.val % 128; omega)]
  unfold cell
  refine congrArg₂ (· * ·) (Finset.sum_congr rfl fun d _ => ?_)
    (congrArg (fun c => s (ix1 c)) (Fin.ext (by show e.val = 128 * (e.val / 128) + e.val % 128; omega)))
  rw [mul_comm]
  exact congrArg (· * _) (refGroups_apply u _ _ _ d)

end Cert.Proof.Pool

end
-- ==== Proof.Pool.Claim.lean ====
/- The prompt's pooling: on arguments that agree, the kernel's array and the reference's are equal. -/
module

public import proofs.«01_k».proof.Defs
public import proofs.«01_k».proof.Proof.Gen.Kernel10.Frame
public import proofs.«01_k».proof.Proof.Gen.Kernel10Ideal.Value
public import proofs.«01_k».proof.Proof.Pool.Kernel
public import proofs.«01_k».proof.Proof.Pool.Reference

@[expose] public section

set_option maxRecDepth 16384

noncomputable section

namespace Cert.Proof.Pool

open Idealize.ShloMosaic Idealize.ShloMosaic.TcCoe Idealize.SL.Sem

theorem algebraic : Cert.algebraic_Kernel10Ideal_Reference10Ideal := by
  intro m ρ m' ρ' _ hagree
  refine ⟨result m,
    (θ_run Cert.Kernel10Ideal.defs _ _).mono (fun r h c => ?_) (Cert.Kernel10Ideal.Value.run_blocks (F := Ideal) m ρ),
    (θ_run Cert.Reference10Ideal.defs _ _).mono (fun r h c => ?_) (Cert.Reference10Ideal.Value.run (F := Ideal) m' ρ')⟩
  · obtain ⟨h4, ha⟩ := h c
    exact ⟨h4.trans (final m c), ha⟩
  · obtain ⟨h4, ha⟩ := h c
    obtain ⟨e0, e1, e2⟩ := hagree c
    refine ⟨h4.trans ?_, ha⟩
    clear h h4 ha
    funext j
    obtain ⟨a, e, rfl⟩ : ∃ (a : Fin 16384) (e : Fin 512), j = ix2 a e := ⟨j 0, j 1, eq_ix2 j⟩
    refine (refResult_apply _ _ _ a e).trans ?_
    rw [e0, e1, e2]
    rfl

end Cert.Proof.Pool

end
-- ==== Proof.lean ====
/- The claims, gathered: every program's run (Proof/Frames.lean), the feed-forward half layer's value for the prompt's and
   the sampled rows (Proof/Ffn/), the attention's value (Proof/SbValue/), the values of the projections before it
   (Proof/ProjAb/) and after it (Proof/OutProj/), those of the sparse attention's layers (Proof/ProjC/, Proof/OutOdd/), and
   the pooling's value for the prompt's rows (Proof/Pool/). -/
module

public import proofs.«01_k».proof.Defs
public import proofs.«01_k».proof.Proof.Frames
public import proofs.«01_k».proof.Proof.Ffn.Prompt
public import proofs.«01_k».proof.Proof.Ffn.Sample
public import proofs.«01_k».proof.Proof.SbValue.Claim
public import proofs.«01_k».proof.Proof.ProjAb.Claim
public import proofs.«01_k».proof.Proof.OutProj.Claim
public import proofs.«01_k».proof.Proof.ProjAb.SampleClaim
public import proofs.«01_k».proof.Proof.ProjC.PromptClaim
public import proofs.«01_k».proof.Proof.ProjC.SampleClaim
public import proofs.«01_k».proof.Proof.OutOdd.Claim
public import proofs.«01_k».proof.Proof.Pool.Claim
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run

@[expose] public section

noncomputable section

namespace Cert.Proof

open Idealize.ShloMosaic

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    ProjC.Pre.facts6, ProjC.Pre.facts9,
    Frames.attention, Frames.attentionIdeal, Frames.attentionReference,
    Frames.prompt, Frames.promptIdeal, Frames.promptReference, Frames.sample, Frames.sampleIdeal, Frames.sampleReference,
    Frames.projection, Frames.projectionIdeal, Frames.projectionReference,
    Frames.output, Frames.outputIdeal, Frames.outputReference,
    Frames.sparsePrompt, Frames.sparsePromptIdeal, Frames.sparsePromptIdealReal, Frames.sparsePromptReference,
    Frames.sparsePromptReferenceReal, Frames.outputOdd, Frames.outputOddIdeal, Frames.outputOddReference,
    Frames.projectionSample, Frames.projectionSampleIdeal, Frames.projectionSampleReference,
    Frames.sparseSample, Frames.sparseSampleIdeal, Frames.sparseSampleIdealReal, Frames.sparseSampleReference,
    Frames.sparseSampleReferenceReal, Frames.pooling, Frames.poolingIdeal, Frames.poolingReference,
    Frames.preserves, SbValue.algebraic, trivial, Ffn.Prompt.algebraic, trivial, Ffn.Sample.algebraic,
    trivial, ProjAb.algebraic, trivial, OutProj.algebraic,
    trivial, ProjC.Prompt.algebraic, trivial, OutOdd.algebraic, trivial, ProjAb.Sample.algebraic, trivial, ProjC.Sample.algebraic,
    trivial, Pool.algebraic⟩

end Cert.Proof

end
